-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "zero_cost" .f32 0x43200000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v182) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "scale_log2e" .f32 0x3E38AA3B#32 (((1 / 8) * (Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S2x8192x3072 : Shape := ⟨3, ![2, 8192, 3072]⟩
abbrev S_ : Shape := ⟨0, ![]⟩

class Facts : Prop where
  bcast_S_S2x8192x3072 : S_.BroadcastsInDim S2x8192x3072 (![] : Fin 0 → Fin S2x8192x3072.rank)
  reducesTo_S2x8192x3072_S_d0_1_2 : S2x8192x3072.ReducesTo [0, 1, 2] S_
  h_S_ : 0 < S_.numel

variable [Facts]

def fn {F : FTy → Type} [FloatOps F] (main_arg0 : FVec F S2x8192x3072 .f32) : IVec S_ 1 :=
  let main_v0 : FVec F S2x8192x3072 .f32 := Host.absf main_arg0
  let main_cst : FVec F S_ .f32 := constant S_ .f32 0x7F800000#32
  let main_v1 : FVec F S2x8192x3072 .f32 := broadcastInDim S2x8192x3072 ![] bcast_S_S2x8192x3072 main_cst
  let main_v2 : IVec S2x8192x3072 1 := cmpf .olt main_v0 main_v1
  let main_c : IVec S_ 1 := constantI S_ 1 1#1
  let main_v3 : IVec S_ 1 := (fun x v => Host.reduce IntOp.andi x v reducesTo_S2x8192x3072_S_d0_1_2 h_S_) main_v2 main_c
  main_v3
-- ==== Pre_finite7.lean ====
abbrev S2x8192x512 : Shape := ⟨3, ![2, 8192, 512]⟩
abbrev S2x8192x3072 : Shape := ⟨3, ![2, 8192, 3072]⟩
abbrev S_ : Shape := ⟨0, ![]⟩
abbrev S64 : Shape := ⟨1, ![64]⟩
abbrev S128 : Shape := ⟨1, ![128]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x3072 : S_.BroadcastsInDim S2x8192x3072 (![] : Fin 0 → Fin S2x8192x3072.rank)
  reducesTo_S2x8192x3072_S_d0_1_2 : S2x8192x3072.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_v31 : IVec S_ 1) (main_v32 : FVec F S64 .f32) (main_v33 : FVec F S64 .f32) : IVec S_ 1 :=
  let main_v34 : IVec S64 1 := cmpf .olt main_v32 main_v33
  let main_c_12 : IVec S_ 1 := constantI S_ 1 1#1
  let main_v35 : IVec S_ 1 := (fun x v => Host.reduce IntOp.andi x v reducesTo_S64_S_d0 h_S_) main_v34 main_c_12
  let main_v36 : IVec S_ 1 := andi main_v31 main_v35
  main_v36

def fn_part1 {F : FTy → Type} [FloatOps F] (main_arg4 : FVec F S64 .f32) (main_arg5 : FVec F S64 .f32) (main_arg6 : FVec F S64 .f32) (main_arg7 : FVec F S64 .f32) (main_v16 : IVec S_ 1) : IVec S_ 1 :=
  let main_v17 : FVec F S64 .f32 := Host.absf main_arg4
  let main_cst_5 : FVec F S_ .f32 := constant S_ .f32 0x7F800000#32
  let main_v18 : FVec F S64 .f32 := broadcastInDim S64 ![] bcast_S_S64 main_cst_5
  let main_v19 : IVec S64 1 := cmpf .olt main_v17 main_v18
  let main_c_6 : IVec S_ 1 := constantI S_ 1 1#1
  let main_v20 : IVec S_ 1 := (fun x v => Host.reduce IntOp.andi x v reducesTo_S64_S_d0 h_S_) main_v19 main_c_6
  let main_v21 : IVec S_ 1 := andi main_v16 main_v20
  let main_v22 : FVec F S64 .f32 := Host.absf main_arg5
  let main_cst_7 : FVec F S_ .f32 := constant S_ .f32 0x7F800000#32
  let main_v23 : FVec F S64 .f32 := broadcastInDim S64 ![] bcast_S_S64 main_cst_7
  let main_v24 : IVec S64 1 := cmpf .olt main_v22 main_v23
  let main_c_8 : IVec S_ 1 := constantI S_ 1 1#1
  let main_v25 : IVec S_ 1 := (fun x v => Host.reduce IntOp.andi x v reducesTo_S64_S_d0 h_S_) main_v24 main_c_8
  let main_v26 : IVec S_ 1 := andi main_v21 main_v25
  let main_v27 : FVec F S64 .f32 := Host.absf main_arg6
  let main_cst_9 : FVec F S_ .f32 := constant S_ .f32 0x7F800000#32
  let main_v28 : FVec F S64 .f32 := broadcastInDim S64 ![] bcast_S_S64 main_cst_9
  let main_v29 : IVec S64 1 := cmpf .olt main_v27 main_v28
  let main_c_10 : IVec S_ 1 := constantI S_ 1 1#1
  let main_v30 : IVec S_ 1 := (fun x v => Host.reduce IntOp.andi x v reducesTo_S64_S_d0 h_S_) main_v29 main_c_10
  let main_v31 : IVec S_ 1 := andi main_v26 main_v30
  let main_v32 : FVec F S64 .f32 := Host.absf main_arg7
  let main_cst_11 : FVec F S_ .f32 := constant S_ .f32 0x7F800000#32
  let main_v33 : FVec F S64 .f32 := broadcastInDim S64 ![] bcast_S_S64 main_cst_11
  fn_part2 (F := F) main_v31 main_v32 main_v33

def fn {F : FTy → Type} [FloatOps F] (main_arg0 : FVec F S2x8192x512 .f32) (main_arg1 : FVec F S2x8192x512 .f32) (main_arg2 : FVec F S2x8192x3072 .f32) (main_arg3 : FVec F S_ .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S_ .f32 := Host.absf main_arg3
  let main_cst : FVec F S_ .f32 := constant S_ .f32 0x7F800000#32
  let main_v1 : IVec S_ 1 := cmpf .olt main_v0 main_cst
  let main_v2 : FVec F S2x8192x512 .f32 := Host.absf main_arg0
  let main_cst_0 : FVec F S_ .f32 := constant S_ .f32 0x7F800000#32
  let main_v3 : FVec F S2x8192x512 .f32 := broadcastInDim S2x8192x512 ![] bcast_S_S2x8192x512 main_cst_0
  let main_v4 : IVec S2x8192x512 1 := cmpf .olt main_v2 main_v3
  let main_c : IVec S_ 1 := constantI S_ 1 1#1
  let main_v5 : IVec S_ 1 := (fun x v => Host.reduce IntOp.andi x v reducesTo_S2x8192x512_S_d0_1_2 h_S_) main_v4 main_c
  let main_v6 : IVec S_ 1 := andi main_v1 main_v5
  let main_v7 : FVec F S2x8192x512 .f32 := Host.absf main_arg1
  let main_cst_1 : FVec F S_ .f32 := constant S_ .f32 0x7F800000#32
  let main_v8 : FVec F S2x8192x512 .f32 := broadcastInDim S2x8192x512 ![] bcast_S_S2x8192x512 main_cst_1
  let main_v9 : IVec S2x8192x512 1 := cmpf .olt main_v7 main_v8
  let main_c_2 : IVec S_ 1 := constantI S_ 1 1#1
  let main_v10 : IVec S_ 1 := (fun x v => Host.reduce IntOp.andi x v reducesTo_S2x8192x512_S_d0_1_2 h_S_) main_v9 main_c_2
  let main_v11 : IVec S_ 1 := andi main_v6 main_v10
  let main_v12 : FVec F S2x8192x3072 .f32 := Host.absf main_arg2
  let main_cst_3 : FVec F S_ .f32 := constant S_ .f32 0x7F800000#32
  let main_v13 : FVec F S2x8192x3072 .f32 := broadcastInDim S2x8192x3072 ![] bcast_S_S2x8192x3072 main_cst_3
  let main_v14 : IVec S2x8192x3072 1 := cmpf .olt main_v12 main_v13
  let main_c_4 : IVec S_ 1 := constantI S_ 1 1#1
  let main_v15 : IVec S_ 1 := (fun x v => Host.reduce IntOp.andi x v reducesTo_S2x8192x3072_S_d0_1_2 h_S_) main_v14 main_c_4
  let main_v16 : IVec S_ 1 := andi main_v11 main_v15
  fn_part1 (F := F) main_arg4 main_arg5 main_arg6 main_arg7 main_v16
-- ==== Kernel.lean ====
abbrev S2x8192x3072 : Shape := ⟨3, ![2, 8192, 3072]⟩
abbrev S16384x3072 : Shape := ⟨2, ![16384, 3072]⟩
abbrev S16384x512 : Shape := ⟨2, ![16384, 512]⟩
abbrev S256x128 : Shape := ⟨2, ![256, 128]⟩
abbrev S8192x128 : Shape := ⟨2, ![8192, 128]⟩
abbrev S256x256 : Shape := ⟨2, ![256, 256]⟩
abbrev S512x1 : Shape := ⟨2, ![512, 1]⟩
abbrev S512x128 : Shape := ⟨2, ![512, 128]⟩
abbrev S1x128 : Shape := ⟨2, ![1, 128]⟩
abbrev S512x256 : Shape := ⟨2, ![512, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S2x8192x3072, .f32⟩
  | .hbm, ⟨1, _⟩ => ⟨S2x8192x3072, .bf16⟩
  | .hbm, ⟨2, _⟩ => ⟨S16384x3072, .bf16⟩
  | .hbm, ⟨3, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S512x1, .f32⟩
  | .local _ .vmem, ⟨10, _⟩ => ⟨S512x128, .f32⟩
  | _, _ => ⟨S2x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v86 : BitVec 32 := Scalar.muli arg2 c256_i32
  v86
def k0_off1 (i : grid0.Coords) : Fin 2 → Nat :=
  let arg2 : BitVec 32 := BitVec.ofNat 32 (i 2).val
  let c256_i32 : BitVec 32 := 256#32
  let v86 : BitVec 32 := Scalar.muli arg2 c256_i32
  let v87 : BitVec 32 := v86
  let v88 : Index := Scalar.indexCast v87
  let c0_26 : Index := 0#32
  ![v88.toNat, 0]
def k0_mult2 (arg10 : BitVec 32) : BitVec 32 :=
  let c256_i32_77 : BitVec 32 := 256#32
  let v210 : BitVec 32 := Scalar.muli arg10 c256_i32_77
  v210

def k0_off2 (arg10 : BitVec 32) : Fin 2 → Nat :=
  let c256_i32_77 : BitVec 32 := 256#32
  let v210 : BitVec 32 := Scalar.muli arg10 c256_i32_77
  let v211 : BitVec 32 := v210
  let v212 : Index := Scalar.indexCast v211
  let c0_78 : Index := 0#32
  ![v212.toNat, 0]

def k0_chk1 (arg10 : BitVec 32) : Prop :=
  (256 ∣ (k0_mult2 arg10).toNat) ∧
  (∀ a, (k0_off2 arg10) a + S256x128.size a ≤ S8192x128.size a)
theorem k0_mult2_dvd : ∀ (arg10 : BitVec 32) (k0_hw1 : k0_chk1 arg10), 256 ∣ (k0_mult2 arg10).toNat := fun arg10 k0_hw1 => k0_hw1.1
theorem k0_off2_inb : ∀ (arg10 : BitVec 32) (k0_hw1 : k0_chk1 arg10), ∀ a, (k0_off2 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | "zero_cost" => some ⊤
  | _ => none
-- ==== ReferenceIdeal.lean ====
abbrev S2x8192x3072 : Shape := ⟨3, ![2, 8192, 3072]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16384x512 : Shape := ⟨2, ![16384, 512]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x3072, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x8x64, .f32⟩
  | .hbm, ⟨5, _⟩ => ⟨S2x8x8192x64, .f32⟩
  | .hbm, ⟨6, _⟩ => ⟨S2x8192x8x64, .f32⟩
  | .hbm, ⟨7, _⟩ => ⟨S2x8x8192x64, .f32⟩
  | .hbm, ⟨8, _⟩ => ⟨S2x8192x8x64, .f32⟩
  | .hbm, ⟨9, _⟩ => ⟨S2x8x8192x64, .f32⟩
  | .hbm, ⟨10, _⟩ => ⟨S8192, .i32⟩
  | .hbm, ⟨11, _⟩ => ⟨S2x8x8192x8192, .f32⟩
  | .hbm, ⟨12, _⟩ => ⟨S_, .f32⟩
  | .hbm, ⟨13, _⟩ => ⟨S2x8x8192x8192, .f32⟩
  | .hbm, ⟨14, _⟩ => ⟨S2x8x8192x8192, .f32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S2x8x8192x8192, .f32⟩
  | .hbm, ⟨21, _⟩ => ⟨S2x8x8192x8192, .f32⟩
  | .hbm, ⟨22, _⟩ => ⟨S_, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S_, .f32⟩
  | .hbm, ⟨39, _⟩ => ⟨S2x8x8192x8192, .i1⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S_, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .i1⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S_, .f32⟩
  | .hbm, ⟨65, _⟩ => ⟨S_, .f32⟩
  | .hbm, ⟨66, _⟩ => ⟨S2x8x8192x8192, .i1⟩
  | .hbm, ⟨67, _⟩ => ⟨S2x8x8192x8192, .f32⟩
  | .hbm, ⟨68, _⟩ => ⟨S2x8x8192x8192, .f32⟩
  | .hbm, ⟨69, _⟩ => ⟨S2x8x8192x64, .f32⟩
  | .hbm, ⟨70, _⟩ => ⟨S2x8192x8x64, .f32⟩
  | .hbm, ⟨71, _⟩ => ⟨S2x8192x512, .f32⟩
  | .hbm, ⟨72, _⟩ => ⟨S16384x512, .f32⟩
  | .hbm, ⟨73, _⟩ => ⟨S16384x512, .bf16⟩
  | _, _ => ⟨S2x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel2.lean ====
abbrev S36864x1024 : Shape := ⟨2, ![36864, 1024]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S1 : Shape := ⟨1, ![1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 57
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S8, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S72, .i32⟩
  | .hbm, ⟨36, _⟩ => ⟨S_, .i32⟩
  | .hbm, ⟨37, _⟩ => ⟨S72, .i32⟩
  | .hbm, ⟨38, _⟩ => ⟨S72, .i32⟩
  | .hbm, ⟨39, _⟩ => ⟨S72x1, .i32⟩
  | .hbm, ⟨40, _⟩ => ⟨S1x8, .i32⟩
  | .hbm, ⟨41, _⟩ => ⟨S72x8, .i32⟩
  | .hbm, ⟨42, _⟩ => ⟨S72x8, .i32⟩
  | .hbm, ⟨43, _⟩ => ⟨S72x8, .i1⟩
  | .hbm, ⟨44, _⟩ => ⟨S72x8, .i32⟩
  | .hbm, ⟨45, _⟩ => ⟨S_, .i32⟩
  | .hbm, ⟨46, _⟩ => ⟨S72, .i32⟩
  | .hbm, ⟨47, _⟩ => ⟨S_, .i32⟩
  | .hbm, ⟨48, _⟩ => ⟨S72, .i32⟩
  | .hbm, ⟨49, _⟩ => ⟨S1, .i32⟩
  | .hbm, ⟨50, _⟩ => ⟨S_, .i32⟩
  | .hbm, ⟨51, _⟩ => ⟨S72, .i32⟩
  | .hbm, ⟨52, _⟩ => ⟨S72, .i1⟩
  | .hbm, ⟨53, _⟩ => ⟨S8x1024x3584, .bf16⟩
  | .hbm, ⟨54, _⟩ => ⟨S8x1024x3584, .bf16⟩
  | .hbm, ⟨55, _⟩ => ⟨S8x3584x1024, .bf16⟩
  | .hbm, ⟨56, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S72, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v19 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_v19.idx, main_v24.idx], fun | 0 => main_v19.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x1024 : Shape := ⟨2, ![36864, 1024]⟩
abbrev S8 : Shape := ⟨1, ![8]⟩
abbrev S8x1024x3584 : Shape := ⟨3, ![8, 1024, 3584]⟩
abbrev S8x3584x1024 : Shape := ⟨3, ![8, 3584, 1024]⟩
abbrev S_ : Shape := ⟨0, ![]⟩
abbrev S36864 : Shape := ⟨1, ![36864]⟩
abbrev S1x8 : Shape := ⟨2, ![1, 8]⟩
abbrev S36864x1 : Shape := ⟨2, ![36864, 1]⟩
abbrev S36864x8 : Shape := ⟨2, ![36864, 8]⟩
abbrev S1 : Shape := ⟨1, ![1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 315
  | .vmem => 0
  | .smem => 0
  | _ => 0

abbrev hbmTy0_0 (i : Nat) : BufTy := match i % 128 with
  | 0 => ⟨S36864x1024, .f32⟩
  | 1 => ⟨S8, .i32⟩
  | 2 => ⟨S8x1024x3584, .f32⟩
  | 3 => ⟨S8x1024x3584, .f32⟩
  | 4 => ⟨S8x3584x1024, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S_, .i32⟩
  | 31 => ⟨S8, .i32⟩
  | 32 => ⟨S36864, .i32⟩
  | 33 => ⟨S1x8, .i32⟩
  | 34 => ⟨S36864x1, .i32⟩
  | 35 => ⟨S36864x8, .i32⟩
  | 36 => ⟨S36864x8, .i32⟩
  | 37 => ⟨S36864x8, .i1⟩
  | 38 => ⟨S36864x8, .i32⟩
  | 39 => ⟨S_, .i32⟩
  | 40 => ⟨S36864, .i32⟩
  | 41 => ⟨S_, .f32⟩
  | 42 => ⟨S36864x1024, .f32⟩
  | 43 => ⟨S_, .i32⟩
  | 44 => ⟨S36864, .i32⟩
  | 45 => ⟨S36864, .i1⟩
  | 46 => ⟨S1, .i32⟩
  | 47 => ⟨S_, .i32⟩
  | 48 => ⟨S36864, .i32⟩
  | 49 => ⟨S36864, .i1⟩
  | 50 => ⟨S36864, .i1⟩
  | 51 => ⟨S36864x1, .i1⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S36864x3584, .f32⟩
  | 59 => ⟨S36864x3584, .f32⟩
  | 60 => ⟨S36864x3584, .f32⟩
  | 61 => ⟨S_, .f32⟩
  | 62 => ⟨S36864x3584, .f32⟩
  | 63 => ⟨S36864x3584, .f32⟩
  | 64 => ⟨S_, .f32⟩
  | 65 => ⟨S36864x3584, .f32⟩
  | 66 => ⟨S36864x3584, .f32⟩
  | 67 => ⟨S36864x3584, .f32⟩
  | 68 => ⟨S36864x3584, .f32⟩
  | 69 => ⟨S36864x3584, .f32⟩
  | 70 => ⟨S36864x1024, .f32⟩
  | 71 => ⟨S_, .f32⟩
  | 72 => ⟨S_, .f32⟩
  | 73 => ⟨S36864x1024, .i1⟩
  | 74 => ⟨S36864x1024, .f32⟩
  | 75 => ⟨S36864x1024, .f32⟩
  | 76 => ⟨S36864x1024, .f32⟩
  | 77 => ⟨S_, .i32⟩
  | 78 => ⟨S36864, .i32⟩
  | 79 => ⟨S36864, .i1⟩
  | 80 => ⟨S1, .i32⟩
  | 81 => ⟨S_, .i32⟩
  | 82 => ⟨S36864, .i32⟩
  | 83 => ⟨S36864, .i1⟩
  | 84 => ⟨S36864, .i1⟩
  | 85 => ⟨S36864x1, .i1⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S36864x3584, .f32⟩
  | 93 => ⟨S36864x3584, .f32⟩
  | 94 => ⟨S36864x3584, .f32⟩
  | 95 => ⟨S_, .f32⟩
  | 96 => ⟨S36864x3584, .f32⟩
  | 97 => ⟨S36864x3584, .f32⟩
  | 98 => ⟨S_, .f32⟩
  | 99 => ⟨S36864x3584, .f32⟩
  | 100 => ⟨S36864x3584, .f32⟩
  | 101 => ⟨S36864x3584, .f32⟩
  | 102 => ⟨S36864x3584, .f32⟩
  | 103 => ⟨S36864x3584, .f32⟩
  | 104 => ⟨S36864x1024, .f32⟩
  | 105 => ⟨S_, .f32⟩
  | 106 => ⟨S_, .f32⟩
  | 107 => ⟨S36864x1024, .i1⟩
  | 108 => ⟨S36864x1024, .f32⟩
  | 109 => ⟨S36864x1024, .f32⟩
  | 110 => ⟨S36864x1024, .f32⟩
  | 111 => ⟨S_, .i32⟩
  | 112 => ⟨S36864, .i32⟩
  | 113 => ⟨S36864, .i1⟩
  | 114 => ⟨S1, .i32⟩
  | 115 => ⟨S_, .i32⟩
  | 116 => ⟨S36864, .i32⟩
  | 117 => ⟨S36864, .i1⟩
  | 118 => ⟨S36864, .i1⟩
  | 119 => ⟨S36864x1, .i1⟩
  | 120 => ⟨S1x1024x3584, .f32⟩
  | 121 => ⟨S1024x3584, .f32⟩
  | 122 => ⟨S1x1024x3584, .f32⟩
  | 123 => ⟨S1024x3584, .f32⟩
  | 124 => ⟨S1x3584x1024, .f32⟩
  | 125 => ⟨S3584x1024, .f32⟩
  | 126 => ⟨S36864x3584, .f32⟩
  | 127 => ⟨S36864x3584, .f32⟩
  | _ => ⟨S36864x1024, .f32⟩

abbrev hbmTy0_1 (i : Nat) : BufTy := match i % 128 with
  | 0 => ⟨S36864x3584, .f32⟩
  | 1 => ⟨S_, .f32⟩
  | 2 => ⟨S36864x3584, .f32⟩
  | 3 => ⟨S36864x3584, .f32⟩
  | 4 => ⟨S_, .f32⟩
  | 5 => ⟨S36864x3584, .f32⟩
  | 6 => ⟨S36864x3584, .f32⟩
  | 7 => ⟨S36864x3584, .f32⟩
  | 8 => ⟨S36864x3584, .f32⟩
  | 9 => ⟨S36864x3584, .f32⟩
  | 10 => ⟨S36864x1024, .f32⟩
  | 11 => ⟨S_, .f32⟩
  | 12 => ⟨S_, .f32⟩
  | 13 => ⟨S36864x1024, .i1⟩
  | 14 => ⟨S36864x1024, .f32⟩
  | 15 => ⟨S36864x1024, .f32⟩
  | 16 => ⟨S36864x1024, .f32⟩
  | 17 => ⟨S_, .i32⟩
  | 18 => ⟨S36864, .i32⟩
  | 19 => ⟨S36864, .i1⟩
  | 20 => ⟨S1, .i32⟩
  | 21 => ⟨S_, .i32⟩
  | 22 => ⟨S36864, .i32⟩
  | 23 => ⟨S36864, .i1⟩
  | 24 => ⟨S36864, .i1⟩
  | 25 => ⟨S36864x1, .i1⟩
  | 26 => ⟨S1x1024x3584, .f32⟩
  | 27 => ⟨S1024x3584, .f32⟩
  | 28 => ⟨S1x1024x3584, .f32⟩
  | 29 => ⟨S1024x3584, .f32⟩
  | 30 => ⟨S1x3584x1024, .f32⟩
  | 31 => ⟨S3584x1024, .f32⟩
  | 32 => ⟨S36864x3584, .f32⟩
  | 33 => ⟨S36864x3584, .f32⟩
  | 34 => ⟨S36864x3584, .f32⟩
  | 35 => ⟨S_, .f32⟩
  | 36 => ⟨S36864x3584, .f32⟩
  | 37 => ⟨S36864x3584, .f32⟩
  | 38 => ⟨S_, .f32⟩
  | 39 => ⟨S36864x3584, .f32⟩
  | 40 => ⟨S36864x3584, .f32⟩
  | 41 => ⟨S36864x3584, .f32⟩
  | 42 => ⟨S36864x3584, .f32⟩
  | 43 => ⟨S36864x3584, .f32⟩
  | 44 => ⟨S36864x1024, .f32⟩
  | 45 => ⟨S_, .f32⟩
  | 46 => ⟨S_, .f32⟩
  | 47 => ⟨S36864x1024, .i1⟩
  | 48 => ⟨S36864x1024, .f32⟩
  | 49 => ⟨S36864x1024, .f32⟩
  | 50 => ⟨S36864x1024, .f32⟩
  | 51 => ⟨S_, .i32⟩
  | 52 => ⟨S36864, .i32⟩
  | 53 => ⟨S36864, .i1⟩
  | 54 => ⟨S1, .i32⟩
  | 55 => ⟨S_, .i32⟩
  | 56 => ⟨S36864, .i32⟩
  | 57 => ⟨S36864, .i1⟩
  | 58 => ⟨S36864, .i1⟩
  | 59 => ⟨S36864x1, .i1⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S36864x3584, .f32⟩
  | 67 => ⟨S36864x3584, .f32⟩
  | 68 => ⟨S36864x3584, .f32⟩
  | 69 => ⟨S_, .f32⟩
  | 70 => ⟨S36864x3584, .f32⟩
  | 71 => ⟨S36864x3584, .f32⟩
  | 72 => ⟨S_, .f32⟩
  | 73 => ⟨S36864x3584, .f32⟩
  | 74 => ⟨S36864x3584, .f32⟩
  | 75 => ⟨S36864x3584, .f32⟩
  | 76 => ⟨S36864x3584, .f32⟩
  | 77 => ⟨S36864x3584, .f32⟩
  | 78 => ⟨S36864x1024, .f32⟩
  | 79 => ⟨S_, .f32⟩
  | 80 => ⟨S_, .f32⟩
  | 81 => ⟨S36864x1024, .i1⟩
  | 82 => ⟨S36864x1024, .f32⟩
  | 83 => ⟨S36864x1024, .f32⟩
  | 84 => ⟨S36864x1024, .f32⟩
  | 85 => ⟨S_, .i32⟩
  | 86 => ⟨S36864, .i32⟩
  | 87 => ⟨S36864, .i1⟩
  | 88 => ⟨S1, .i32⟩
  | 89 => ⟨S_, .i32⟩
  | 90 => ⟨S36864, .i32⟩
  | 91 => ⟨S36864, .i1⟩
  | 92 => ⟨S36864, .i1⟩
  | 93 => ⟨S36864x1, .i1⟩
  | 94 => ⟨S1x1024x3584, .f32⟩
  | 95 => ⟨S1024x3584, .f32⟩
  | 96 => ⟨S1x1024x3584, .f32⟩
  | 97 => ⟨S1024x3584, .f32⟩
  | 98 => ⟨S1x3584x1024, .f32⟩
  | 99 => ⟨S3584x1024, .f32⟩
  | 100 => ⟨S36864x3584, .f32⟩
  | 101 => ⟨S36864x3584, .f32⟩
  | 102 => ⟨S36864x3584, .f32⟩
  | 103 => ⟨S_, .f32⟩
  | 104 => ⟨S36864x3584, .f32⟩
  | 105 => ⟨S36864x3584, .f32⟩
  | 106 => ⟨S_, .f32⟩
  | 107 => ⟨S36864x3584, .f32⟩
  | 108 => ⟨S36864x3584, .f32⟩
  | 109 => ⟨S36864x3584, .f32⟩
  | 110 => ⟨S36864x3584, .f32⟩
  | 111 => ⟨S36864x3584, .f32⟩
  | 112 => ⟨S36864x1024, .f32⟩
  | 113 => ⟨S_, .f32⟩
  | 114 => ⟨S_, .f32⟩
  | 115 => ⟨S36864x1024, .i1⟩
  | 116 => ⟨S36864x1024, .f32⟩
  | 117 => ⟨S36864x1024, .f32⟩
  | 118 => ⟨S36864x1024, .f32⟩
  | 119 => ⟨S_, .i32⟩
  | 120 => ⟨S36864, .i32⟩
  | 121 => ⟨S36864, .i1⟩
  | 122 => ⟨S1, .i32⟩
  | 123 => ⟨S_, .i32⟩
  | 124 => ⟨S36864, .i32⟩
  | 125 => ⟨S36864, .i1⟩
  | 126 => ⟨S36864, .i1⟩
  | 127 => ⟨S36864x1, .i1⟩
  | _ => ⟨S36864x1024, .f32⟩

abbrev hbmTy0_2 (i : Nat) : BufTy := match i % 128 with
  | 0 => ⟨S1x1024x3584, .f32⟩
  | 1 => ⟨S1024x3584, .f32⟩
  | 2 => ⟨S1x1024x3584, .f32⟩
  | 3 => ⟨S1024x3584, .f32⟩
  | 4 => ⟨S1x3584x1024, .f32⟩
  | 5 => ⟨S3584x1024, .f32⟩
  | 6 => ⟨S36864x3584, .f32⟩
  | 7 => ⟨S36864x3584, .f32⟩
  | 8 => ⟨S36864x3584, .f32⟩
  | 9 => ⟨S_, .f32⟩
  | 10 => ⟨S36864x3584, .f32⟩
  | 11 => ⟨S36864x3584, .f32⟩
  | 12 => ⟨S_, .f32⟩
  | 13 => ⟨S36864x3584, .f32⟩
  | 14 => ⟨S36864x3584, .f32⟩
  | 15 => ⟨S36864x3584, .f32⟩
  | 16 => ⟨S36864x3584, .f32⟩
  | 17 => ⟨S36864x3584, .f32⟩
  | 18 => ⟨S36864x1024, .f32⟩
  | 19 => ⟨S_, .f32⟩
  | 20 => ⟨S_, .f32⟩
  | 21 => ⟨S36864x1024, .i1⟩
  | 22 => ⟨S36864x1024, .f32⟩
  | 23 => ⟨S36864x1024, .f32⟩
  | 24 => ⟨S36864x1024, .f32⟩
  | 25 => ⟨S_, .i32⟩
  | 26 => ⟨S36864, .i32⟩
  | 27 => ⟨S36864, .i1⟩
  | 28 => ⟨S1, .i32⟩
  | 29 => ⟨S_, .i32⟩
  | 30 => ⟨S36864, .i32⟩
  | 31 => ⟨S36864, .i1⟩
  | 32 => ⟨S36864, .i1⟩
  | 33 => ⟨S36864x1, .i1⟩
  | 34 => ⟨S1x1024x3584, .f32⟩
  | 35 => ⟨S1024x3584, .f32⟩
  | 36 => ⟨S1x1024x3584, .f32⟩
  | 37 => ⟨S1024x3584, .f32⟩
  | 38 => ⟨S1x3584x1024, .f32⟩
  | 39 => ⟨S3584x1024, .f32⟩
  | 40 => ⟨S36864x3584, .f32⟩
  | 41 => ⟨S36864x3584, .f32⟩
  | 42 => ⟨S36864x3584, .f32⟩
  | 43 => ⟨S_, .f32⟩
  | 44 => ⟨S36864x3584, .f32⟩
  | 45 => ⟨S36864x3584, .f32⟩
  | 46 => ⟨S_, .f32⟩
  | 47 => ⟨S36864x3584, .f32⟩
  | 48 => ⟨S36864x3584, .f32⟩
  | 49 => ⟨S36864x3584, .f32⟩
  | 50 => ⟨S36864x3584, .f32⟩
  | 51 => ⟨S36864x3584, .f32⟩
  | 52 => ⟨S36864x1024, .f32⟩
  | 53 => ⟨S_, .f32⟩
  | 54 => ⟨S_, .f32⟩
  | 55 => ⟨S36864x1024, .i1⟩
  | 56 => ⟨S36864x1024, .f32⟩
  | 57 => ⟨S36864x1024, .f32⟩
  | 58 => ⟨S36864x1024, .f32⟩
  | _ => ⟨S36864x1024, .f32⟩

abbrev hbmTy (i : Nat) : BufTy := match i / 128 with
  | 0 => hbmTy0_0 i
  | 1 => hbmTy0_1 i
  | 2 => hbmTy0_2 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v34 : Ref sig .tc := ⟨.hbm, 75, rfl⟩
abbrev main_v35 : Ref sig .tc := ⟨.hbm, 76, rfl⟩
abbrev main_c_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_call4_v0 : Ref sig .tc := ⟨.hbm, 93, rfl⟩
abbrev main_call4_v1 : Ref sig .tc := ⟨.hbm, 94, rfl⟩
abbrev main_call4_cst : Ref sig .tc := ⟨.hbm, 95, rfl⟩
abbrev main_call4_v2 : Ref sig .tc := ⟨.hbm, 96, rfl⟩
abbrev main_call4_v3 : Ref sig .tc := ⟨.hbm, 97, rfl⟩
abbrev main_call4_cst_0 : Ref sig .tc := ⟨.hbm, 98, rfl⟩
abbrev main_call4_v4 : Ref sig .tc := ⟨.hbm, 99, rfl⟩
abbrev main_call4_v5 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_6 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v55 : Ref sig .tc := ⟨.hbm, 109, rfl⟩
abbrev main_v56 : Ref sig .tc := ⟨.hbm, 110, rfl⟩
abbrev main_c_7 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_8 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_v76 : Ref sig .tc := ⟨.hbm, 143, rfl⟩
abbrev main_v77 : Ref sig .tc := ⟨.hbm, 144, rfl⟩
abbrev main_c_9 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_cst_10 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_v97 : Ref sig .tc := ⟨.hbm, 177, rfl⟩
abbrev main_v98 : Ref sig .tc := ⟨.hbm, 178, rfl⟩
abbrev main_c_11 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_call10_v0 : Ref sig .tc := ⟨.hbm, 195, rfl⟩
abbrev main_call10_v1 : Ref sig .tc := ⟨.hbm, 196, rfl⟩
abbrev main_call10_cst : Ref sig .tc := ⟨.hbm, 197, rfl⟩
abbrev main_call10_v2 : Ref sig .tc := ⟨.hbm, 198, rfl⟩
abbrev main_call10_v3 : Ref sig .tc := ⟨.hbm, 199, rfl⟩
abbrev main_call10_cst_0 : Ref sig .tc := ⟨.hbm, 200, rfl⟩
abbrev main_call10_v4 : Ref sig .tc := ⟨.hbm, 201, rfl⟩
abbrev main_call10_v5 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_cst_12 : Ref sig .tc := ⟨.hbm, 207, rfl⟩
abbrev main_call11_v0 : Ref sig .tc := ⟨.hbm, 208, rfl⟩
abbrev main_call11_v1 : Ref sig .tc := ⟨.hbm, 209, rfl⟩
abbrev main_call11_v2 : Ref sig .tc := ⟨.hbm, 210, rfl⟩
abbrev main_v118 : Ref sig .tc := ⟨.hbm, 211, rfl⟩
abbrev main_v119 : Ref sig .tc := ⟨.hbm, 212, rfl⟩
abbrev main_c_13 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_call12_v0 : Ref sig .tc := ⟨.hbm, 229, rfl⟩
abbrev main_call12_v1 : Ref sig .tc := ⟨.hbm, 230, rfl⟩
abbrev main_call12_cst : Ref sig .tc := ⟨.hbm, 231, rfl⟩
abbrev main_call12_v2 : Ref sig .tc := ⟨.hbm, 232, rfl⟩
abbrev main_call12_v3 : Ref sig .tc := ⟨.hbm, 233, rfl⟩
abbrev main_call12_cst_0 : Ref sig .tc := ⟨.hbm, 234, rfl⟩
abbrev main_call12_v4 : Ref sig .tc := ⟨.hbm, 235, rfl⟩
abbrev main_call12_v5 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_cst_14 : Ref sig .tc := ⟨.hbm, 241, rfl⟩
abbrev main_call13_v0 : Ref sig .tc := ⟨.hbm, 242, rfl⟩
abbrev main_call13_v1 : Ref sig .tc := ⟨.hbm, 243, rfl⟩
abbrev main_call13_v2 : Ref sig .tc := ⟨.hbm, 244, rfl⟩
abbrev main_v139 : Ref sig .tc := ⟨.hbm, 245, rfl⟩
abbrev main_v140 : Ref sig .tc := ⟨.hbm, 246, rfl⟩
abbrev main_c_15 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_call14_v0 : Ref sig .tc := ⟨.hbm, 263, rfl⟩
abbrev main_call14_v1 : Ref sig .tc := ⟨.hbm, 264, rfl⟩
abbrev main_call14_cst : Ref sig .tc := ⟨.hbm, 265, rfl⟩
abbrev main_call14_v2 : Ref sig .tc := ⟨.hbm, 266, rfl⟩
abbrev main_call14_v3 : Ref sig .tc := ⟨.hbm, 267, rfl⟩
abbrev main_call14_cst_0 : Ref sig .tc := ⟨.hbm, 268, rfl⟩
abbrev main_call14_v4 : Ref sig .tc := ⟨.hbm, 269, rfl⟩
abbrev main_call14_v5 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_cst_16 : Ref sig .tc := ⟨.hbm, 275, rfl⟩
abbrev main_call15_v0 : Ref sig .tc := ⟨.hbm, 276, rfl⟩
abbrev main_call15_v1 : Ref sig .tc := ⟨.hbm, 277, rfl⟩
abbrev main_call15_v2 : Ref sig .tc := ⟨.hbm, 278, rfl⟩
abbrev main_v160 : Ref sig .tc := ⟨.hbm, 279, rfl⟩
abbrev main_v161 : Ref sig .tc := ⟨.hbm, 280, rfl⟩
abbrev main_c_17 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_call16_v0 : Ref sig .tc := ⟨.hbm, 297, rfl⟩
abbrev main_call16_v1 : Ref sig .tc := ⟨.hbm, 298, rfl⟩
abbrev main_call16_cst : Ref sig .tc := ⟨.hbm, 299, rfl⟩
abbrev main_call16_v2 : Ref sig .tc := ⟨.hbm, 300, rfl⟩
abbrev main_call16_v3 : Ref sig .tc := ⟨.hbm, 301, rfl⟩
abbrev main_call16_cst_0 : Ref sig .tc := ⟨.hbm, 302, rfl⟩
abbrev main_call16_v4 : Ref sig .tc := ⟨.hbm, 303, rfl⟩
abbrev main_call16_v5 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_cst_18 : Ref sig .tc := ⟨.hbm, 309, rfl⟩
abbrev main_call17_v0 : Ref sig .tc := ⟨.hbm, 310, rfl⟩
abbrev main_call17_v1 : Ref sig .tc := ⟨.hbm, 311, rfl⟩
abbrev main_call17_v2 : Ref sig .tc := ⟨.hbm, 312, rfl⟩
abbrev main_v181 : Ref sig .tc := ⟨.hbm, 313, rfl⟩
abbrev main_v182 : Ref sig .tc := ⟨.hbm, 314, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S2x8192x1024 : Shape := ⟨3, ![2, 8192, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S1024x3072, .bf16⟩
  | .hbm, ⟨5, _⟩ => ⟨S1x1024, .f32⟩
  | .hbm, ⟨6, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x8192x1024 : Shape := ⟨3, ![2, 8192, 1024]⟩
abbrev S1024 : Shape := ⟨1, ![1024]⟩
abbrev S1024x3072 : Shape := ⟨2, ![1024, 3072]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x8192x512 : Shape := ⟨3, ![2, 8192, 512]⟩
abbrev S1024x1024 : Shape := ⟨2, ![1024, 1024]⟩
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1024x1024, .f32⟩
  | .hbm, ⟨4, _⟩ => ⟨S16384x1024, .f32⟩
  | .hbm, ⟨5, _⟩ => ⟨S2x8192x512, .bf16⟩
  | .hbm, ⟨6, _⟩ => ⟨S16384x512, .bf16⟩
  | .hbm, ⟨7, _⟩ => ⟨S2x8192x512, .bf16⟩
  | .hbm, ⟨8, _⟩ => ⟨S16384x512, .bf16⟩
  | .hbm, ⟨9, _⟩ => ⟨S1024x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x8192x1024 : Shape := ⟨3, ![2, 8192, 1024]⟩
abbrev S2x8192x512 : Shape := ⟨3, ![2, 8192, 512]⟩
abbrev S1024x1024 : Shape := ⟨2, ![1024, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1024x1024, .f32⟩
  | .hbm, ⟨4, _⟩ => ⟨S2x8192x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x1024 : Shape := ⟨2, ![1024, 1024]⟩
abbrev S16384x1024 : Shape := ⟨2, ![16384, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S16384x1024, .f32⟩
  | .hbm, ⟨4, _⟩ => ⟨S2x8192x1024, .bf16⟩
  | .hbm, ⟨5, _⟩ => ⟨S16384x1024, .bf16⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x8192x1024 : Shape := ⟨3, ![2, 8192, 1024]⟩
abbrev S1024x1024 : Shape := ⟨2, ![1024, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2x8192x512 : Shape := ⟨3, ![2, 8192, 512]⟩
abbrev S2x8192x3072 : Shape := ⟨3, ![2, 8192, 3072]⟩
abbrev S_ : Shape := ⟨0, ![]⟩
abbrev S64 : Shape := ⟨1, ![64]⟩
abbrev S128 : Shape := ⟨1, ![128]⟩
abbrev S1x64 : Shape := ⟨2, ![1, 64]⟩
abbrev S4x64 : Shape := ⟨2, ![4, 64]⟩
abbrev S16384x512 : Shape := ⟨2, ![16384, 512]⟩
abbrev S16384x3072 : Shape := ⟨2, ![16384, 3072]⟩
abbrev S1x1 : Shape := ⟨2, ![1, 1]⟩
abbrev S1x128 : Shape := ⟨2, ![1, 128]⟩
abbrev S1024x128 : Shape := ⟨2, ![1024, 128]⟩
abbrev S8192x128 : Shape := ⟨2, ![8192, 128]⟩
abbrev S2x1024x1 : Shape := ⟨3, ![2, 1024, 1]⟩
abbrev S2x1024x128 : Shape := ⟨3, ![2, 1024, 128]⟩
abbrev S1024x1024 : Shape := ⟨2, ![1024, 1024]⟩
abbrev S1x1024x128 : Shape := ⟨3, ![1, 1024, 128]⟩
abbrev S512x128 : Shape := ⟨2, ![512, 128]⟩
abbrev S1024x512 : Shape := ⟨2, ![1024, 512]⟩
abbrev S512x512 : Shape := ⟨2, ![512, 512]⟩
abbrev S1x512x128 : Shape := ⟨3, ![1, 512, 128]⟩
abbrev S1x1024x1 : Shape := ⟨3, ![1, 1024, 1]⟩
abbrev S1024x1 : Shape := ⟨2, ![1024, 1]⟩
abbrev S1024 : Shape := ⟨1, ![1024]⟩
abbrev S1 : Shape := ⟨1, ![1]⟩

abbrev nBuf : Space → Nat
  | .hbm => 23
  | .vmem => 13
  | .smem => 1
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x3072, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S4x64, .f32⟩
  | .hbm, ⟨14, _⟩ => ⟨S2x8192x512, .bf16⟩
  | .hbm, ⟨15, _⟩ => ⟨S16384x512, .bf16⟩
  | .hbm, ⟨16, _⟩ => ⟨S2x8192x512, .bf16⟩
  | .hbm, ⟨17, _⟩ => ⟨S16384x512, .bf16⟩
  | .hbm, ⟨18, _⟩ => ⟨S2x8192x3072, .bf16⟩
  | .hbm, ⟨19, _⟩ => ⟨S16384x3072, .bf16⟩
  | .hbm, ⟨20, _⟩ => ⟨S1x1, .f32⟩
  | .hbm, ⟨21, _⟩ => ⟨S1x128, .f32⟩
  | .hbm, ⟨22, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S2x1024x1, .f32⟩
  | .local _ .vmem, ⟨11, _⟩ => ⟨S2x1024x128, .f32⟩
  | .local _ .vmem, ⟨12, _⟩ => ⟨S2x1024x128, .f32⟩
  | .local _ .smem, ⟨0, _⟩ => ⟨S1x1, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_57 : BitVec 32 := 0#32
  let arg2 : BitVec 32 := BitVec.ofNat 32 (i 2).val
  let v137 : BitVec 32 := Scalar.subi arg2 c0_i32_57
  let c1_i32_58 : BitVec 32 := 1#32
  let v139 : BitVec 32 := Scalar.divsi v137 c1_i32_58
  let v140 : BitVec 32 := Scalar.muli v139 c1_i32_58
  let v141 : BitVec 32 := Scalar.addi c0_i32_57 v140
  let c1_i32_59 : BitVec 32 := 1#32
  ⟨c0_i32_57, v141, c1_i32_59⟩
def k0_mult1 (i : grid0.Coords) (k0_t1 : Fin (k0_t1_loop i).trips) : BitVec 32 :=
  let c0_i32_57 : BitVec 32 := 0#32
  let c1_i32_59 : BitVec 32 := 1#32
  let arg13 : BitVec 32 := Scf.iv c0_i32_57 c1_i32_59 k0_t1
  let c1024_i32_190 : BitVec 32 := 1024#32
  let v490 : BitVec 32 := Scalar.muli arg13 c1024_i32_190
  let c0_i32_191 : BitVec 32 := 0#32
  let v491 : BitVec 32 := Scalar.addi v490 c0_i32_191
  v491
def k0_off1 (i : grid0.Coords) (k0_t1 : Fin (k0_t1_loop i).trips) : Fin 2 → Nat :=
  let c0_i32_57 : BitVec 32 := 0#32
  let c1_i32_59 : BitVec 32 := 1#32
  let arg13 : BitVec 32 := Scf.iv c0_i32_57 c1_i32_59 k0_t1
  let c1024_i32_190 : BitVec 32 := 1024#32
  let v490 : BitVec 32 := Scalar.muli arg13 c1024_i32_190
  let c0_i32_191 : BitVec 32 := 0#32
  let v491 : BitVec 32 := Scalar.addi v490 c0_i32_191
  let v492 : BitVec 32 := v491
  let v493 : Index := Scalar.indexCast v492
  let c0_192 : Index := 0#32
  ![v493.toNat, 0]
@[reducible] def k0_t2_loop (i : grid0.Coords) : Scf.Loop 32 :=
  let c0_i32_57 : BitVec 32 := 0#32
  let arg2 : BitVec 32 := BitVec.ofNat 32 (i 2).val
  let v137 : BitVec 32 := Scalar.subi arg2 c0_i32_57
  let c1_i32_58 : BitVec 32 := 1#32
  let v139 : BitVec 32 := Scalar.divsi v137 c1_i32_58
  let v140 : BitVec 32 := Scalar.muli v139 c1_i32_58
  let v141 : BitVec 32 := Scalar.addi c0_i32_57 v140
  let v138 : BitVec 32 := Scalar.addi c0_i32_57 v137
  let c1_i32_60 : BitVec 32 := 1#32
  ⟨v141, v138, c1_i32_60⟩
def k0_mult2 (i : grid0.Coords) (k0_t2 : Fin (k0_t2_loop i).trips) : BitVec 32 :=
  let c0_i32_57 : BitVec 32 := 0#32
  let arg2 : BitVec 32 := BitVec.ofNat 32 (i 2).val
  let v137 : BitVec 32 := Scalar.subi arg2 c0_i32_57
  let c1_i32_58 : BitVec 32 := 1#32
  let v139 : BitVec 32 := Scalar.divsi v137 c1_i32_58
  let v140 : BitVec 32 := Scalar.muli v139 c1_i32_58
  let v141 : BitVec 32 := Scalar.addi c0_i32_57 v140
  let c1_i32_60 : BitVec 32 := 1#32
  let arg13 : BitVec 32 := Scf.iv v141 c1_i32_60 k0_t2
  let c1024_i32_190 : BitVec 32 := 1024#32
  let v490 : BitVec 32 := Scalar.muli arg13 c1024_i32_190
  let c0_i32_191 : BitVec 32 := 0#32
  let v491 : BitVec 32 := Scalar.addi v490 c0_i32_191
  v491
def k0_off2 (i : grid0.Coords) (k0_t2 : Fin (k0_t2_loop i).trips) : Fin 2 → Nat :=
  let c0_i32_57 : BitVec 32 := 0#32
  let arg2 : BitVec 32 := BitVec.ofNat 32 (i 2).val
  let v137 : BitVec 32 := Scalar.subi arg2 c0_i32_57
  let c1_i32_58 : BitVec 32 := 1#32
  let v139 : BitVec 32 := Scalar.divsi v137 c1_i32_58
  let v140 : BitVec 32 := Scalar.muli v139 c1_i32_58
  let v141 : BitVec 32 := Scalar.addi c0_i32_57 v140
  let c1_i32_60 : BitVec 32 := 1#32
  let arg13 : BitVec 32 := Scf.iv v141 c1_i32_60 k0_t2
  let c1024_i32_190 : BitVec 32 := 1024#32
  let v490 : BitVec 32 := Scalar.muli arg13 c1024_i32_190
  let c0_i32_191 : BitVec 32 := 0#32
  let v491 : BitVec 32 := Scalar.addi v490 c0_i32_191
  let v492 : BitVec 32 := v491
  let v493 : Index := Scalar.indexCast v492
  let c0_192 : Index := 0#32
  ![v493.toNat, 0]
def k0_mult3 (i : grid0.Coords) : BitVec 32 :=
  let arg2 : BitVec 32 := BitVec.ofNat 32 (i 2).val
  let c1024_i32 : BitVec 32 := 1024#32
  let v142 : BitVec 32 := Scalar.muli arg2 c1024_i32
  let c0_i32_61 : BitVec 32 := 0#32
  let v143 : BitVec 32 := Scalar.addi v142 c0_i32_61
  v143
def k0_off3 (i : grid0.Coords) (c0_i32_61 : BitVec 32) : Fin 2 → Nat :=
  let arg2 : BitVec 32 := BitVec.ofNat 32 (i 2).val
  let c1024_i32 : BitVec 32 := 1024#32
  let v142 : BitVec 32 := Scalar.muli arg2 c1024_i32
  let v143 : BitVec 32 := Scalar.addi v142 c0_i32_61
  let v144 : BitVec 32 := v143
  let v145 : Index := Scalar.indexCast v144
  let c0_62 : Index := 0#32
  ![v145.toNat, 0]
def k0_mult4 (i : grid0.Coords) : BitVec 32 :=
  let arg2 : BitVec 32 := BitVec.ofNat 32 (i 2).val
  let c1024_i32_126 : BitVec 32 := 1024#32
  let v315 : BitVec 32 := Scalar.muli arg2 c1024_i32_126
  let c512_i32 : BitVec 32 := 512#32
  let v316 : BitVec 32 := Scalar.addi v315 c512_i32
  v316
@[reducible] def k0_t3_loop (i : grid0.Coords) : Scf.Loop 32 :=
  let c0_i32_61 : BitVec 32 := 0#32
  let arg2 : BitVec 32 := BitVec.ofNat 32 (i 2).val
  let v141 : BitVec 32 := Scalar.subi arg2 c0_i32_61
  let c1_i32_62 : BitVec 32 := 1#32
  let v143 : BitVec 32 := Scalar.divsi v141 c1_i32_62
  let v144 : BitVec 32 := Scalar.muli v143 c1_i32_62
  let v145 : BitVec 32 := Scalar.addi c0_i32_61 v144
  let c1_i32_63 : BitVec 32 := 1#32
  ⟨c0_i32_61, v145, c1_i32_63⟩
def k0_mult5 (i : grid0.Coords) (k0_t3 : Fin (k0_t3_loop i).trips) : BitVec 32 :=
  let c0_i32_61 : BitVec 32 := 0#32
  let c1_i32_63 : BitVec 32 := 1#32
  let arg13 : BitVec 32 := Scf.iv c0_i32_61 c1_i32_63 k0_t3
  let c1024_i32_143 : BitVec 32 := 1024#32
  let v362 : BitVec 32 := Scalar.muli arg13 c1024_i32_143
  v362
def k0_off4 (i : grid0.Coords) (k0_t3 : Fin (k0_t3_loop i).trips) : Fin 2 → Nat :=
  let c0_i32_61 : BitVec 32 := 0#32
  let c1_i32_63 : BitVec 32 := 1#32
  let arg13 : BitVec 32 := Scf.iv c0_i32_61 c1_i32_63 k0_t3
  let c1024_i32_143 : BitVec 32 := 1024#32
  let v362 : BitVec 32 := Scalar.muli arg13 c1024_i32_143
  let v363 : BitVec 32 := v362
  let v364 : Index := Scalar.indexCast v363
  let c0_144 : Index := 0#32
  ![v364.toNat, 0]
@[reducible] def k0_t4_loop (i : grid0.Coords) : Scf.Loop 32 :=
  let c0_i32_61 : BitVec 32 := 0#32
  let arg2 : BitVec 32 := BitVec.ofNat 32 (i 2).val
  let v141 : BitVec 32 := Scalar.subi arg2 c0_i32_61
  let c1_i32_62 : BitVec 32 := 1#32
  let v143 : BitVec 32 := Scalar.divsi v141 c1_i32_62
  let v144 : BitVec 32 := Scalar.muli v143 c1_i32_62
  let v145 : BitVec 32 := Scalar.addi c0_i32_61 v144
  let v142 : BitVec 32 := Scalar.addi c0_i32_61 v141
  let c1_i32_64 : BitVec 32 := 1#32
  ⟨v145, v142, c1_i32_64⟩
def k0_mult6 (i : grid0.Coords) (k0_t4 : Fin (k0_t4_loop i).trips) : BitVec 32 :=
  let c0_i32_61 : BitVec 32 := 0#32
  let arg2 : BitVec 32 := BitVec.ofNat 32 (i 2).val
  let v141 : BitVec 32 := Scalar.subi arg2 c0_i32_61
  let c1_i32_62 : BitVec 32 := 1#32
  let v143 : BitVec 32 := Scalar.divsi v141 c1_i32_62
  let v144 : BitVec 32 := Scalar.muli v143 c1_i32_62
  let v145 : BitVec 32 := Scalar.addi c0_i32_61 v144
  let c1_i32_64 : BitVec 32 := 1#32
  let arg13 : BitVec 32 := Scf.iv v145 c1_i32_64 k0_t4
  let c1024_i32_143 : BitVec 32 := 1024#32
  let v362 : BitVec 32 := Scalar.muli arg13 c1024_i32_143
  v362
def k0_off5 (i : grid0.Coords) (k0_t4 : Fin (k0_t4_loop i).trips) : Fin 2 → Nat :=
  let c0_i32_61 : BitVec 32 := 0#32
  let arg2 : BitVec 32 := BitVec.ofNat 32 (i 2).val
  let v141 : BitVec 32 := Scalar.subi arg2 c0_i32_61
  let c1_i32_62 : BitVec 32 := 1#32
  let v143 : BitVec 32 := Scalar.divsi v141 c1_i32_62
  let v144 : BitVec 32 := Scalar.muli v143 c1_i32_62
  let v145 : BitVec 32 := Scalar.addi c0_i32_61 v144
  let c1_i32_64 : BitVec 32 := 1#32
  let arg13 : BitVec 32 := Scf.iv v145 c1_i32_64 k0_t4
  let c1024_i32_143 : BitVec 32 := 1024#32
  let v362 : BitVec 32 := Scalar.muli arg13 c1024_i32_143
  let v363 : BitVec 32 := v362
  let v364 : Index := Scalar.indexCast v363
  let c0_144 : Index := 0#32
  ![v364.toNat, 0]
def k0_mult7 (i : grid0.Coords) : BitVec 32 :=
  let arg2 : BitVec 32 := BitVec.ofNat 32 (i 2).val
  let c1024_i32 : BitVec 32 := 1024#32
  let v146 : BitVec 32 := Scalar.muli arg2 c1024_i32
  v146
def k0_off6 (i : grid0.Coords) : Fin 2 → Nat :=
  let arg2 : BitVec 32 := BitVec.ofNat 32 (i 2).val
  let c1024_i32 : BitVec 32 := 1024#32
  let v146 : BitVec 32 := Scalar.muli arg2 c1024_i32
  let v147 : BitVec 32 := v146
  let v148 : Index := Scalar.indexCast v147
  let c0_65 : Index := 0#32
  ![v148.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel7Ideal.lean ====
variable {F : FTy → Type} [FloatOps F] [Named F]
def κ : String → Option EReal := fun
  | "scale_log2e" => some (((1 / 8) * (Real.log 2)⁻¹ : ℝ) : EReal)
  | _ => none
-- ==== Reference7Ideal.lean ====
abbrev S2x8192x512 : Shape := ⟨3, ![2, 8192, 512]⟩
abbrev S2x8192x3072 : Shape := ⟨3, ![2, 8192, 3072]⟩
abbrev S_ : Shape := ⟨0, ![]⟩
abbrev S64 : Shape := ⟨1, ![64]⟩
abbrev S128 : Shape := ⟨1, ![128]⟩
abbrev S2x8192x8x64 : Shape := ⟨4, ![2, 8192, 8, 64]⟩
abbrev S2x8x8192x64 : Shape := ⟨4, ![2, 8, 8192, 64]⟩
abbrev S2x4x2x8192x64 : Shape := ⟨5, ![2, 4, 2, 8192, 64]⟩
abbrev S2x8192x4x128 : Shape := ⟨4, ![2, 8192, 4, 128]⟩
abbrev S2x4x8192x128 : Shape := ⟨4, ![2, 4, 8192, 128]⟩
abbrev S8192 : Shape := ⟨1, ![8192]⟩
abbrev S2x4x2x8192x8192 : Shape := ⟨5, ![2, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩
abbrev S16384x512 : Shape := ⟨2, ![16384, 512]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x3072, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S2x8192x8x64, .f32⟩
  | .hbm, ⟨10, _⟩ => ⟨S2x8x8192x64, .f32⟩
  | .hbm, ⟨11, _⟩ => ⟨S2x4x2x8192x64, .f32⟩
  | .hbm, ⟨12, _⟩ => ⟨S2x8192x8x64, .f32⟩
  | .hbm, ⟨13, _⟩ => ⟨S2x8x8192x64, .f32⟩
  | .hbm, ⟨14, _⟩ => ⟨S2x4x2x8192x64, .f32⟩
  | .hbm, ⟨15, _⟩ => ⟨S2x8192x512, .f32⟩
  | .hbm, ⟨16, _⟩ => ⟨S2x8192x4x128, .f32⟩
  | .hbm, ⟨17, _⟩ => ⟨S2x4x8192x128, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S2x4x2x8192x8192, .f32⟩
  | .hbm, ⟨49, _⟩ => ⟨S_, .f32⟩
  | .hbm, ⟨50, _⟩ => ⟨S2x4x2x8192x8192, .f32⟩
  | .hbm, ⟨51, _⟩ => ⟨S2x4x2x8192x8192, .f32⟩
  | .hbm, ⟨52, _⟩ => ⟨S1x8192, .i32⟩
  | .hbm, ⟨53, _⟩ => ⟨S8192x1, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S_, .f32⟩
  | .hbm, ⟨58, _⟩ => ⟨S_, .f32⟩
  | .hbm, ⟨59, _⟩ => ⟨S2x4x2x8192x8192, .i1⟩
  | .hbm, ⟨60, _⟩ => ⟨S2x4x2x8192x8192, .f32⟩
  | .hbm, ⟨61, _⟩ => ⟨S2x4x2x8192x8192, .f32⟩
  | .hbm, ⟨62, _⟩ => ⟨S_, .f32⟩
  | .hbm, ⟨63, _⟩ => ⟨S2x4x2x8192, .f32⟩
  | .hbm, ⟨64, _⟩ => ⟨S_, .f32⟩
  | .hbm, ⟨65, _⟩ => ⟨S2x4x2x8192, .f32⟩
  | .hbm, ⟨66, _⟩ => ⟨S2x4x2x8192, .f32⟩
  | .hbm, ⟨67, _⟩ => ⟨S2x4x2x8192x1, .f32⟩
  | .hbm, ⟨68, _⟩ => ⟨S2x4x2x8192x8192, .f32⟩
  | .hbm, ⟨69, _⟩ => ⟨S2x4x2x8192x8192, .f32⟩
  | .hbm, ⟨70, _⟩ => ⟨S2x4x2x8192x8192, .f32⟩
  | .hbm, ⟨71, _⟩ => ⟨S_, .f32⟩
  | .hbm, ⟨72, _⟩ => ⟨S2x4x2x8192, .f32⟩
  | .hbm, ⟨73, _⟩ => ⟨S2x4x2x8192x1, .f32⟩
  | .hbm, ⟨74, _⟩ => ⟨S2x4x2x8192x8192, .f32⟩
  | .hbm, ⟨75, _⟩ => ⟨S2x4x2x8192x8192, .f32⟩
  | .hbm, ⟨76, _⟩ => ⟨S2x4x1x8192x8192, .f32⟩
  | .hbm, ⟨77, _⟩ => ⟨S2x4x8192x8192, .f32⟩
  | .hbm, ⟨78, _⟩ => ⟨S2x4x1x8192x8192, .f32⟩
  | .hbm, ⟨79, _⟩ => ⟨S2x4x8192x8192, .f32⟩
  | .hbm, ⟨80, _⟩ => ⟨S2x4x8192x8192, .f32⟩
  | .hbm, ⟨81, _⟩ => ⟨S2x4x8192x8192, .f32⟩
  | .hbm, ⟨82, _⟩ => ⟨S2x4x8192x8192, .f32⟩
  | .hbm, ⟨83, _⟩ => ⟨S2x4x8192x128, .f32⟩
  | .hbm, ⟨84, _⟩ => ⟨S2x4x8192x128, .f32⟩
  | .hbm, ⟨85, _⟩ => ⟨S_, .f32⟩
  | .hbm, ⟨86, _⟩ => ⟨S2x4x8192, .f32⟩
  | .hbm, ⟨87, _⟩ => ⟨S2x4x8192x1, .f32⟩
  | .hbm, ⟨88, _⟩ => ⟨S_, .f32⟩
  | .hbm, ⟨89, _⟩ => ⟨S2x4x8192x1, .f32⟩
  | .hbm, ⟨90, _⟩ => ⟨S2x4x8192x1, .f32⟩
  | .hbm, ⟨91, _⟩ => ⟨S_, .f32⟩
  | .hbm, ⟨92, _⟩ => ⟨S2x4x8192x1, .f32⟩
  | .hbm, ⟨93, _⟩ => ⟨S2x4x8192x1, .f32⟩
  | .hbm, ⟨94, _⟩ => ⟨S2x4x8192x1, .f32⟩
  | .hbm, ⟨95, _⟩ => ⟨S2x4x8192x128, .f32⟩
  | .hbm, ⟨96, _⟩ => ⟨S2x4x8192x128, .f32⟩
  | .hbm, ⟨97, _⟩ => ⟨S1x1x1x128, .f32⟩
  | .hbm, ⟨98, _⟩ => ⟨S2x4x8192x128, .f32⟩
  | .hbm, ⟨99, _⟩ => ⟨S2x4x8192x128, .f32⟩
  | .hbm, ⟨100, _⟩ => ⟨S_, .f32⟩
  | .hbm, ⟨101, _⟩ => ⟨S2x4x8192x128, .f32⟩
  | .hbm, ⟨102, _⟩ => ⟨S2x4x8192x128, .f32⟩
  | .hbm, ⟨103, _⟩ => ⟨S2x8192x4x128, .f32⟩
  | .hbm, ⟨104, _⟩ => ⟨S2x8192x512, .f32⟩
  | .hbm, ⟨105, _⟩ => ⟨S16384x512, .f32⟩
  | .hbm, ⟨106, _⟩ => ⟨S16384x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_cst_8 : Ref sig .tc := ⟨.hbm, 88, rfl⟩
abbrev main_v50 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]
-- ==== Proof.KI.Body.lean ====
/-
  The kernel body's run with its values: the stick-breaking loop's state after each block named (`loopS`), the while's
  label met by induction on the blocks still to come (`loop_spec`), and the whole body on any staging memrefs
  (`bodyRun`): from the three input blocks it leaves `bodyOut` in the output's staging buffer.
-/
module

public import proofs.«01_k».proof.Proof.Gen.KernelIdeal
public import proofs.«01_k».proof.Proof.Gen.KernelIdeal.Skeleton
public import Idealize.ShloMosaic.Lib.Tactic
public import Idealize.ShloMosaic.Lib.Exec
public import Idealize.ShloMosaic.Lib.Pipeline.Kit
public import Idealize.ShloMosaic.Lib.WholeRead
public import Idealize.ShloMosaic.Lib.WritesUnit
public import Idealize.ShloMosaic.Lib.ValueIdxCore

@[expose] public section

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The values -/

/-- Rows `256 n … 256 n + 255` of a staged key or value block. -/
def krows (x : Vec F S8192x128 .bf16) (n : ℕ) : Vec F S256x128 .bf16 :=
  fun j => x (ix2 ⟨(256 * n + (j 0).val) % 8192, Nat.mod_lt _ (by decide)⟩ (j 1))

/-- The two carried scratch buffers: the running cost and the accumulator. -/
abbrev St (F : FTy → Type) : Type := Vec F S512x1 .f32 × Vec F S512x128 .f32

/-- One off-diagonal block: the accumulator and the cost after key block `n`. -/
def stepS (q : FVec F S512x128 .bf16) (x1 x2 : Vec F S8192x128 .bf16) (tri : Vec F S256x256 .bf16) (n : ℕ) (s : St F) : St F :=
  (k0_pay1 (k0_pay24 q (krows x1 n)) s.1, k0_pay25 q (krows x1 n) (krows x2 n) tri s.1 s.2)

/-- Whether the loop goes on after a cost: its least entry compared with the cost at which a weight vanishes. -/
def liveOf (cost : Vec F S512x1 .f32) : BitVec 32 :=
  Scalar.extui (Scalar.cmpf .olt (k0_pay2 cost) (Named.named κ "zero_cost" 0x43200000#32 : F .f32))

/-- The state after the blocks `n - 1, …, 0`, the loop stopping where `live` falls to zero. -/
def loopS (q : FVec F S512x128 .bf16) (x1 x2 : Vec F S8192x128 .bf16) (tri : Vec F S256x256 .bf16) : ℕ → BitVec 32 → St F → St F
  | 0, _, s => s
  | n + 1, live, s =>
    if Scalar.cmpi .sgt live 0#32 = 1#1 then
      loopS q x1 x2 tri n (liveOf (stepS q x1 x2 tri n s).1) (stepS q x1 x2 tri n s)
    else s

/-- What a memref reads after one store over the whole of it. -/
theorem read_store_whole {sp : Space} {s : Shape} {e : EltTy} (v : View sig .tc sp s e) (f : v.ty.Contents (Elt F))
    {off : Fin s.rank → ℕ} (h0 : off = fun _ => 0) (inb : ∀ a, off a + s.size a ≤ s.size a)
    (w : (Rect.unit off s.size inb).shape.Idx → Elt F e) (L : List (View.Piece (Elt F) s e)) :
    v.read (Elt F) (v.writes (Elt F) f ((⟨Rect.unit off s.size inb, w⟩ : View.Piece (Elt F) s e) :: L)) = w :=
  funext fun y => View.read_writes_cons_unit_of_mem v f inb w L y y h0 fun a => (Nat.zero_add _).symm

/-- A load of the whole of a memref reads it. -/
theorem load_whole {sp : Space} {s : Shape} {e : EltTy} (v : View sig .tc sp s e) (f : v.ty.Contents (Elt F))
    {off : Fin s.rank → ℕ} (h0 : off = fun _ => 0) (inb : ∀ a, off a + s.size a ≤ s.size a) :
    v.readAt (Elt F) (Rect.unit off s.size inb).toLoadRect f = v.read (Elt F) f := by
  subst h0
  funext j
  rw [View.readAt_apply]
  exact congrArg (v.read (Elt F) f) (funext fun a => Fin.ext (by
    show 0 + 1 * (j a).val = (j a).val
    rw [Nat.zero_add, Nat.one_mul]))

/-- What a load of the whole of a memref reads after a store over the whole of it. -/
theorem readCov_whole {sp : Space} {s : Shape} {e : EltTy} (v : View sig .tc sp s e)
    {off : Fin s.rank → ℕ} (h0 : off = fun _ => 0) (inb : ∀ a, off a + s.size a ≤ s.size a)
    (w : (Rect.unit off s.size inb).shape.Idx → Elt F e) (L : List (View.Piece (Elt F) s e)) :
    v.readCov ((⟨Rect.unit off s.size inb, w⟩ : View.Piece (Elt F) s e) :: L) (Rect.unit off s.size inb).toLoadRect = w := by
  unfold View.readCov
  rw [load_whole v _ h0, read_store_whole v _ h0]

theorem off00 : (![0, 0] : Fin 2 → ℕ) = fun _ => 0 := by funext a; fin_cases a <;> rfl

/-- The word `n` less one names block `n - 1`'s offset, inside the staged block. -/
theorem chk_of_lt : ∀ n : Fin 32, k0_chk1 (BitVec.ofNat 32 n.val) := by decide

theorem off2_eq : ∀ n : Fin 32, k0_off2 (BitVec.ofNat 32 n.val) = ![256 * n.val, 0] := by decide

/-- The block the loop loads at counter `n`. -/
theorem load_rows {M : Memref sig .tc .vmem S8192x128 .bf16} (hM : M.IsWhole) (x : Vec F S8192x128 .bf16) (n : ℕ) (hn : n < 32)
    {off : Fin 2 → ℕ} (ho : off = ![256 * n, 0]) (inb : ∀ a, off a + S256x128.size a ≤ S8192x128.size a) :
    M.view.readAt (Elt F) (Rect.unit (s := S8192x128) off S256x128.size inb).toLoadRect (hM.unread x) = krows x n := by
  funext j
  rw [Memref.IsWhole.readAt_unread]
  subst ho
  refine congrArg x (funext fun a => Fin.ext ?_)
  match a with
  | ⟨0, _⟩ =>
    have h : (j 0).val < 256 := (j 0).isLt
    show 256 * n + 1 * (j 0).val = (256 * n + (j 0).val) % 8192
    rw [Nat.mod_eq_of_lt (by omega), Nat.one_mul]
  | ⟨1, _⟩ =>
    show 0 + 1 * (j 1).val = (j 1).val
    omega

/-! ## The while's label -/

section Label

variable (c : Dev nD) (i : grid0.Coords)
  (arg4 : Memref sig .tc .vmem S8192x128 .bf16) (harg4 : arg4.IsWhole) (arg5 : Memref sig .tc .vmem S8192x128 .bf16) (harg5 : arg5.IsWhole)
  (arg7 : Memref sig .tc .vmem S256x256 .bf16) (harg7 : arg7.IsWhole) (q : FVec F S512x128 .bf16)
  (arg8 : Memref sig .tc .vmem S512x1 .f32) (harg8 : arg8.IsWhole) (arg9 : Memref sig .tc .vmem S512x128 .f32) (harg9 : arg9.IsWhole)
  (x1 x2 : Vec F S8192x128 .bf16) (tri : Vec F S256x256 .bf16)

/-- What the label's function reads and writes: keys, values and the triangle at their contents, the state at `s`. -/
def held (s : St F) : sProp 𝕄 :=
  iprop(owns (c : Thread nD τ) arg4 fullShare x1 ∗ owns (c : Thread nD τ) arg5 fullShare x2 ∗ owns (c : Thread nD τ) arg7 fullShare tri
    ∗ owns (c : Thread nD τ) arg8 fullShare s.1 ∗ owns (c : Thread nD τ) arg9 fullShare s.2)

/-- The label's specification with `n` blocks to come. -/
def spec (n : ℕ) (live : BitVec 32) (s : St F) : sWPT 𝕄 (BitVec 32 × BitVec 32) := do
  sWPT.consume (held c arg4 arg5 arg7 arg8 arg9 x1 x2 tri s)
  let r ← sWPT.arbitrary
  sWPT.produce (held c arg4 arg5 arg7 arg8 arg9 x1 x2 tri (loopS q x1 x2 tri n live s))
  pure r

theorem spec_apply (n : ℕ) (live : BitVec 32) (s : St F) (K : BitVec 32 × BitVec 32 → sProp 𝕄) :
    spec c arg4 arg5 arg7 q arg8 arg9 x1 x2 tri n live s K
      = iprop(held c arg4 arg5 arg7 arg8 arg9 x1 x2 tri s ∗ ∀ r : BitVec 32 × BitVec 32,
          (held c arg4 arg5 arg7 arg8 arg9 x1 x2 tri (loopS q x1 x2 tri n live s) -∗ K r)) := rfl

theorem spec_le (E : Set ℕ) :
    ∀ n, n ≤ 32 → ∀ live s K, spec c arg4 arg5 arg7 q arg8 arg9 x1 x2 tri n live s K
      ⊢ wp frame (wpE (defs₀ (F := F)) Variants.nat (c : Thread nD τ) (some n)) E
          (defs₀ (F := F) .tc 1 ⟨i, arg4, harg4, arg5, harg5, arg7, harg7, q, arg8, harg8, arg9, harg9,
            Scalar.subi (BitVec.ofNat 32 n) 1#32, live⟩) K := by
  intro n
  induction n with
  | zero =>
    intro _ live s K
    rw [spec_apply]
    show _ ⊢ wp frame (wpE (defs₀ (F := F)) Variants.nat (c : Thread nD τ) (some 0)) E
      (cc0_while1 i arg4 harg4 arg5 harg5 arg7 harg7 q arg8 harg8 arg9 harg9 (Scalar.subi (BitVec.ofNat 32 0) 1#32) live) K
    simp only [cc0_while1_eq_skeleton]; unfold cc0_while1_skel
    have htest : ¬ (Scalar.andi (Scalar.cmpi .sge (Scalar.subi (BitVec.ofNat 32 0) 1#32) 0#32) (Scalar.cmpi .sgt live 0#32) = 1#1) := by
      have h0 : (Scalar.cmpi .sge (Scalar.subi (BitVec.ofNat 32 0) 1#32) 0#32) = 0#1 := by decide
      rw [h0]; simp [Scalar.andi, IntOp.andi]
    simp only [htest, ↓reduceIte, Prog.pure_eq_ret]
    iintro ⟨H, Hk⟩
    rw [wp_ret]; imodintro
    iapply Hk
    simp only [loopS]; iexact H
  | succ n ih =>
    intro hn live s K
    rw [spec_apply]
    have hsub : Scalar.subi (BitVec.ofNat 32 (n + 1)) 1#32 = BitVec.ofNat 32 n := by
      apply BitVec.eq_of_toNat_eq
      simp [Scalar.subi, IntOp.subi, BitVec.toNat_sub]
      omega
    rw [hsub]
    show _ ⊢ wp frame (wpE (defs₀ (F := F)) Variants.nat (c : Thread nD τ) (some (n + 1))) E
      (cc0_while1 i arg4 harg4 arg5 harg5 arg7 harg7 q arg8 harg8 arg9 harg9 (BitVec.ofNat 32 n) live) K
    simp only [cc0_while1_eq_skeleton]; unfold cc0_while1_skel
    have hge : ∀ k : Fin 32, Scalar.cmpi .sge (BitVec.ofNat 32 k.val) 0#32 = 1#1 := by decide
    by_cases hl : Scalar.cmpi .sgt live 0#32 = 1#1
    · have htest : Scalar.andi (Scalar.cmpi .sge (BitVec.ofNat 32 n) 0#32) (Scalar.cmpi .sgt live 0#32) = 1#1 := by
        rw [hge ⟨n, hn⟩, hl]; decide
      simp only [htest, ↓reduceIte, k0_part6_eq_skeleton]
      unfold held owns
      iintro ⟨⟨⟨%f1, %hf1, H1⟩, ⟨%f2, %hf2, H2⟩, ⟨%f7, %hf7, H7⟩, ⟨%f8, %hf8, H8⟩, ⟨%f9, %hf9, H9⟩⟩, Hk⟩
      obtain rfl := harg4.eq_unread hf1; obtain rfl := harg5.eq_unread hf2; obtain rfl := harg7.eq_unread hf7
      obtain rfl := harg8.eq_unread hf8; obtain rfl := harg9.eq_unread hf9
      sl_exec
      iapply (wp_assume Variants.nat (c : Thread nD τ) (some (n + 1)) E (chk_of_lt ⟨n, hn⟩))
      sl_exec
      have hk : View.readAt (Elt F) arg4.view (Rect.unit (s := S8192x128) (k0_off2 (BitVec.ofNat 32 n)) S256x128.size
          (k0_off2_inb _ (chk_of_lt ⟨n, hn⟩))).toLoadRect (harg4.unread x1) = krows x1 n :=
        load_rows harg4 x1 n hn (off2_eq ⟨n, hn⟩) _
      have hv : View.readAt (Elt F) arg5.view (Rect.unit (s := S8192x128) (k0_off2 (BitVec.ofNat 32 n)) S256x128.size
          (k0_off2_inb _ (chk_of_lt ⟨n, hn⟩))).toLoadRect (harg5.unread x2) = krows x2 n :=
        load_rows harg5 x2 n hn (off2_eq ⟨n, hn⟩) _
      have h8 : spec_le.sl.v259 c arg4 harg4 q arg8 harg8 x1 n hn s = (stepS q x1 x2 tri n s).1 := by
        unfold spec_le.sl.v259 spec_le.sl.H8_1 spec_le.sl.r
        refine (readCov_whole (s := S512x1) arg8.view off00 _ _ _).trans ?_
        rw [hk, load_whole (s := S512x1) _ _ off00, hf8]; rfl
      rw [h8]
      iapply (wp_call_spec Variants.nat (c : Thread nD τ) (some (n + 1)) E
        (spec c arg4 arg5 arg7 q arg8 arg9 x1 x2 tri n (liveOf (stepS q x1 x2 tri n s).1) (stepS q x1 x2 tri n s)) n
        (fun u hu => by cases hu; exact Nat.lt_succ_self n) (ih (by omega) _ _))
      rw [spec_apply]
      unfold held owns
      isplitl [H1 H2 H7 H8 H9]
      · isplitl [H1]
        · iexists _; isplitr; swap; · iexact H1
          ipureintro; exact hf1
        isplitl [H2]
        · iexists _; isplitr; swap; · iexact H2
          ipureintro; exact hf2
        isplitl [H7]
        · iexists _; isplitr; swap; · iexact H7
          ipureintro; exact hf7
        isplitl [H8]
        · iexists _; isplitr; swap; · iexact H8
          ipureintro
          unfold spec_le.sl.H8_1 spec_le.sl.r
          refine (read_store_whole (s := S512x1) arg8.view _ off00 _ _ _).trans ?_
          rw [hk, load_whole (s := S512x1) _ _ off00, hf8]; rfl
        iexists _; isplitr; swap; · iexact H9
        ipureintro
        refine (read_store_whole (s := S512x128) arg9.view _ off00 _ _ _).trans ?_
        rw [hk, hv, load_whole (s := S256x256) _ _ off00, load_whole (s := S512x1) _ _ off00, load_whole (s := S512x128) _ _ off00, hf7, hf8, hf9]; rfl
      iintro %r H
      rw [wp_ret]; imodintro
      iapply Hk
      simp only [loopS, if_pos hl]; iexact H
    · have htest : ¬ (Scalar.andi (Scalar.cmpi .sge (BitVec.ofNat 32 n) 0#32) (Scalar.cmpi .sgt live 0#32) = 1#1) := by
        rw [hge ⟨n, hn⟩, eq_zero_of_ne_one hl]; decide
      simp only [htest, ↓reduceIte, Prog.pure_eq_ret]
      iintro ⟨H, Hk⟩
      rw [wp_ret]; imodintro
      iapply Hk
      simp only [loopS, if_neg hl]; iexact H

end Label

/-! ## The whole body -/

/-- The body's queries: the scaled block, each head's lanes kept in its own half of the rows. -/
def qAll (x0 : Vec F S256x128 .bf16) : FVec F S512x128 .bf16 :=
  k0_pay6 (iota .tc S1x128 32 [1] iota_S1x128_d1_w32) (k0_pay4 x0) k0_pay5 0#32

abbrev rowI : IVec S256x256 32 := iota .tc S256x256 32 [0] iota_S256x256_d0_w32
abbrev colI : IVec S256x256 32 := iota .tc S256x256 32 [1] iota_S256x256_d1_w32

/-- The state after the diagonal block `n`. -/
def diagS (x0 : Vec F S256x128 .bf16) (x1 x2 : Vec F S8192x128 .bf16) (n : ℕ) : St F :=
  (k0_pay17 (k0_pay14 rowI colI (qAll x0) (krows x1 n)) k0_pay7,
   k0_pay16 (k0_pay10 (krows x2 n)) (k0_pay15 rowI colI (qAll x0) (krows x1 n) k0_pay3 k0_pay7) (k0_pay9 k0_pay8))

/-- The state after every block at or before the diagonal. -/
def endS (x0 : Vec F S256x128 .bf16) (x1 x2 : Vec F S8192x128 .bf16) (n : ℕ) : St F :=
  loopS (qAll x0) x1 x2 k0_pay3 n 1#32 (diagS x0 x1 x2 n)

/-- One head's 256 rows of the accumulator. -/
def accRows (o : ℕ) (a : Vec F S512x128 .f32) : Vec F S256x128 .f32 :=
  fun j => a (ix2 ⟨(o + (j 0).val) % 512, Nat.mod_lt _ (by decide)⟩ (j 1))

/-- What the body leaves in the output's staging buffer. -/
def bodyOut (x0 : Vec F S256x128 .bf16) (x1 x2 : Vec F S8192x128 .bf16) (n : ℕ) : Vec F S256x128 .bf16 :=
  k0_pay21 (iota .tc S1x128 32 [1] iota_S1x128_d1_w32) k0_pay18 (k0_pay19 (iota .tc S1x128 32 [1] iota_S1x128_d1_w32))
    (k0_pay20 (iota .tc S1x128 32 [1] iota_S1x128_d1_w32)) 1#32 (accRows 0 (endS x0 x1 x2 n).2) (accRows 256 (endS x0 x1 x2 n).2)

theorem off1_eq : ∀ (i : grid0.Coords), k0_off1 i = ![256 * (i 2).val, 0] := by
  intro i
  have h : (i 2).val < 32 := (i 2).isLt
  have : ∀ n : Fin 32, (![(Scalar.indexCast (Scalar.muli (BitVec.ofNat 32 n.val) 256#32) : Index).toNat, 0] : Fin 2 → ℕ)
      = ![256 * n.val, 0] := by decide
  exact this ⟨(i 2).val, h⟩

theorem load_accRows {M : Memref sig .tc .vmem S512x128 .f32} (f : M.view.ty.Contents (Elt F)) (a : Vec F S512x128 .f32)
    (ha : M.view.read (Elt F) f = a) (o : ℕ) (hn : o + 256 ≤ 512)
    (inb : ∀ d, (![o, 0] : Fin 2 → ℕ) d + S256x128.size d ≤ S512x128.size d) :
    M.view.readAt (Elt F) (Rect.unit (s := S512x128) ![o, 0] S256x128.size inb).toLoadRect f = accRows o a := by
  subst ha
  funext j
  rw [View.readAt_apply]
  refine congrArg (M.view.read (Elt F) f) (funext fun d => Fin.ext ?_)
  match d with
  | ⟨0, _⟩ =>
    have h : (j 0).val < 256 := (j 0).isLt
    show o + 1 * (j 0).val = (o + (j 0).val) % 512
    rw [Nat.mod_eq_of_lt (by omega), Nat.one_mul]
  | ⟨1, _⟩ =>
    show 0 + 1 * (j 1).val = (j 1).val
    omega

theorem bodyRun (c : Dev nD) (i : grid0.Coords) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S512x1 .f32) (harg8 : arg8.IsWhole) (arg9 : Memref sig .tc .vmem S512x128 .f32) (harg9 : arg9.IsWhole)
    (x0 : Vec F S256x128 .bf16) (x1 : Vec F S8192x128 .bf16) (x2 : Vec F S8192x128 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (bodyOut x0 x1 x2 (i 2).val) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.nat c none) E
          (cc0_sb_attention i arg3 harg3 arg4 harg4 arg5 harg5 arg6 harg6 arg7 harg7 arg8 harg8 arg9 harg9) K := by
  simp only [cc0_sb_attention_eq_skeleton]; unfold cc0_sb_attention_skel
  simp only [k0_part1_eq_skeleton, k0_part2_eq_skeleton, k0_part3_eq_skeleton, k0_part4_eq_skeleton, k0_part5_eq_skeleton]
  iintro ⟨H3, H4, H5, H6, H7, H8, H9, Hk⟩
  unfold owns
  icases H3 with ⟨%f3, %hf3, H3⟩
  icases H4 with ⟨%f4, %hf4, H4⟩
  icases H5 with ⟨%f5, %hf5, H5⟩
  icases H6 with ⟨%d6, %f6, -, H6⟩
  icases H7 with ⟨%d7, %f7, -, H7⟩
  icases H8 with ⟨%d8, %f8, -, H8⟩
  icases H9 with ⟨%d9, %f9, -, H9⟩
  obtain rfl := harg3.eq_unread hf3; obtain rfl := harg4.eq_unread hf4; obtain rfl := harg5.eq_unread hf5
  sl_exec
  have hq : bodyRun.sl.r_1 c arg3 harg3 x0 = qAll x0 := by
    unfold bodyRun.sl.r_1 bodyRun.sl.v0 bodyRun.sl.r qAll
    rw [load_whole (s := S256x128) _ _ off00, hf3]
  have hk : View.readAt (Elt F) arg4.view (Rect.unit (s := S8192x128) (k0_off1 i) S256x128.size (k0_off1_inb i)).toLoadRect
      (harg4.unread x1) = krows x1 (i 2).val := load_rows harg4 x1 _ (i 2).isLt (off1_eq i) _
  have hv : View.readAt (Elt F) arg5.view (Rect.unit (s := S8192x128) (k0_off1 i) S256x128.size (k0_off1_inb i)).toLoadRect
      (harg5.unread x2) = krows x2 (i 2).val := load_rows harg5 x2 _ (i 2).isLt (off1_eq i) _
  have h141 : bodyRun.sl.v141 i = Scalar.subi (BitVec.ofNat 32 (i 2).val) 1#32 := rfl
  have h8 : arg8.view.read (Elt F) (arg8.view.writes (Elt F) f8
      (⟨Rect.unit ![0, 0] S512x1.size inb_S512x1_S512x1_0_0,
          k0_pay17 (bodyRun.sl.r_4 c i arg3 harg3 arg4 harg4 x0 x1) (bodyRun.sl.v118 c arg8)⟩ ::
        bodyRun.sl.H8_1)) = (diagS x0 x1 x2 (i 2).val).1 := by
    refine (read_store_whole (s := S512x1) arg8.view _ off00 _ _ _).trans ?_
    unfold bodyRun.sl.r_4 bodyRun.sl.v118 bodyRun.sl.H8_1 bodyRun.sl.v1 bodyRun.sl.v2
    rw [hq, hk, readCov_whole (s := S512x1) arg8.view off00]; rfl
  have h9 : arg9.view.read (Elt F) (arg9.view.writes (Elt F) f9
      (⟨Rect.unit ![0, 0] S512x128.size inb_S512x128_S512x128_0_0,
          k0_pay16 (bodyRun.sl.r_3 c i arg5 harg5 x2) (bodyRun.sl.r_5 c i arg3 harg3 arg4 harg4 arg7 arg8 x0 x1)
            (bodyRun.sl.v124 c arg9)⟩ ::
        bodyRun.sl.H9_1)) = (diagS x0 x1 x2 (i 2).val).2 := by
    refine (read_store_whole (s := S512x128) arg9.view _ off00 _ _ _).trans ?_
    unfold bodyRun.sl.r_3 bodyRun.sl.r_5 bodyRun.sl.v124 bodyRun.sl.H9_1 bodyRun.sl.v118 bodyRun.sl.H8_1 bodyRun.sl.v94 bodyRun.sl.H7_1
      bodyRun.sl.v1 bodyRun.sl.v2
    rw [hq, hk, hv, readCov_whole (s := S512x128) arg9.view off00, readCov_whole (s := S512x1) arg8.view off00,
      readCov_whole (s := S256x256) arg7.view off00]; rfl
  have h7 : arg7.view.read (Elt F) (arg7.view.writes (Elt F) f7 bodyRun.sl.H7_1) = k0_pay3 := by
    unfold bodyRun.sl.H7_1
    exact read_store_whole (s := S256x256) arg7.view _ off00 _ _ _
  rw [hq, h141]
  iapply (wp_call_spec Variants.nat (c : Thread nD τ) none E
    (spec c arg4 arg5 arg7 (qAll x0) arg8 arg9 x1 x2 k0_pay3 (i 2).val 1#32 (diagS x0 x1 x2 (i 2).val)) (i 2).val
    (fun u hu => nomatch hu) (spec_le c i arg4 harg4 arg5 harg5 arg7 harg7 (qAll x0) arg8 harg8 arg9 harg9 x1 x2 k0_pay3 E (i 2).val
      (le_of_lt (i 2).isLt) _ _))
  rw [spec_apply]
  unfold held owns
  isplitl [H4 H5 H7 H8 H9]
  · isplitl [H4]
    · iexists _; isplitr; swap; · iexact H4
      ipureintro; exact hf4
    isplitl [H5]
    · iexists _; isplitr; swap; · iexact H5
      ipureintro; exact hf5
    isplitl [H7]
    · iexists _; isplitr; swap; · iexact H7
      ipureintro; exact h7
    isplitl [H8]
    · iexists _; isplitr; swap; · iexact H8
      ipureintro; exact h8
    iexists _; isplitr; swap; · iexact H9
    ipureintro; exact h9
  iintro %r ⟨H4, H5, H7, H8, ⟨%g9, %hg9, H9⟩⟩
  sl_exec
  have h6 : arg6.view.read (Elt F) (arg6.view.writes (Elt F) f6
      [⟨Rect.unit ![0, 0] ![256, 128] inb_S256x128_S256x128_0_0, bodyRun.sl.r_6 c arg9 g9⟩]) = bodyOut x0 x1 x2 (i 2).val := by
    refine (read_store_whole (s := S256x128) arg6.view _ off00 _ _ _).trans ?_
    unfold bodyRun.sl.r_6 bodyRun.sl.v0 bodyOut endS
    rw [load_accRows _ _ hg9 0 (by omega), load_accRows _ _ hg9 256 (by omega)]
  sl_step
  iapply Hk
  isplitl [H3]
  · iexists _; isplitr; swap; · iexact H3
    ipureintro; exact hf3
  isplitl [H4]; · iexact H4
  isplitl [H5]; · iexact H5
  isplitl [H6]
  · iexists _; isplitr; swap; · iexact H6
    ipureintro; exact h6
  isplitl [H7]; · iexists _; iexact H7
  isplitl [H8]; · iexists _; iexact H8
  iexists _; iexists _; isplitr; swap; · iexact H9
  ipureintro; rfl

end Cert.Proof.KI

end
-- ==== Proof.KI.Run.lean ====
/-
  The launch: the pipeline's proof data (every input window at its block, the output's at what the body computes), the
  body's obligation from the body's run, the run of @main, and the frame.
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameBody
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The TensorCore's buffers as the region finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem main_prefix (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The region finds the argument as launched. -/
theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Window `w`'s block at point `t`. -/
def blkAt (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-- What the output's staging buffer holds after point `t`. -/
def outAt (c : Dev nD) (t : Fin (cfg0 (F := F)).N) : Vec F S256x128 .bf16 :=
  bodyOut (blkAt m c 0 t) (blkAt m c 1 t) (blkAt m c 2 t) (grid0.coords t 2).val

/-! ## The proof data -/

def dats (_ : Fin 1) (c : Dev nD) : Dat τ (Elt F) Unit ℕ (UR sig nD τ) ℕ (cfg0 (F := F)) c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => outAt m c t
  Φ _ := Pipeline.ΦA spec0 c
  q w := Pipeline.shareOf spec0 w
  owed _ := 0

theorem dats_A (c : Dev nD) (w : Fin (cfg0 (F := F)).W) : (dats m 0 c).A w = V m c (Pipeline.arrRef spec0 w) := by unfold dats; rfl
theorem after_0 (c : Dev nD) (t : Fin (cfg0 (F := F)).N) : (dats m 0 c).after 0 t = blkAt m c 0 t := by unfold dats; rfl
theorem after_1 (c : Dev nD) (t : Fin (cfg0 (F := F)).N) : (dats m 0 c).after 1 t = blkAt m c 1 t := by unfold dats; rfl
theorem after_2 (c : Dev nD) (t : Fin (cfg0 (F := F)).N) : (dats m 0 c).after 2 t = blkAt m c 2 t := by unfold dats; rfl
theorem after_3 (c : Dev nD) (t : Fin (cfg0 (F := F)).N) : (dats m 0 c).after 3 t = outAt m c t := by unfold dats; rfl

theorem before_0 (c : Dev nD) (t : Fin (cfg0 (F := F)).N) (d) : (dats m 0 c).before 0 t d = blkAt m c 0 t :=
  ((dats m 0 c).before_in_eq_fetched 0 rfl (fun _ => rfl) (fun _ _ _ => rfl)
    (fun t => by rw [after_0]; unfold Dat.blockOf blkAt; rw [dats_A]; try rfl) t d).trans
    (by unfold Dat.fetched Dat.blockOf blkAt; rw [dats_A]; try rfl)
theorem before_1 (c : Dev nD) (t : Fin (cfg0 (F := F)).N) (d) : (dats m 0 c).before 1 t d = blkAt m c 1 t :=
  ((dats m 0 c).before_in_eq_fetched 1 rfl (fun _ => rfl) (fun _ _ _ => rfl)
    (fun t => by rw [after_1]; unfold Dat.blockOf blkAt; rw [dats_A]; try rfl) t d).trans
    (by unfold Dat.fetched Dat.blockOf blkAt; rw [dats_A]; try rfl)
theorem before_2 (c : Dev nD) (t : Fin (cfg0 (F := F)).N) (d) : (dats m 0 c).before 2 t d = blkAt m c 2 t :=
  ((dats m 0 c).before_in_eq_fetched 2 rfl (fun _ => rfl) (fun _ _ _ => rfl)
    (fun t => by rw [after_2]; unfold Dat.blockOf blkAt; rw [dats_A]; try rfl) t d).trans
    (by unfold Dat.fetched Dat.blockOf blkAt; rw [dats_A]; try rfl)

/-! ## The body's obligation -/

/-- The staging memrefs at point `t`. -/
abbrev st0 (t : Fin (cfg0 (F := F)).N) : Memref sig .tc .vmem S256x128 .bf16 := win0_0.stage (cfg0.slots t 0)
abbrev st1 (t : Fin (cfg0 (F := F)).N) : Memref sig .tc .vmem S8192x128 .bf16 := win0_1.stage (cfg0.slots t 1)
abbrev st2 (t : Fin (cfg0 (F := F)).N) : Memref sig .tc .vmem S8192x128 .bf16 := win0_2.stage (cfg0.slots t 2)
abbrev st3 (t : Fin (cfg0 (F := F)).N) : Memref sig .tc .vmem S256x128 .bf16 := win0_3.stage (cfg0.slots t 3)
/-- The scratch buffers. -/
abbrev sc0 : Memref sig .tc .vmem S256x256 .bf16 := Memref.whole cc0_scratch0
abbrev sc1 : Memref sig .tc .vmem S512x1 .f32 := Memref.whole cc0_scratch1
abbrev sc2 : Memref sig .tc .vmem S512x128 .f32 := Memref.whole cc0_scratch2

/-- The invariant, with the scratch buffers as memrefs owned at some contents. -/
theorem phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

def pre (c : Dev nD) (t : Fin (cfg0 (F := F)).N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def post (c : Dev nD) (t : Fin (cfg0 (F := F)).N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem body_ok (c : Dev nD) (t : Fin (cfg0 (F := F)).N) :
    pre m c t ⊢ wp frame (wpE (defs₀ (F := F)) Variants.nat c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, phi_eq]
  unfold outAt
  iintro ⟨⟨⟨HS0, HS1, HS2⟩, Hg⟩, Ho, ⟨%d0, H0⟩, ⟨%d1, H1⟩, ⟨%d2, H2⟩, ⟨%d3, H3⟩⟩
  iapply (bodyRun c (grid0.coords t) _ _ _ _ _ _ _ _ _ _ _ _ _ _ (blkAt m c 0 t) (blkAt m c 1 t) (blkAt m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

theorem row_eq (t : Fin (cfg0 (F := F)).N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.nat () Set.univ := fun t => by
  rw [bigSep_W0, bigSep_W0, row_eq]
  exact triple_restated (body_ok m c t) rfl .rfl fun _ => .rfl

/-! ## The run and the frame -/

set_option backward.isDefEq.respectTransparency.types false in
/-- Every run of @main ends, the arrays at what the proof data compute and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (obligation m c).loose) (hq := fun _ _ _ => rfl)
    (howed := fun _ _ => rfl) (V := V m) (hmain := main_prefix m Variants.nat) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0
    (Pipeline.mem_restRefs_of main_arg0 (by decide) (show ∀ w : Fin 4, (spec0 w).arr.view.ref ≠ main_arg0 by decide))).trans (V_arg m c), h.2⟩) (run_quiet m ρ)

end Cert.Proof.KI

end
-- ==== Proof.Val.Scalar.lean ====
/-
  Real numbers inside the extended reals, and the scalar functions of the stick-breaking weights: the cost of staying
  (`cst`, a softplus in base two) and its tail (`tl`).
-/
module

public import Idealize.ShloMosaic.PureOps.Ideal
public import Mathlib.Analysis.SpecialFunctions.Pow.Real

@[expose] public section

noncomputable section

namespace Cert.Proof.Val

open Idealize.ShloMosaic
open scoped BigOperators

theorem coe_sum' {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

theorem coe_abs' (a : ℝ) : max (a : EReal) (-(a : EReal)) = ((|a| : ℝ) : EReal) := by
  rw [← EReal.coe_neg, coe_max']; rfl

theorem coe_exp2 (a : ℝ) : Ideal.exp2 (a : EReal) = (((2 : ℝ) ^ a : ℝ) : EReal) := rfl

theorem coe_log {a : ℝ} (h : 0 < a) : Ideal.log (a : EReal) = ((Real.log a : ℝ) : EReal) := by
  rw [Ideal.log_coe, if_neg (not_le.2 h)]

/-- `log₂ (1 + 2^(-|x|))`. -/
def tl (x : ℝ) : ℝ := Real.log (1 + (2 : ℝ) ^ (-|x|)) * (Real.log 2)⁻¹

/-- `log₂ (1 + 2^x)`, by its stable form. -/
def cst (x : ℝ) : ℝ := max x 0 + tl x

/-- The exponent of a weight before the costs between. -/
def lead (x : ℝ) : ℝ := min x 0 - tl x

theorem tl_apply (x : ℝ) :
    Ideal.log (1 + Ideal.exp2 (0 - max (x : EReal) (-(x : EReal)))) * (((Real.log 2)⁻¹ : ℝ) : EReal) = ((tl x : ℝ) : EReal) := by
  have h : (0 : EReal) - ((|x| : ℝ) : EReal) = ((-|x| : ℝ) : EReal) := by
    rw [← EReal.coe_zero, ← EReal.coe_sub, zero_sub]
  have h1 : (1 : EReal) + (((2 : ℝ) ^ (-|x|) : ℝ) : EReal) = ((1 + (2 : ℝ) ^ (-|x|) : ℝ) : EReal) := by
    rw [← EReal.coe_one, ← EReal.coe_add]
  rw [coe_abs', h, coe_exp2, h1, coe_log (by positivity), ← EReal.coe_mul]; rfl

theorem cst_apply (x : ℝ) : max (x : EReal) 0 + ((tl x : ℝ) : EReal) = ((cst x : ℝ) : EReal) := by
  rw [← EReal.coe_zero, coe_max', ← EReal.coe_add]; rfl

theorem weight_apply (x b c : ℝ) :
    Ideal.exp2 (min (x : EReal) 0 - ((tl x : ℝ) : EReal) - (b : EReal) - (c : EReal)) = (((2 : ℝ) ^ (lead x - b - c) : ℝ) : EReal) := by
  rw [← EReal.coe_zero, coe_min', ← EReal.coe_sub, ← EReal.coe_sub, ← EReal.coe_sub, coe_exp2]; rfl

/-! ## The two scalar forms of the softplus -/

/-- The natural softplus in its stable form. -/
def sp (x : ℝ) : ℝ := max x 0 + Real.log (1 + Real.exp (-|x|))

theorem log2_ne : Real.log 2 ≠ 0 := (Real.log_pos (by norm_num)).ne'

theorem tl_eq (x : ℝ) : tl (x * (Real.log 2)⁻¹) = Real.log (1 + Real.exp (-|x|)) * (Real.log 2)⁻¹ := by
  have hp : 0 < Real.log 2 := Real.log_pos (by norm_num)
  unfold tl
  rw [Real.rpow_def_of_pos (by norm_num), abs_mul, abs_of_pos (inv_pos.2 hp)]
  congr 4
  field_simp

theorem cst_eq (x : ℝ) : cst (x * (Real.log 2)⁻¹) = sp x * (Real.log 2)⁻¹ := by
  have hp : 0 < Real.log 2 := Real.log_pos (by norm_num)
  unfold cst sp
  rw [tl_eq, add_mul, max_mul_of_nonneg _ _ (inv_pos.2 hp).le, zero_mul]

theorem lead_eq (x : ℝ) : lead (x * (Real.log 2)⁻¹) = -sp (-x) * (Real.log 2)⁻¹ := by
  have hp : 0 < Real.log 2 := Real.log_pos (by norm_num)
  unfold lead sp
  rw [tl_eq, abs_neg, neg_add, add_mul]
  have : min (x * (Real.log 2)⁻¹) 0 = min x 0 * (Real.log 2)⁻¹ := by
    rw [min_mul_of_nonneg _ _ (inv_pos.2 hp).le, zero_mul]
  rw [this]
  have h2 : -max (-x) 0 = min x 0 := by
    rw [← min_neg_neg, neg_neg, neg_zero]
  rw [h2]; ring

theorem pow_eq (y : ℝ) : (2 : ℝ) ^ (y * (Real.log 2)⁻¹) = Real.exp y := by
  rw [Real.rpow_def_of_pos (by norm_num)]
  congr 1
  have := log2_ne
  field_simp

end Cert.Proof.Val

end
-- ==== Proof.Val.Pay.lean ====
/-
  The kernel's payloads over the reals: at the ideal instance, on operands whose every element is a real number, each named
  value of the body read at an index.
-/
module

public import proofs.«01_k».proof.Proof.KI.Body
public import proofs.«01_k».proof.Proof.Val.Scalar
public import Idealize.ShloMosaic.Lib.Pointwise
public import Idealize.ShloMosaic.Lib.WordCmp

@[expose] public section

set_option maxRecDepth 16384

noncomputable section

namespace Cert.Proof.Val

open Cert.KernelIdeal Cert.KernelIdeal.Gen
open Idealize.ShloMosaic
open scoped BigOperators

/-- A rank-2 block whose every element is the real number a function names. -/
def IsR {n0 n1 : ℕ} (x : (⟨2, ![n0, n1]⟩ : Shape).Idx → EReal) (f : Fin n0 → Fin n1 → ℝ) : Prop :=
  ∀ r c, x (ix2 r c) = ((f r c : ℝ) : EReal)

section Block

variable {q : FVec Ideal S512x128 .bf16} {k v : Vec Ideal S256x128 .bf16} {c : Vec Ideal S512x1 .f32} {a : Vec Ideal S512x128 .f32}
  {qr : Fin 512 → Fin 128 → ℝ} {kr vr : Fin 256 → Fin 128 → ℝ} {cr : Fin 512 → Fin 1 → ℝ} {ar : Fin 512 → Fin 128 → ℝ}

/-- A row's score against a key. -/
def zz (qr : Fin 512 → Fin 128 → ℝ) (kr : Fin 256 → Fin 128 → ℝ) (r : Fin 512) (j : Fin 256) : ℝ := ∑ d : Fin 128, qr r d * kr j d

theorem pay11_isR (hq : IsR q qr) (hk : IsR k kr) : IsR (k0_pay11 q k) (zz qr kr) := by
  intro r j
  have h : k0_pay11 q k (ix2 r j) = ∑ d : Fin 128, q (ix2 r d) * k (ix2 j d) := by pointwise [k0_pay11]
  rw [h]
  unfold zz
  rw [← coe_sum']
  exact Finset.sum_congr rfl fun d _ => by rw [hq, hk, EReal.coe_mul]

theorem pay12_isR (hq : IsR q qr) (hk : IsR k kr) : IsR (k0_pay12 q k) (fun r j => tl (zz qr kr r j)) := by
  intro r j
  have h : k0_pay12 q k (ix2 r j) = Ideal.log (1 + Ideal.exp2 (0 - max (k0_pay11 q k (ix2 r j)) (-(k0_pay11 q k (ix2 r j)))))
      * (((Real.log 2)⁻¹ : ℝ) : EReal) := by
    pointwise [k0_pay12]
    rfl
  rw [h, pay11_isR hq hk, tl_apply]

theorem pay24_isR (hq : IsR q qr) (hk : IsR k kr) : IsR (k0_pay24 q k) (fun r j => cst (zz qr kr r j)) := by
  intro r j
  have h : k0_pay24 q k (ix2 r j) = max (k0_pay11 q k (ix2 r j)) 0 + k0_pay12 q k (ix2 r j) := by
    have e1 : k0_pay22 q k = k0_pay11 q k := rfl
    have e2 : k0_pay23 q k = k0_pay12 q k := rfl
    pointwise [k0_pay24, e1, e2]
  rw [h, pay11_isR hq hk, pay12_isR hq hk, cst_apply]

/-- The mask of the diagonal block: keys strictly before the row. -/
theorem pay13_apply (r : Fin 512) (j : Fin 256) :
    k0_pay13 KI.rowI KI.colI (ix2 r j) = if j.val < r.val % 256 then 1#1 else 0#1 := by
  have h : k0_pay13 KI.rowI KI.colI (ix2 r j) = IntOp.cmpi .slt (BitVec.ofNat 32 j.val) (BitVec.ofNat 32 (r.val % 256)) := by
    pointwise [k0_pay13]
    have := r.isLt
    split
    · rw [Nat.mod_eq_of_lt (by assumption)]
    · rw [Nat.mod_eq_sub_mod (by omega), Nat.mod_eq_of_lt (by omega)]
  rw [h]
  have hr : r.val % 256 < 256 := Nat.mod_lt _ (by decide)
  have := j.isLt
  rw [WordCmp.cmpi_slt_ofNat (by omega) (by omega)]
  split <;> simp [*]

theorem pay14_isR (hq : IsR q qr) (hk : IsR k kr) :
    IsR (k0_pay14 KI.rowI KI.colI q k) (fun r j => if j.val < r.val % 256 then cst (zz qr kr r j) else 0) := by
  intro r j
  have h : k0_pay14 KI.rowI KI.colI q k (ix2 r j)
      = Scalar.select (k0_pay13 KI.rowI KI.colI (ix2 r j)) (k0_pay24 q k (ix2 r j)) 0 := by
    have e1 : k0_pay22 q k = k0_pay11 q k := rfl
    have e2 : k0_pay23 q k = k0_pay12 q k := rfl
    pointwise [k0_pay14, k0_pay24, e1, e2]
  rw [h, pay13_apply, pay24_isR hq hk]
  dsimp only
  split <;> simp [Scalar.select]

/-- The triangle: one above the diagonal column. -/
theorem pay3_isR : IsR (k0_pay3 (F := Ideal)) (fun r j => if j.val < r.val then 1 else 0) := by
  intro r j
  have h : k0_pay3 (F := Ideal) (ix2 r j) = Scalar.select (IntOp.cmpi .sgt (BitVec.ofNat 32 r.val) (BitVec.ofNat 32 j.val)) 1 0 := by
    pointwise [k0_pay3]
  have := r.isLt
  have := j.isLt
  rw [h, WordCmp.cmpi_sgt_ofNat (by omega) (by omega)]
  dsimp only
  split <;> simp [*, Scalar.select]

/-- The rows' costs over a block of 256 keys. -/
theorem pay17_isR {m : FVec Ideal S512x256 .f32} {mr : Fin 512 → Fin 256 → ℝ} (hm : IsR m mr) (hc : IsR c cr) :
    IsR (k0_pay17 m c) (fun r o => cr r o + ∑ j : Fin 256, mr r j) := by
  intro r o
  have h : k0_pay17 m c (ix2 r o) = c (ix2 r o) + ∑ x : Fin 128, (m (ix2 r ⟨x.val, by omega⟩) + m (ix2 r ⟨128 + x.val, by omega⟩)) := by
    pointwise [k0_pay17]
  rw [h, hc]
  simp only [hm _ _, ← EReal.coe_add, coe_sum']
  congr 2
  rw [Finset.sum_add_distrib]
  exact (Fin.sum_univ_add (a := 128) (b := 128) (fun j => mr r j)).symm

theorem pay1_isR {m : FVec Ideal S512x256 .f32} {mr : Fin 512 → Fin 256 → ℝ} (hm : IsR m mr) (hc : IsR c cr) :
    IsR (k0_pay1 m c) (fun r o => cr r o + ∑ j : Fin 256, mr r j) := pay17_isR hm hc

/-- The diagonal block's weights. -/
theorem pay15_isR (hq : IsR q qr) (hk : IsR k kr) (hc : IsR c cr) :
    IsR (k0_pay15 KI.rowI KI.colI q k (k0_pay3 (F := Ideal)) c) (fun r j => if j.val < r.val % 256 then
      (2 : ℝ) ^ (lead (zz qr kr r j)
        - ∑ u : Fin 256, (if u.val < r.val % 256 then cst (zz qr kr r u) else 0) * (if j.val < u.val then 1 else 0) - cr r 0) else 0) := by
  intro r j
  have h : k0_pay15 KI.rowI KI.colI q k (k0_pay3 (F := Ideal)) c (ix2 r j)
      = Scalar.select (k0_pay13 KI.rowI KI.colI (ix2 r j))
        (Ideal.exp2 (min (k0_pay11 q k (ix2 r j)) 0 - k0_pay12 q k (ix2 r j)
          - ∑ x : Fin 256, k0_pay14 KI.rowI KI.colI q k (ix2 r x) * (k0_pay3 (F := Ideal) (ix2 x j) : EReal) - c (ix2 r 0))) 0 := by
    pointwise [k0_pay15]
    rfl
  rw [h, pay13_apply, pay11_isR hq hk, pay12_isR hq hk, hc]
  simp only [pay14_isR hq hk r _, pay3_isR _ j, ← EReal.coe_mul, coe_sum']
  rw [weight_apply]
  split <;> simp [Scalar.select]

theorem pay16_isR {m : FVec Ideal S512x256 .f32} {mr : Fin 512 → Fin 256 → ℝ} (hm : IsR m mr) (hv : IsR v vr) (ha : IsR a ar) :
    IsR (k0_pay16 v m a) (fun r l => ar r l + ∑ j : Fin 256, mr r j * vr j l) := by
  intro r l
  have h : k0_pay16 v m a (ix2 r l) = a (ix2 r l) + ∑ j : Fin 256, m (ix2 r j) * v (ix2 j l) := by
    pointwise [k0_pay16]
  rw [h, ha]
  simp only [hm r _, hv _ l, ← EReal.coe_mul, coe_sum', ← EReal.coe_add]

theorem pay25_isR (hq : IsR q qr) (hk : IsR k kr) (hv : IsR v vr) (hc : IsR c cr) (ha : IsR a ar) :
    IsR (k0_pay25 q k v (k0_pay3 (F := Ideal)) c a) (fun r l => ar r l + ∑ j : Fin 256,
      (2 : ℝ) ^ (lead (zz qr kr r j) - ∑ u : Fin 256, cst (zz qr kr r u) * (if j.val < u.val then 1 else 0) - cr r 0) * vr j l) := by
  intro r l
  have h : k0_pay25 q k v (k0_pay3 (F := Ideal)) c a (ix2 r l) = a (ix2 r l) + ∑ j : Fin 256,
      Ideal.exp2 (min (k0_pay11 q k (ix2 r j)) 0 - k0_pay12 q k (ix2 r j)
          - ∑ x : Fin 256, k0_pay24 q k (ix2 r x) * (k0_pay3 (F := Ideal) (ix2 x j) : EReal) - c (ix2 r 0)) * v (ix2 j l) := by
    have e1 : k0_pay22 q k = k0_pay11 q k := rfl
    have e2 : k0_pay23 q k = k0_pay12 q k := rfl
    pointwise [k0_pay25, e1, e2]
    rfl
  rw [h, ha]
  simp only [pay11_isR hq hk r _, pay12_isR hq hk r _, hc r 0, pay24_isR hq hk r _, pay3_isR _ _, hv _ l, ← EReal.coe_mul, coe_sum',
    weight_apply, ← EReal.coe_add]

theorem pay7_isR : IsR (k0_pay7 (F := Ideal)) (fun _ _ => 0) := by
  intro r o
  have h : k0_pay7 (F := Ideal) (ix2 r o) = 0 := by pointwise [k0_pay7]
  rw [h]; rfl

theorem pay9_isR : IsR (k0_pay9 (k0_pay8 (F := Ideal))) (fun _ _ => 0) := by
  intro r o
  have h : k0_pay9 (k0_pay8 (F := Ideal)) (ix2 r o) = 0 := by pointwise [k0_pay9, k0_pay8]
  rw [h]; rfl

theorem pay10_eq : k0_pay10 v = v := by
  unfold k0_pay10
  funext i
  obtain ⟨r, d, rfl⟩ : ∃ r d, i = ix2 r d := ⟨i 0, i 1, by funext a; match a with | ⟨0, _⟩ => rfl | ⟨1, _⟩ => rfl⟩
  pointwise []

/-- The least of real costs is below the value that stands for an exhausted stick, so the loop goes on. -/
theorem live_of_isR (hc : IsR c cr) : Scalar.cmpi .sgt (KI.liveOf c) 0#32 = 1#1 := by
  have h : k0_pay2 c < ⊤ := by
    have h : k0_pay2 c = Finset.fold min (Ideal.ofBits .f32 0x7F800000#32) (fun x : Fin 512 × Fin 1 => c (ix2 x.1 0)) Finset.univ := by
      pointwise [k0_pay2]
    rw [h, Finset.fold_min_lt]
    exact Or.inr ⟨(0, 0), Finset.mem_univ _, by rw [hc]; exact EReal.coe_lt_top _⟩
  have h2 : Scalar.cmpf .olt (k0_pay2 c) (Named.named κ "zero_cost" 0x43200000#32 : Ideal .f32) = 1#1 := by
    have e : (Named.named κ "zero_cost" 0x43200000#32 : Ideal .f32) = ⊤ := rfl
    rw [e]
    show BitVec.ofBool (decide (k0_pay2 c < ⊤)) = 1#1
    simp [h]
  unfold KI.liveOf
  rw [h2]
  decide

end Block

end Cert.Proof.Val

end
-- ==== Proof.Val.Row.lean ====
/-
  One row of the stick-breaking attention taken key block by key block, from the diagonal downwards: the arithmetic of the running
  cost and of the accumulator over real sums.
-/
module

public import proofs.«01_k».proof.Proof.Val.Scalar
public import Mathlib.Algebra.BigOperators.Intervals

@[expose] public section

noncomputable section

namespace Cert.Proof.Val

open Finset
open scoped BigOperators

/-- A sum over a block's positions between two bounds is the sum over the interval. -/
theorem sum_window {N : ℕ} (f : ℕ → ℝ) (b lo hi : ℕ) (h : hi ≤ N) :
    ∑ u : Fin N, (if lo ≤ u.val ∧ u.val < hi then f (b + u.val) else 0) = ∑ u ∈ Ico (b + lo) (b + hi), f u := by
  rw [Fin.sum_univ_eq_sum_range (fun u => if lo ≤ u ∧ u < hi then f (b + u) else 0) N, ← Finset.sum_filter]
  have e : (range N).filter (fun u => lo ≤ u ∧ u < hi) = Ico lo hi := by
    ext u; simp only [mem_filter, mem_range, mem_Ico]; omega
  rw [e, Finset.sum_Ico_add f lo hi b, Nat.add_comm lo, Nat.add_comm hi]

variable (z v : ℕ → ℝ)

/-- The cost of the keys from `a` to before `t`. -/
def costTo (t a : ℕ) : ℝ := ∑ u ∈ Ico a t, cst (z u)

/-- The weight of key `s` for a row at position `t`. -/
def wt (t s : ℕ) : ℝ := (2 : ℝ) ^ (lead (z s) - costTo z t (s + 1))

/-- The weighted values of the keys from `a` to before `t`. -/
def accTo (t a : ℕ) : ℝ := ∑ s ∈ Ico a t, wt z t s * v s

theorem cost_step (t m : ℕ) (h : 256 * (m + 1) ≤ t) :
    costTo z t (256 * (m + 1)) + ∑ j : Fin 256, cst (z (256 * m + j.val)) = costTo z t (256 * m) := by
  have h1 : ∑ j : Fin 256, cst (z (256 * m + j.val)) = ∑ u ∈ Ico (256 * m) (256 * (m + 1)), cst (z u) := by
    rw [show 256 * m = 256 * m + 0 from rfl, show 256 * (m + 1) = 256 * m + 256 by ring,
      ← sum_window (N := 256) (fun u => cst (z u)) (256 * m) 0 256 le_rfl]
    exact Finset.sum_congr rfl fun u _ => by rw [if_pos ⟨Nat.zero_le _, u.isLt⟩]; rfl
  rw [h1, add_comm]
  exact Finset.sum_Ico_consecutive _ (by omega) h

theorem weight_step (t m : ℕ) (h : 256 * (m + 1) ≤ t) (j : Fin 256) :
    (2 : ℝ) ^ (lead (z (256 * m + j.val)) - ∑ u : Fin 256, cst (z (256 * m + u.val)) * (if j.val < u.val then 1 else 0)
      - costTo z t (256 * (m + 1))) = wt z t (256 * m + j.val) := by
  have h1 : ∑ u : Fin 256, cst (z (256 * m + u.val)) * (if j.val < u.val then 1 else 0)
      = ∑ u ∈ Ico (256 * m + j.val + 1) (256 * (m + 1)), cst (z u) := by
    rw [show 256 * (m + 1) = 256 * m + 256 by ring, Nat.add_assoc,
      ← sum_window (N := 256) (fun u => cst (z u)) (256 * m) (j.val + 1) 256 le_rfl]
    refine Finset.sum_congr rfl fun u _ => ?_
    have := u.isLt
    by_cases hu : j.val < u.val
    · rw [if_pos hu, if_pos ⟨hu, u.isLt⟩, mul_one]
    · rw [if_neg hu, if_neg (fun h => hu h.1), mul_zero]
  unfold wt
  congr 1
  rw [h1, sub_sub]
  congr 1
  exact Finset.sum_Ico_consecutive _ (by have := j.isLt; omega) h

theorem acc_step (t m : ℕ) (h : 256 * (m + 1) ≤ t) :
    accTo z v t (256 * (m + 1)) + ∑ j : Fin 256,
      (2 : ℝ) ^ (lead (z (256 * m + j.val)) - ∑ u : Fin 256, cst (z (256 * m + u.val)) * (if j.val < u.val then 1 else 0)
        - costTo z t (256 * (m + 1))) * v (256 * m + j.val) = accTo z v t (256 * m) := by
  simp only [weight_step z t m h]
  have h1 : ∑ j : Fin 256, wt z t (256 * m + j.val) * v (256 * m + j.val)
      = ∑ u ∈ Ico (256 * m) (256 * (m + 1)), wt z t u * v u := by
    rw [show 256 * m = 256 * m + 0 from rfl, show 256 * (m + 1) = 256 * m + 256 by ring,
      ← sum_window (N := 256) (fun u => wt z t u * v u) (256 * m) 0 256 le_rfl]
    exact Finset.sum_congr rfl fun u _ => by rw [if_pos ⟨Nat.zero_le _, u.isLt⟩]; rfl
  rw [h1, add_comm]
  exact Finset.sum_Ico_consecutive _ (by omega) h

theorem cost_diag (n i : ℕ) (hi : i < 256) :
    0 + ∑ j : Fin 256, (if j.val < i then cst (z (256 * n + j.val)) else 0) = costTo z (256 * n + i) (256 * n) := by
  unfold costTo
  rw [zero_add, show Ico (256 * n) (256 * n + i) = Ico (256 * n + 0) (256 * n + i) from rfl,
    ← sum_window (N := 256) (fun u => cst (z u)) (256 * n) 0 i hi.le]
  exact Finset.sum_congr rfl fun u _ => by simp

theorem acc_diag (n i : ℕ) (hi : i < 256) :
    0 + ∑ j : Fin 256, (if j.val < i then
      (2 : ℝ) ^ (lead (z (256 * n + j.val)) - ∑ u : Fin 256, (if u.val < i then cst (z (256 * n + u.val)) else 0)
        * (if j.val < u.val then 1 else 0) - 0) else 0) * v (256 * n + j.val) = accTo z v (256 * n + i) (256 * n) := by
  unfold accTo
  rw [zero_add, show Ico (256 * n) (256 * n + i) = Ico (256 * n + 0) (256 * n + i) from rfl,
    ← sum_window (N := 256) (fun s => wt z (256 * n + i) s * v s) (256 * n) 0 i hi.le]
  refine Finset.sum_congr rfl fun j _ => ?_
  by_cases hj : j.val < i
  · rw [if_pos hj, if_pos ⟨Nat.zero_le _, hj⟩, sub_zero]
    congr 1
    unfold wt costTo
    congr 2
    rw [Nat.add_assoc, ← sum_window (N := 256) (fun u => cst (z u)) (256 * n) (j.val + 1) i hi.le]
    refine Finset.sum_congr rfl fun u _ => ?_
    by_cases h1 : u.val < i <;> by_cases h2 : j.val < u.val
    · rw [if_pos h1, if_pos h2, if_pos ⟨h2, h1⟩, mul_one]
    · rw [if_pos h1, if_neg h2, if_neg (fun h => h2 h.1), mul_zero]
    · rw [if_neg h1, zero_mul, if_neg (fun h => h1 h.2)]
    · rw [if_neg h1, zero_mul, if_neg (fun h => h1 h.2)]
  · rw [if_neg hj, if_neg (fun h => hj h.2), zero_mul]

end Cert.Proof.Val

end
-- ==== Proof.Val.Body.lean ====
/-
  What the kernel's body leaves at a grid point, over the reals: each row's weighted values of all keys before it.
-/
module

public import proofs.«01_k».proof.Proof.Val.Pay
public import proofs.«01_k».proof.Proof.Val.Row

@[expose] public section

set_option maxRecDepth 16384

noncomputable section

namespace Cert.Proof.Val

open Cert.KernelIdeal Cert.KernelIdeal.Gen
open Idealize.ShloMosaic
open scoped BigOperators

variable {x0 : Vec Ideal S256x128 .bf16} {x1 x2 : Vec Ideal S8192x128 .bf16}
  {f0 : Fin 256 → Fin 128 → ℝ} {f1 f2 : Fin 8192 → Fin 128 → ℝ}

/-- The scaled queries of the two heads, one head in each half of the rows. -/
def qR (f0 : Fin 256 → Fin 128 → ℝ) (r : Fin 512) (d : Fin 128) : ℝ :=
  if d.val / 64 = r.val / 256 then f0 ⟨r.val % 256, Nat.mod_lt _ (by decide)⟩ d * (1 / 8 * (Real.log 2)⁻¹) else 0

/-- Row `s` of the staged keys or values. -/
def keyR (f1 : Fin 8192 → Fin 128 → ℝ) (s : ℕ) (d : Fin 128) : ℝ := f1 ⟨s % 8192, Nat.mod_lt _ (by decide)⟩ d

/-- The score of row `r` against key `s`. -/
def scoreR (f0 : Fin 256 → Fin 128 → ℝ) (f1 : Fin 8192 → Fin 128 → ℝ) (r : Fin 512) (s : ℕ) : ℝ := ∑ d : Fin 128, qR f0 r d * keyR f1 s d

theorem krows_isR (h : IsR x1 f1) (n : ℕ) : IsR (KI.krows x1 n) (fun j d => keyR f1 (256 * n + j.val) d) := fun j d => h _ _

theorem pay4_isR (h : IsR x0 f0) : IsR (k0_pay4 x0) (fun r d => f0 r d * (1 / 8 * (Real.log 2)⁻¹)) := by
  intro r d
  have e : k0_pay4 x0 (ix2 r d) = x0 (ix2 r d) * (((1 / 8) * (Real.log 2)⁻¹ : ℝ) : EReal) := by
    pointwise [k0_pay4]
    rfl
  rw [e, h, ← EReal.coe_mul]

theorem pay5_apply (j : Fin 128) : k0_pay5 (ix2 0 j) = BitVec.ofNat 32 (j.val / 64) := by
  pointwise [k0_pay5]
  revert j
  decide +kernel

/-- The lane's head as the body computes it, a floor division of the lane by 64. -/
theorem laneHead (d : Fin 128) :
    Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d.val) 64#32) 0#32))
        (IntOp.subi (IntOp.divsi ArithUnit.vector (BitVec.ofNat 32 d.val) 64#32) 1#32)
        (IntOp.divsi ArithUnit.vector (BitVec.ofNat 32 d.val) 64#32) = BitVec.ofNat 32 (d.val / 64) := by
  revert d
  decide +kernel

theorem eqWord (a b : ℕ) (ha : a < 2) (hb : b < 2) :
    IntOp.cmpi .eq (BitVec.ofNat 32 a) (BitVec.ofNat 32 b) = if a = b then 1#1 else 0#1 := by
  have h : ∀ a b : Fin 2, IntOp.cmpi .eq (BitVec.ofNat 32 a.val) (BitVec.ofNat 32 b.val) = if a.val = b.val then 1#1 else 0#1 := by decide
  exact h ⟨a, ha⟩ ⟨b, hb⟩

theorem qAll_isR (h : IsR x0 f0) : IsR (KI.qAll x0) (qR f0) := by
  intro r d
  have hd : d.val / 64 < 2 := by have := d.isLt; omega
  have e : KI.qAll x0 (ix2 r d) = Scalar.select (IntOp.cmpi .eq (BitVec.ofNat 32 (d.val / 64)) (BitVec.ofNat 32 (r.val / 256)))
      (k0_pay4 x0 (ix2 ⟨r.val % 256, Nat.mod_lt _ (by decide)⟩ d)) 0 := by
    unfold KI.qAll
    pointwise [k0_pay6]
    have := r.isLt
    rw [laneHead, pay5_apply]
    split
    · rename_i hr
      rw [Nat.div_eq_of_lt hr]
      simp only [Nat.mod_eq_of_lt hr]
    · rename_i hr
      have h1 : r.val / 256 = 1 := by omega
      have h2 : r.val % 256 = r.val - 256 := by omega
      simp only [h1, h2]
  rw [e, eqWord _ _ hd (by have := r.isLt; omega), pay4_isR h]
  unfold qR
  split <;> simp [Scalar.select]

section Loop

variable {q : FVec Ideal S512x128 .bf16} {qr : Fin 512 → Fin 128 → ℝ}

theorem loop_isR (hq : IsR q qr) (h1 : IsR x1 f1) (h2 : IsR x2 f2) (t : Fin 512 → ℕ) :
    ∀ (n : ℕ) (live : BitVec 32) (s : KI.St Ideal), Scalar.cmpi .sgt live 0#32 = 1#1 → (∀ r, 256 * n ≤ t r) →
      IsR s.1 (fun r _ => costTo (fun u => ∑ d : Fin 128, qr r d * keyR f1 u d) (t r) (256 * n)) →
      IsR s.2 (fun r l => accTo (fun u => ∑ d : Fin 128, qr r d * keyR f1 u d) (fun u => keyR f2 u l) (t r) (256 * n)) →
      IsR (KI.loopS q x1 x2 (k0_pay3 (F := Ideal)) n live s).2
        (fun r l => accTo (fun u => ∑ d : Fin 128, qr r d * keyR f1 u d) (fun u => keyR f2 u l) (t r) 0)
  | 0, live, s, hl, ht, hc, ha => ha
  | n + 1, live, s, hl, ht, hc, ha => by
    have hk := krows_isR h1 n
    have hv := krows_isR h2 n
    have hc' : IsR (KI.stepS q x1 x2 (k0_pay3 (F := Ideal)) n s).1
        (fun r _ => costTo (fun u => ∑ d : Fin 128, qr r d * keyR f1 u d) (t r) (256 * n)) := fun r o => by
      refine (pay1_isR (pay24_isR hq hk) hc r o).trans (congrArg _ ?_)
      exact cost_step (fun u => ∑ d : Fin 128, qr r d * keyR f1 u d) (t r) n (ht r)
    have ha' : IsR (KI.stepS q x1 x2 (k0_pay3 (F := Ideal)) n s).2
        (fun r l => accTo (fun u => ∑ d : Fin 128, qr r d * keyR f1 u d) (fun u => keyR f2 u l) (t r) (256 * n)) := fun r l => by
      refine (pay25_isR hq hk hv hc ha r l).trans (congrArg _ ?_)
      exact acc_step (fun u => ∑ d : Fin 128, qr r d * keyR f1 u d) (fun u => keyR f2 u l) (t r) n (ht r)
    simp only [KI.loopS, if_pos hl]
    exact loop_isR hq h1 h2 t n _ _ (live_of_isR hc') (fun r => le_trans (by omega) (ht r)) hc' ha'

end Loop

theorem end_isR (h0 : IsR x0 f0) (h1 : IsR x1 f1) (h2 : IsR x2 f2) (n : ℕ) :
    IsR (KI.endS x0 x1 x2 n).2 (fun r l => accTo (scoreR f0 f1 r) (fun u => keyR f2 u l) (256 * n + r.val % 256) 0) := by
  have hq := qAll_isR h0
  have hk := krows_isR h1 n
  have hv := krows_isR h2 n
  refine loop_isR hq h1 h2 (fun r => 256 * n + r.val % 256) n _ _ (by decide) (fun r => Nat.le_add_right _ _) ?_ ?_
  · intro r o
    refine (pay17_isR (pay14_isR hq hk) pay7_isR r o).trans (congrArg _ ?_)
    exact cost_diag (scoreR f0 f1 r) n (r.val % 256) (Nat.mod_lt _ (by decide))
  · intro r l
    have hv' : IsR (k0_pay10 (KI.krows x2 n)) (fun j d => keyR f2 (256 * n + j.val) d) := by rw [pay10_eq]; exact hv
    refine (pay16_isR (pay15_isR hq hk pay7_isR) hv' pay9_isR r l).trans (congrArg _ ?_)
    exact acc_diag (scoreR f0 f1 r) (fun u => keyR f2 u l) n (r.val % 256) (Nat.mod_lt _ (by decide))

theorem bodyOut_isR (h0 : IsR x0 f0) (h1 : IsR x1 f1) (h2 : IsR x2 f2) (n : ℕ) :
    IsR (KI.bodyOut x0 x1 x2 n) (fun i l => accTo (scoreR f0 f1 ⟨256 * (l.val / 64) + i.val, by omega⟩) (fun u => keyR f2 u l) (256 * n + i.val) 0) := by
  intro i l
  have hl : l.val / 64 < 2 := by have := l.isLt; omega
  have e : KI.bodyOut x0 x1 x2 n (ix2 i l)
      = Scalar.select (IntOp.cmpi .eq (BitVec.ofNat 32 (l.val / 64)) (BitVec.ofNat 32 0)) (KI.accRows 0 (KI.endS x0 x1 x2 n).2 (ix2 i l)) 0
        + Scalar.select (IntOp.cmpi .eq (BitVec.ofNat 32 (l.val / 64)) (BitVec.ofNat 32 1)) (KI.accRows 256 (KI.endS x0 x1 x2 n).2 (ix2 i l)) 0 := by
    unfold KI.bodyOut
    pointwise [k0_pay21, k0_pay18, k0_pay19, k0_pay20]
    rw [laneHead]
  rw [e, eqWord _ _ hl (by decide), eqWord _ _ hl (by decide)]
  have hh := end_isR h0 h1 h2 n
  have hr : ∀ (o : ℕ) (w : ℕ), o = 256 * w → w = l.val / 64 → KI.accRows o (KI.endS x0 x1 x2 n).2 (ix2 i l)
      = ((accTo (scoreR f0 f1 ⟨256 * (l.val / 64) + i.val, by omega⟩) (fun u => keyR f2 u l) (256 * n + i.val) 0 : ℝ) : EReal) := by
    rintro o w rfl rfl
    have hi := i.isLt
    have e1 : (256 * (l.val / 64) + i.val) % 512 = 256 * (l.val / 64) + i.val := Nat.mod_eq_of_lt (by omega)
    have e2 : (256 * (l.val / 64) + i.val) % 256 = i.val := by omega
    refine (hh ⟨(256 * (l.val / 64) + i.val) % 512, Nat.mod_lt _ (by decide)⟩ l).trans ?_
    simp only [e1, e2]
  rcases (by omega : l.val / 64 = 0 ∨ l.val / 64 = 1) with h | h
  · rw [hr 0 0 rfl h.symm, if_pos h, if_neg (by omega)]
    simp [Scalar.select]
  · rw [hr 256 1 rfl h.symm, if_pos h, if_neg (by omega)]
    simp [Scalar.select]

end Cert.Proof.Val

end
-- ==== Proof.Val.Suffix.lean ====
/-
  The host's reversed running sum, over the reals: the window sum of a suffix.
-/
module

public import proofs.«01_k».proof.Proof.Val.Scalar
public import Idealize.ShloMosaic.PureOps.Ideal
public import Idealize.ShloMosaic.Lib.Pointwise.Index
public import Mathlib.Algebra.BigOperators.Intervals

@[expose] public section

noncomputable section

namespace Cert.Proof.Val

open Idealize.ShloMosaic
open scoped BigOperators

theorem foldl_add_coe {ι : Type} (l : List ι) (f : ι → EReal) (g : ι → ℝ) (h : ∀ a ∈ l, f a = ((g a : ℝ) : EReal)) (z : ℝ) :
    l.foldl (fun r a => r + f a) ((z : ℝ) : EReal) = ((z + (l.map g).sum : ℝ) : EReal) := by
  induction l generalizing z with
  | nil => simp
  | cons a l ih =>
    rw [List.foldl_cons, h a (by simp), ← EReal.coe_add, ih (fun b hb => h b (by simp [hb]))]
    rw [List.map_cons, List.sum_cons, add_assoc]

theorem numel4 (N : ℕ) : (⟨4, ![1, 1, 1, N]⟩ : Shape).numel = N := by
  simp [Shape.numel, Fin.prod_univ_four]

theorem symm4 {N : ℕ} (n : Fin (⟨4, ![1, 1, 1, N]⟩ : Shape).numel) :
    (⟨4, ![1, 1, 1, N]⟩ : Shape).rowMajor.symm n = ix4 (0 : Fin 1) (0 : Fin 1) (0 : Fin 1) (n.cast (numel4 N)) :=
  ((⟨4, ![1, 1, 1, N]⟩ : Shape).rowMajor.symm_apply_eq).2 (Fin.ext (by
    rw [Shape.rowMajor_val_four]
    simp))

theorem suffix_sum {A B C N Nm1 : ℕ} (hN : Nm1 + 1 = N) (x : (⟨4, ![A, B, C, N]⟩ : Shape).Idx → EReal) (g : ℕ → ℝ) (a : Fin A) (b : Fin B) (c : Fin C)
    (hx : ∀ s : Fin N, x (ix4 a b c s) = ((g s.val : ℝ) : EReal)) {u : Shape} (init : u.Idx → EReal)
    (h : (⟨4, ![A, B, C, N]⟩ : Shape).ReduceWindows (![1, 1, 1, N] : Fin 4 → ℕ) ![1, 1, 1, 1] ![0, 0, 0, 0] ![0, 0, 0, Nm1] ⟨4, ![A, B, C, N]⟩)
    (hu : 0 < u.numel) (hi : init (Shape.Idx.first hu) = 0) (j : Fin N) :
    Host.reduceWindow (fun r y : EReal => r + y) ![1, 1, 1, N] ![1, 1, 1, 1] ![0, 0, 0, 0] ![0, 0, 0, Nm1] x init h hu (ix4 a b c j)
      = ((∑ s ∈ Finset.Ico j.val N, g s : ℝ) : EReal) := by
  unfold Host.reduceWindow
  dsimp only
  rw [hi, ← EReal.coe_zero]
  refine (foldl_add_coe _ _ (fun n => if j.val + n.val < N then g (j.val + n.val) else 0) (fun n _ => ?_) 0).trans ?_
  · have hw0 : ((⟨4, ![1, 1, 1, N]⟩ : Shape).rowMajor.symm n 0).val = 0 := by rw [symm4]; rfl
    have hw1 : ((⟨4, ![1, 1, 1, N]⟩ : Shape).rowMajor.symm n 1).val = 0 := by rw [symm4]; rfl
    have hw2 : ((⟨4, ![1, 1, 1, N]⟩ : Shape).rowMajor.symm n 2).val = 0 := by rw [symm4]; rfl
    have hw3 : ((⟨4, ![1, 1, 1, N]⟩ : Shape).rowMajor.symm n 3).val = n.val := by rw [symm4]; rfl
    have ha := a.isLt
    have hb := b.isLt
    have hc := c.isLt
    split
    · next hin =>
      have h3 := hin 3
      change 0 ≤ j.val * 1 + ((⟨4, ![1, 1, 1, N]⟩ : Shape).rowMajor.symm n 3).val
        ∧ j.val * 1 + ((⟨4, ![1, 1, 1, N]⟩ : Shape).rowMajor.symm n 3).val - 0 < N at h3
      rw [hw3] at h3
      rw [if_pos (by omega)]
      refine (congrArg x (funext fun d => Fin.ext ?_)).trans (hx ⟨j.val + n.val, by omega⟩)
      match d with
      | ⟨0, _⟩ =>
        show a.val * 1 + ((⟨4, ![1, 1, 1, N]⟩ : Shape).rowMajor.symm n 0).val - 0 = a.val
        rw [hw0]; omega
      | ⟨1, _⟩ =>
        show b.val * 1 + ((⟨4, ![1, 1, 1, N]⟩ : Shape).rowMajor.symm n 1).val - 0 = b.val
        rw [hw1]; omega
      | ⟨2, _⟩ =>
        show c.val * 1 + ((⟨4, ![1, 1, 1, N]⟩ : Shape).rowMajor.symm n 2).val - 0 = c.val
        rw [hw2]; omega
      | ⟨3, _⟩ =>
        show j.val * 1 + ((⟨4, ![1, 1, 1, N]⟩ : Shape).rowMajor.symm n 3).val - 0 = j.val + n.val
        rw [hw3]; omega
    · next hin =>
      rw [if_neg fun hle => hin fun d => by
        match d with
        | ⟨0, _⟩ =>
          show 0 ≤ a.val * 1 + ((⟨4, ![1, 1, 1, N]⟩ : Shape).rowMajor.symm n 0).val
            ∧ a.val * 1 + ((⟨4, ![1, 1, 1, N]⟩ : Shape).rowMajor.symm n 0).val - 0 < A
          rw [hw0]; omega
        | ⟨1, _⟩ =>
          show 0 ≤ b.val * 1 + ((⟨4, ![1, 1, 1, N]⟩ : Shape).rowMajor.symm n 1).val
            ∧ b.val * 1 + ((⟨4, ![1, 1, 1, N]⟩ : Shape).rowMajor.symm n 1).val - 0 < B
          rw [hw1]; omega
        | ⟨2, _⟩ =>
          show 0 ≤ c.val * 1 + ((⟨4, ![1, 1, 1, N]⟩ : Shape).rowMajor.symm n 2).val
            ∧ c.val * 1 + ((⟨4, ![1, 1, 1, N]⟩ : Shape).rowMajor.symm n 2).val - 0 < C
          rw [hw2]; omega
        | ⟨3, _⟩ =>
          show 0 ≤ j.val * 1 + ((⟨4, ![1, 1, 1, N]⟩ : Shape).rowMajor.symm n 3).val
            ∧ j.val * 1 + ((⟨4, ![1, 1, 1, N]⟩ : Shape).rowMajor.symm n 3).val - 0 < N
          rw [hw3]; omega]
  · congr 1
    rw [zero_add, ← List.ofFn_eq_map, List.sum_ofFn,
      Fin.sum_univ_eq_sum_range (fun n => if j.val + n < N then g (j.val + n) else 0) (⟨4, ![1, 1, 1, N]⟩ : Shape).numel, numel4,
      ← Finset.sum_filter, Finset.sum_Ico_eq_sum_range]
    refine Finset.sum_congr ?_ fun _ _ => rfl
    ext n
    simp only [Finset.mem_filter, Finset.mem_range]
    omega

end Cert.Proof.Val

end
-- ==== Proof.Val.Ref.lean ====
/-
  The reference's value over the reals: its term read off operation by operation.
-/
module

public import proofs.«01_k».proof.Proof.Gen.ReferenceIdeal.Run
public import proofs.«01_k».proof.Proof.Val.Suffix
public import proofs.«01_k».proof.Proof.Val.Row
public import Idealize.ShloMosaic.Lib.Pointwise
public import Idealize.ShloMosaic.Lib.WordCmp
public import Idealize.ShloMosaic.Lib.IdealHost

@[expose] public section

set_option maxRecDepth 16384

noncomputable section

namespace Cert.Proof.Val

open Cert.ReferenceIdeal Cert.ReferenceIdeal.Gen
open Idealize.ShloMosaic
open scoped BigOperators

/-- The zeros a score is compared with. -/
def zero4 : FVec Ideal S2x8x8192x8192 .f32 := broadcastInDim S2x8x8192x8192 ![] bcast_S_S2x8x8192x8192 (constant S_ .f32 0x00000000#32)

/-- The mask of the keys before a row. -/
def past : IVec S2x8x8192x8192 1 := broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scaled scores. -/
def zRef (x : FVec Ideal S2x8192x3072 .f32) : FVec Ideal S2x8x8192x8192 .f32 :=
  mulf (Host.dotGeneral dot_S2x8x8192x64_S2x8x8192x64_S2x8x8192x8192_3_3_2_2_01_01 none (transpose S2x8x8192x64 [0, 2, 1, 3] (shapeCast _ (extractStridedSlice S2x8192x512 ![0, 0, 0] x slices_S2x8192x3072_S2x8192x512_0_0_0) shapeCasts_S2x8192x512_S2x8192x8x64) transposes_S2x8192x8x64_S2x8x8192x64_0_2_1_3) (transpose S2x8x8192x64 [0, 2, 1, 3] (shapeCast _ (extractStridedSlice S2x8192x512 ![0, 0, 512] x slices_S2x8192x3072_S2x8192x512_0_0_512) shapeCasts_S2x8192x512_S2x8192x8x64) transposes_S2x8192x8x64_S2x8x8192x64_0_2_1_3)) (broadcastInDim S2x8x8192x8192 ![] bcast_S_S2x8x8192x8192 (constant S_ .f32 0x3E000000#32))

/-- The logarithm of the logistic function, as the host computes it. -/
def lsg (y : FVec Ideal S2x8x8192x8192 .f32) : FVec Ideal S2x8x8192x8192 .f32 :=
  Host.negf (select (cmpf .une (subf (Host.negf y) zero4) (subf (Host.negf y) zero4)) (addf (Host.negf y) zero4) (addf (maximumf (Host.negf y) zero4) (Host.log1p (Host.exp (Host.negf (Host.absf (subf (Host.negf y) zero4)))))))

/-- The logarithms of staying, zero from the row on. -/
def stayRef (x : FVec Ideal S2x8192x3072 .f32) : FVec Ideal S2x8x8192x8192 .f32 :=
  select past (lsg (Host.negf (zRef x))) (broadcastInDim S2x8x8192x8192 ![] bcast_S_S2x8x8192x8192 (id (constant S_ .f32 0x00000000#32)))

/-- The weights. -/
def weightRef (x : FVec Ideal S2x8192x3072 .f32) : FVec Ideal S2x8x8192x8192 .f32 :=
  select past (Host.exp (addf (lsg (zRef x)) (subf (Host.reduceWindowAdd ![1, 1, 1, 8192] ![1, 1, 1, 1] ![0, 0, 0, 0] ![0, 0, 0, 8191] (stayRef x) (broadcastInDim S_ ![] bcast_S_S_ (constant S_ .f32 0x00000000#32)) reduceWindows_S2x8x8192x8192_S2x8x8192x8192_w1s1p0_0_w1s1p0_0_w1s1p0_0_w8192s1p0_8191 h_S_) (stayRef x)))) (broadcastInDim S2x8x8192x8192 ![] bcast_S_S2x8x8192x8192 (id (constant S_ .f32 0x00000000#32)))

/-- The reference's result as a function of its argument. -/
def refOut (x : FVec Ideal S2x8192x3072 .f32) : FVec Ideal S16384x512 .bf16 :=
  truncf .bf16 (shapeCast _ (shapeCast _ (transpose S2x8192x8x64 [0, 2, 1, 3] (Host.dotGeneral dot_S2x8x8192x8192_S2x8x8192x64_S2x8x8192x64_3_2_2_3_01_01 none (weightRef x) (transpose S2x8x8192x64 [0, 2, 1, 3] (shapeCast _ (extractStridedSlice S2x8192x512 ![0, 0, 1024] x slices_S2x8192x3072_S2x8192x512_0_0_1024) shapeCasts_S2x8192x512_S2x8192x8x64) transposes_S2x8192x8x64_S2x8x8192x64_0_2_1_3)) transposes_S2x8x8192x64_S2x8192x8x64_0_2_1_3) shapeCasts_S2x8192x8x64_S2x8192x512) shapeCasts_S2x8192x512_S16384x512) bitsLt_bf16_f32

theorem refOut_eq (m : (ℓ : Loc nD τ sig) → Buf (Elt Ideal) ℓ) (c : Dev nD) :
    Cert.ReferenceIdeal.Value.res_out0 m c = refOut (m ((c.tc : Thread nD τ).loc main_arg0)) := rfl

/-! ## Over the reals -/

theorem past_apply (b : Fin 2) (h : Fin 8) (t s : Fin 8192) : past (ix4 b h t s) = if s.val < t.val then 1#1 else 0#1 := by
  have e : past (ix4 b h t s) = IntOp.cmpi .slt (BitVec.ofNat 32 s.val) (BitVec.ofNat 32 t.val) := by pointwise [past]
  have := s.isLt
  have := t.isLt
  rw [e, WordCmp.cmpi_slt_ofNat (by omega) (by omega)]
  split <;> simp [*]

theorem ofBits_eighth : Ideal.ofBits .f32 0x3E000000#32 = (((1 : ℝ) / 8 : ℝ) : EReal) := by
  simp [Ideal.ofBits, Ideal.ieee, -EReal.coe_mul]; norm_num

theorem lsg_apply (y : FVec Ideal S2x8x8192x8192 .f32) (i : S2x8x8192x8192.Idx) (r : ℝ) (h : y i = ((r : ℝ) : EReal)) :
    lsg y i = ((-sp (-r) : ℝ) : EReal) := by
  have e : lsg y i = -(max (-y i) 0 + Ideal.log (1 + Ideal.exp (-(max (-y i) (-(-y i)))))) := by
    pointwise [lsg, zero4]
    rw [if_neg (fun h => h rfl)]
    rfl
  rw [e, h, ← EReal.coe_neg, coe_abs', ← EReal.coe_neg, ← EReal.coe_zero, coe_max', Ideal.exp_coe, ← EReal.coe_one, ← EReal.coe_add,
    coe_log (by positivity), ← EReal.coe_add, ← EReal.coe_neg]
  rfl

variable {x : FVec Ideal S2x8192x3072 .f32} {xr : Fin 2 → Fin 8192 → Fin 3072 → ℝ}

/-- The scaled score of head `h`'s row `t` against key `s`. -/
def zf (xr : Fin 2 → Fin 8192 → Fin 3072 → ℝ) (b : Fin 2) (h : Fin 8) (t s : Fin 8192) : ℝ :=
  (∑ d : Fin 64, xr b t ⟨h.val * 64 + d.val, by omega⟩ * xr b s ⟨512 + (h.val * 64 + d.val), by omega⟩) * (1 / 8)

/-- The same along the keys' numbers. -/
def zn (xr : Fin 2 → Fin 8192 → Fin 3072 → ℝ) (b : Fin 2) (h : Fin 8) (t : Fin 8192) (s : ℕ) : ℝ :=
  zf xr b h t ⟨s % 8192, Nat.mod_lt _ (by decide)⟩

theorem zRef_apply (hx : ∀ b s d, x (ix3 b s d) = ((xr b s d : ℝ) : EReal)) (b : Fin 2) (h : Fin 8) (t s : Fin 8192) :
    zRef x (ix4 b h t s) = ((zn xr b h t s.val : ℝ) : EReal) := by
  have e : zRef x (ix4 b h t s) = (∑ d : Fin 64, x (ix3 b t ⟨h.val * 64 + d.val, by omega⟩)
      * x (ix3 b s ⟨512 + (h.val * 64 + d.val), by omega⟩)) * Ideal.ofBits .f32 0x3E000000#32 := by
    pointwise [zRef]
  have e2 : zn xr b h t s.val = zf xr b h t s := by
    unfold zn
    congr 1
    exact Fin.ext (Nat.mod_eq_of_lt s.isLt)
  rw [e, ofBits_eighth, e2]
  simp only [hx, ← EReal.coe_mul, coe_sum']
  rfl

theorem stay_apply (hx : ∀ b s d, x (ix3 b s d) = ((xr b s d : ℝ) : EReal)) (b : Fin 2) (h : Fin 8) (t s : Fin 8192) :
    stayRef x (ix4 b h t s) = ((if s.val < t.val then -sp (zn xr b h t s.val) else 0 : ℝ) : EReal) := by
  have e : stayRef x (ix4 b h t s) = Scalar.select (past (ix4 b h t s)) (lsg (Host.negf (zRef x)) (ix4 b h t s)) 0 := by
    pointwise [stayRef]
    show Scalar.select _ _ (Ideal.ofBits .f32 0x00000000#32) = _
    rw [Ideal.ofBits_zero_f32]
  have e2 : lsg (Host.negf (zRef x)) (ix4 b h t s) = ((-sp (- -zn xr b h t s.val) : ℝ) : EReal) := by
    refine lsg_apply _ _ _ ?_
    show -(zRef x (ix4 b h t s)) = _
    rw [zRef_apply hx, EReal.coe_neg]
  rw [e, past_apply, e2, neg_neg]
  split <;> simp [Scalar.select]

/-- A weight of the reference, over the reals. -/
def wf (z : ℕ → ℝ) (t s : ℕ) : ℝ :=
  if s < t then Real.exp (-sp (-z s) + (∑ u ∈ Finset.Ico s 8192, (if u < t then -sp (z u) else 0) - (if s < t then -sp (z s) else 0))) else 0

theorem weightRef_apply (hx : ∀ b s d, x (ix3 b s d) = ((xr b s d : ℝ) : EReal)) (b : Fin 2) (h : Fin 8) (t s : Fin 8192) :
    weightRef x (ix4 b h t s) = ((wf (zn xr b h t) t.val s.val : ℝ) : EReal) := by
  have e : weightRef x (ix4 b h t s) = Scalar.select (past (ix4 b h t s))
      (Ideal.exp (lsg (zRef x) (ix4 b h t s)
        + (Host.reduceWindow (fun r y : EReal => r + y) ![1, 1, 1, 8192] ![1, 1, 1, 1] ![0, 0, 0, 0] ![0, 0, 0, 8191] (stayRef x)
            (fun _ : (⟨0, ![]⟩ : Shape).Idx => (0 : EReal))
            reduceWindows_S2x8x8192x8192_S2x8x8192x8192_w1s1p0_0_w1s1p0_0_w1s1p0_0_w8192s1p0_8191 h_S_ (ix4 b h t s)
          - stayRef x (ix4 b h t s)))) 0 := by
    pointwise [weightRef]
    have e0 : (id (constant (F := Ideal) S_ FTy.f32 0#32) ix0 : EReal) = 0 := Ideal.ofBits_zero_f32
    have e1 : ∀ i, (broadcastInDim S_ ![] bcast_S_S_ (constant (F := Ideal) S_ FTy.f32 0#32) i : EReal) = 0 := fun i => Ideal.ofBits_zero_f32
    have e2 : Host.reduceWindowAdd ![1, 1, 1, 8192] ![1, 1, 1, 1] ![0, 0, 0, 0] ![0, 0, 0, 8191] (stayRef x)
        (broadcastInDim S_ ![] bcast_S_S_ (constant S_ FTy.f32 0#32))
        reduceWindows_S2x8x8192x8192_S2x8x8192x8192_w1s1p0_0_w1s1p0_0_w1s1p0_0_w8192s1p0_8191 h_S_
        = Host.reduceWindow (fun r y : EReal => r + y) ![1, 1, 1, 8192] ![1, 1, 1, 1] ![0, 0, 0, 0] ![0, 0, 0, 8191] (stayRef x)
            (fun _ : (⟨0, ![]⟩ : Shape).Idx => (0 : EReal))
            reduceWindows_S2x8x8192x8192_S2x8x8192x8192_w1s1p0_0_w1s1p0_0_w1s1p0_0_w8192s1p0_8191 h_S_ := by
      unfold Host.reduceWindowAdd
      rw [Ideal.hostReduceWindowAdd_def, e1]
      rfl
    rw [e0, e2]
  rw [e, past_apply, lsg_apply _ _ _ (zRef_apply hx b h t s), stay_apply hx,
    suffix_sum (Nm1 := 8191) rfl (stayRef x) (fun u => if u < t.val then -sp (zn xr b h t u) else 0) b h t (fun s => stay_apply hx b h t s)
      _ _ _ rfl s,
    ← EReal.coe_sub, ← EReal.coe_add, Ideal.exp_coe]
  unfold wf
  split <;> simp [Scalar.select]

/-- The reference's weight is the kernel's. -/
theorem wf_eq (z : ℕ → ℝ) (t s : ℕ) (ht : t ≤ 8192) (hs : s < t) : wf z t s = wt (fun u => z u * (Real.log 2)⁻¹) t s := by
  unfold wf wt costTo
  rw [if_pos hs, if_pos hs]
  simp only [lead_eq, cst_eq]
  rw [← Finset.sum_mul, ← sub_mul, pow_eq]
  congr 1
  rw [← Finset.sum_Ico_consecutive _ hs.le ht, Finset.sum_eq_sum_Ico_succ_bot hs]
  have h1 : ∑ u ∈ Finset.Ico t 8192, (if u < t then -sp (z u) else 0) = 0 :=
    Finset.sum_eq_zero fun u hu => if_neg (not_lt.2 (Finset.mem_Ico.1 hu).1)
  have h2 : ∑ u ∈ Finset.Ico (s + 1) t, (if u < t then -sp (z u) else 0) = -∑ u ∈ Finset.Ico (s + 1) t, sp (z u) := by
    rw [← Finset.sum_neg_distrib]
    exact Finset.sum_congr rfl fun u hu => if_pos (Finset.mem_Ico.1 hu).2
  rw [h1, h2, if_pos hs]
  ring

/-- A row's weighted values, summed over all keys, are the sum over the keys before it. -/
theorem ref_sum (z v : ℕ → ℝ) (t N : ℕ) (hN : N ≤ 8192) (ht : t ≤ N) :
    ∑ s : Fin N, wf z t s.val * v s.val = accTo (fun u => z u * (Real.log 2)⁻¹) v t 0 := by
  rw [Fin.sum_univ_eq_sum_range (fun s => wf z t s * v s) N, Finset.range_eq_Ico, ← Finset.sum_Ico_consecutive _ (Nat.zero_le t) ht]
  have h1 : ∑ s ∈ Finset.Ico t N, wf z t s * v s = 0 := Finset.sum_eq_zero fun s hs => by
    unfold wf
    rw [if_neg (not_lt.2 (Finset.mem_Ico.1 hs).1), zero_mul]
  rw [h1, add_zero]
  exact Finset.sum_congr rfl fun s hs => by rw [wf_eq z t s (ht.trans hN) (Finset.mem_Ico.1 hs).2]

theorem refOut_apply (hx : ∀ b s d, x (ix3 b s d) = ((xr b s d : ℝ) : EReal)) (r : Fin 16384) (l : Fin 512)
    (b : Fin 2) (h : Fin 8) (t : Fin 8192) (w : Fin 3072) (hb : b.val = r.val / 8192) (hh : h.val = l.val / 64) (ht : t.val = r.val % 8192)
    (hw : w.val = 1024 + l.val) :
    refOut x (ix2 r l) = ((accTo (fun s => zn xr b h t s * (Real.log 2)⁻¹)
      (fun s => xr b ⟨s % 8192, Nat.mod_lt _ (by decide)⟩ w) t.val 0 : ℝ) : EReal) := by
  have e : refOut x (ix2 r l) = ∑ s : Fin 8192, weightRef x (ix4 ⟨r.val / 8192, by omega⟩ ⟨l.val / 64, by omega⟩
      ⟨r.val % 8192, Nat.mod_lt _ (by decide)⟩ s) * x (ix3 ⟨r.val / 8192, by omega⟩ s ⟨1024 + l.val, by omega⟩) := by
    pointwise [refOut]
  have eb : (⟨r.val / 8192, by omega⟩ : Fin 2) = b := Fin.ext hb.symm
  have eh : (⟨l.val / 64, by omega⟩ : Fin 8) = h := Fin.ext hh.symm
  have et : (⟨r.val % 8192, Nat.mod_lt _ (by decide)⟩ : Fin 8192) = t := Fin.ext ht.symm
  have ew : (⟨1024 + l.val, by omega⟩ : Fin 3072) = w := Fin.ext hw.symm
  rw [eb, eh, et, ew] at e
  rw [e]
  simp only [weightRef_apply hx, hx, ← EReal.coe_mul, coe_sum']
  rw [← ref_sum (zn xr b h t) _ t.val 8192 le_rfl t.isLt.le]
  refine congrArg _ (Finset.sum_congr rfl fun s _ => congrArg _ ?_)
  have es : (⟨s.val % 8192, Nat.mod_lt _ (by decide)⟩ : Fin 8192) = s := Fin.ext (Nat.mod_eq_of_lt s.isLt)
  rw [es]

end Cert.Proof.Val

end
-- ==== Proof.Val.Out.lean ====
/-
  The kernel's result array over the reals: each block the launch writes back is that block of the reference's value.
-/
module

public import proofs.«01_k».proof.Proof.KI.Run
public import proofs.«01_k».proof.Proof.Val.Body
public import proofs.«01_k».proof.Proof.Val.Ref
public import Idealize.ShloMosaic.Lib.Pipeline.ValueKit.Geometry

@[expose] public section

set_option maxRecDepth 16384

noncomputable section

namespace Cert.Proof.Val

open Cert.KernelIdeal Cert.KernelIdeal.Gen
open Idealize.ShloMosaic Idealize.ShloMosaic.TcCoe
open Idealize.SL.Sem
open scoped BigOperators

/-- A sum over the 128 lanes that keeps one head's is the sum over that head's 64. -/
theorem head_sum (g : Fin 128 → ℝ) (e : ℕ) (he : e < 2) :
    ∑ d : Fin 128, (if d.val / 64 = e then g d else 0) = ∑ d : Fin 64, g ⟨64 * e + d.val, by omega⟩ := by
  rw [Fin.sum_univ_add (a := 64) (b := 64) (fun d : Fin 128 => if d.val / 64 = e then g d else 0)]
  rcases (by omega : e = 0 ∨ e = 1) with rfl | rfl
  · have h2 : ∑ d : Fin 64, (if (Fin.natAdd 64 d : Fin 128).val / 64 = 0 then g (Fin.natAdd 64 d) else 0) = 0 :=
      Finset.sum_eq_zero fun d _ => if_neg (by have := d.isLt; simp only [Fin.val_natAdd]; omega)
    rw [h2, add_zero]
    refine Finset.sum_congr rfl fun d _ => ?_
    rw [if_pos (by have := d.isLt; simp only [Fin.val_castAdd]; omega)]
    congr 1
    exact Fin.ext (by simp)
  · have h1 : ∑ d : Fin 64, (if (Fin.castAdd 64 d : Fin 128).val / 64 = 1 then g (Fin.castAdd 64 d) else 0) = 0 :=
      Finset.sum_eq_zero fun d _ => if_neg (by have := d.isLt; simp only [Fin.val_castAdd]; omega)
    rw [h1, zero_add]
    refine Finset.sum_congr rfl fun d _ => ?_
    rw [if_pos (by have := d.isLt; simp only [Fin.val_natAdd]; omega)]
    congr 1

/-- The kernel's score of a row against a key is the reference's, in base two. -/
theorem score_eq (xr : Fin 2 → Fin 8192 → Fin 3072 → ℝ) (f0 : Fin 256 → Fin 128 → ℝ) (f1 : Fin 8192 → Fin 128 → ℝ)
    (b : Fin 2) (p : ℕ) (hp : p < 4) (e : ℕ) (he : e < 2) (i : Fin 256) (t : Fin 8192) (h : Fin 8) (hh : h.val = 2 * p + e)
    (h0 : ∀ d : Fin 128, f0 i d = xr b t ⟨128 * p + d.val, by omega⟩)
    (h1 : ∀ (s : Fin 8192) (d : Fin 128), f1 s d = xr b s ⟨512 + (128 * p + d.val), by omega⟩) (s : ℕ) :
    scoreR f0 f1 ⟨256 * e + i.val, by omega⟩ s = zn xr b h t s * (Real.log 2)⁻¹ := by
  have hi := i.isLt
  have e1 : (256 * e + i.val) / 256 = e := by omega
  have e2 : (⟨(256 * e + i.val) % 256, Nat.mod_lt _ (by decide)⟩ : Fin 256) = i := Fin.ext (by show _ % _ = _; omega)
  unfold scoreR qR keyR zn zf
  simp only [e1, e2, h0, h1, ite_mul, zero_mul]
  rw [head_sum (fun d => xr b t ⟨128 * p + d.val, by omega⟩ * (1 / 8 * (Real.log 2)⁻¹)
    * xr b ⟨s % 8192, Nat.mod_lt _ (by decide)⟩ ⟨512 + (128 * p + d.val), by omega⟩) e he, mul_assoc, Finset.sum_mul]
  refine Finset.sum_congr rfl fun d _ => ?_
  have i1 : (⟨128 * p + (64 * e + d.val), by omega⟩ : Fin 3072) = ⟨h.val * 64 + d.val, by omega⟩ := Fin.ext (by show 128 * p + (64 * e + d.val) = h.val * 64 + d.val; omega)
  have i2 : (⟨512 + (128 * p + (64 * e + d.val)), by omega⟩ : Fin 3072) = ⟨512 + (h.val * 64 + d.val), by omega⟩ :=
    Fin.ext (by show 512 + (128 * p + (64 * e + d.val)) = 512 + (h.val * 64 + d.val); omega)
  simp only [i1, i2]
  ring

variable (m : (ℓ : Loc nD τ sig) → Buf (Elt Ideal) ℓ)

theorem flat_apply (X : FVec Ideal S2x8192x3072 .f32) (r : Fin 16384) (d : Fin 3072) :
    shapeCast S16384x3072 (truncf (F := Ideal) .bf16 X bitsLt_bf16_f32) shapeCasts_S2x8192x3072_S16384x3072 (ix2 r d)
      = X (ix3 ⟨r.val / 8192, by omega⟩ ⟨r.val % 8192, Nat.mod_lt _ (by decide)⟩ d) := by
  pointwise []

/-- The region finds the projections' rows of the two batches one after the other. -/
theorem V_v1 (c : Dev nD) (r : Fin 16384) (d : Fin 3072) :
    KI.V m c main_v1 (ix2 r d) = (m ((c : Thread nD τ).loc main_arg0) : FVec Ideal S2x8192x3072 .f32)
      (ix3 ⟨r.val / 8192, by omega⟩ ⟨r.val % 8192, Nat.mod_lt _ (by decide)⟩ d) := by
  have e : KI.V m c main_v1 = shapeCast S16384x3072 (truncf (F := Ideal) .bf16 (m ((c : Thread nD τ).loc main_arg0)) bitsLt_bf16_f32)
      shapeCasts_S2x8192x3072_S16384x3072 := by
    unfold KI.V hostOps0
    after_results_simp <;> rfl
  rw [e]
  exact flat_apply _ r d

theorem idx0 : ∀ t : Fin (cfg0 (F := Ideal)).N, win0_0.index t = ![(grid0.coords t 0).val * 32 + (grid0.coords t 2).val, (grid0.coords t 1).val] :=
  (by decide +kernel : ∀ t : Fin grid0.N, _)
theorem idx1 : ∀ t : Fin (cfg0 (F := Ideal)).N, win0_1.index t = ![(grid0.coords t 0).val, 4 + (grid0.coords t 1).val] :=
  (by decide +kernel : ∀ t : Fin grid0.N, _)
theorem idx2 : ∀ t : Fin (cfg0 (F := Ideal)).N, win0_2.index t = ![(grid0.coords t 0).val, 8 + (grid0.coords t 1).val] :=
  (by decide +kernel : ∀ t : Fin grid0.N, _)
theorem idx3 : ∀ t : Fin (cfg0 (F := Ideal)).N, win0_3.index t = ![(grid0.coords t 0).val * 32 + (grid0.coords t 2).val, (grid0.coords t 1).val] :=
  (by decide +kernel : ∀ t : Fin grid0.N, _)
theorem coord_lt : ∀ t : Fin (cfg0 (F := Ideal)).N, (grid0.coords t 0).val < 2 ∧ (grid0.coords t 1).val < 4 ∧ (grid0.coords t 2).val < 32 :=
  (by decide +kernel : ∀ t : Fin grid0.N, _)

/-- The argument's elements as real numbers. -/
def IsR3 (X : FVec Ideal S2x8192x3072 .f32) (xr : Fin 2 → Fin 8192 → Fin 3072 → ℝ) : Prop :=
  ∀ b s d, X (ix3 b s d) = ((xr b s d : ℝ) : EReal)

variable {m} {xr : Fin 2 → Fin 8192 → Fin 3072 → ℝ} {c : Dev nD}

theorem V_isR (hx : IsR3 (m ((c : Thread nD τ).loc main_arg0)) xr) (r : Fin 16384) (d : Fin 3072) (b : Fin 2) (s : Fin 8192)
    (hr : r.val = b.val * 8192 + s.val) : KI.V m c main_v1 (ix2 r d) = ((xr b s d : ℝ) : EReal) := by
  have eb : (⟨r.val / 8192, by omega⟩ : Fin 2) = b := Fin.ext (by have := s.isLt; show r.val / 8192 = b.val; omega)
  have es : (⟨r.val % 8192, Nat.mod_lt _ (by decide)⟩ : Fin 8192) = s := Fin.ext (by have := s.isLt; show r.val % 8192 = s.val; omega)
  rw [V_v1, eb, es]
  exact hx b s d

theorem blk0_isR (hx : IsR3 (m ((c : Thread nD τ).loc main_arg0)) xr) (t : Fin (cfg0 (F := Ideal)).N) (b : Fin 2) (p : ℕ) (hp : p < 4) (n : ℕ) (hn : n < 32)
    (hb : (grid0.coords t 0).val = b.val) (hp' : (grid0.coords t 1).val = p) (hn' : (grid0.coords t 2).val = n) :
    IsR (KI.blkAt m c 0 t : Vec Ideal S256x128 .bf16) (fun r d => xr b ⟨256 * n + r.val, by omega⟩ ⟨128 * p + d.val, by omega⟩) := by
  intro r d
  refine Eq.trans ?_ (V_isR hx ⟨(b.val * 32 + n) * 256 + r.val, by omega⟩ ⟨128 * p + d.val, by omega⟩ b ⟨256 * n + r.val, by omega⟩
    (by show _ = b.val * 8192 + (256 * n + r.val); dsimp only; omega))
  show KI.V m c main_v1 (((cfg0.win 0).blk t).view.emb (ix2 r d)) = _
  congr 1
  have e := idx0 t
  blk_ext [e]

theorem blk1_isR (hx : IsR3 (m ((c : Thread nD τ).loc main_arg0)) xr) (t : Fin (cfg0 (F := Ideal)).N) (b : Fin 2) (p : ℕ) (hp : p < 4)
    (hb : (grid0.coords t 0).val = b.val) (hp' : (grid0.coords t 1).val = p) :
    IsR (KI.blkAt m c 1 t : Vec Ideal S8192x128 .bf16) (fun s d => xr b s ⟨512 + (128 * p + d.val), by omega⟩) := by
  intro r d
  refine Eq.trans ?_ (V_isR hx ⟨b.val * 8192 + r.val, by omega⟩ ⟨512 + (128 * p + d.val), by omega⟩ b r rfl)
  show KI.V m c main_v1 (((cfg0.win 1).blk t).view.emb (ix2 r d)) = _
  congr 1
  have e := idx1 t
  blk_ext [e]

theorem blk2_isR (hx : IsR3 (m ((c : Thread nD τ).loc main_arg0)) xr) (t : Fin (cfg0 (F := Ideal)).N) (b : Fin 2) (p : ℕ) (hp : p < 4)
    (hb : (grid0.coords t 0).val = b.val) (hp' : (grid0.coords t 1).val = p) :
    IsR (KI.blkAt m c 2 t : Vec Ideal S8192x128 .bf16) (fun s d => xr b s ⟨1024 + (128 * p + d.val), by omega⟩) := by
  intro r d
  refine Eq.trans ?_ (V_isR hx ⟨b.val * 8192 + r.val, by omega⟩ ⟨1024 + (128 * p + d.val), by omega⟩ b r rfl)
  show KI.V m c main_v1 (((cfg0.win 2).blk t).view.emb (ix2 r d)) = _
  congr 1
  have e := idx2 t
  blk_ext [e]

/-- What a grid point leaves in the output's staging buffer is the reference's value at the block's place. -/
theorem out_point (hx : IsR3 (m ((c : Thread nD τ).loc main_arg0)) xr) (t : Fin (cfg0 (F := Ideal)).N) (b : Fin 2) (p : ℕ) (hp : p < 4) (n : ℕ) (hn : n < 32)
    (hb : (grid0.coords t 0).val = b.val) (hp' : (grid0.coords t 1).val = p) (hn' : (grid0.coords t 2).val = n) (i : Fin 256) (l : Fin 128) :
    KI.outAt m c t (ix2 i l) = refOut (m ((c : Thread nD τ).loc main_arg0))
      (ix2 (⟨(b.val * 32 + n) * 256 + i.val, by omega⟩ : Fin 16384) (⟨p * 128 + l.val, by omega⟩ : Fin 512)) := by
  have hi := i.isLt
  have hl := l.isLt
  have e1 : KI.outAt m c t (ix2 i l) = _ := bodyOut_isR (blk0_isR hx t b p hp n hn hb hp' hn') (blk1_isR hx t b p hp hb hp')
    (blk2_isR hx t b p hp hb hp') (grid0.coords t 2).val i l
  have e2 := refOut_apply (x := m ((c : Thread nD τ).loc main_arg0)) hx (⟨(b.val * 32 + n) * 256 + i.val, by omega⟩ : Fin 16384)
    (⟨p * 128 + l.val, by omega⟩ : Fin 512) b ⟨2 * p + l.val / 64, by omega⟩ ⟨256 * n + i.val, by omega⟩ ⟨1024 + (128 * p + l.val), by omega⟩
    (by dsimp only; omega) (by dsimp only; omega) (by dsimp only; omega) (by dsimp only; omega)
  rw [e1, e2]
  refine congrArg _ ?_
  have hs : scoreR (fun r d => xr b ⟨256 * n + r.val, by omega⟩ ⟨128 * p + d.val, by omega⟩)
      (fun s d => xr b s ⟨512 + (128 * p + d.val), by omega⟩) ⟨256 * (l.val / 64) + i.val, by omega⟩
      = fun s => zn xr b ⟨2 * p + l.val / 64, by omega⟩ ⟨256 * n + i.val, by omega⟩ s * (Real.log 2)⁻¹ :=
    funext fun s => score_eq xr _ _ b p hp (l.val / 64) (by omega) i ⟨256 * n + i.val, by omega⟩ ⟨2 * p + l.val / 64, by omega⟩ rfl
      (fun d => rfl) (fun s d => rfl) s
  dsimp only
  rw [hs, hn']
  rfl

theorem covers : (win0_3 : Pipeline.Window sig grid0).Covers := by decide +kernel

/-- The result array at the launch's end. -/
theorem final (hx : IsR3 (m ((c : Thread nD τ).loc main_arg0)) xr) :
    (KI.dats m 0 c).arrAt 3 (cfg0 (F := Ideal)).N = refOut (m ((c : Thread nD τ).loc main_arg0)) := by
  refine (KI.dats m 0 c).arrAt_eq_of_covers 3 _ covers fun t hf y => ?_
  blk_simp
  rw [KI.after_3]
  obtain ⟨hb, hp, hn⟩ := coord_lt t
  obtain ⟨i, l, rfl⟩ : ∃ (i : Fin 256) (l : Fin 128), y = ix2 i l :=
    ⟨y 0, y 1, by funext a; match a with | ⟨0, _⟩ => rfl | ⟨1, _⟩ => rfl⟩
  refine (out_point hx t ⟨(grid0.coords t 0).val, hb⟩ _ hp _ hn rfl rfl rfl i l).trans ?_
  congr 1
  have e := idx3 t
  blk_ext [e]

end Cert.Proof.Val

end
-- ==== Proof.Val.Pre.lean ====
/-
  The precondition read back: every element of the argument is a real number.
-/
module

public import proofs.«01_k».proof.Proof.Gen.Pre_finite
public import proofs.«01_k».proof.Proof.Val.Out
public import Idealize.ShloMosaic.Lib.ReduceAll

@[expose] public section

noncomputable section

namespace Cert.Proof.Val

open Cert.Pre_finite Cert.Pre_finite.Gen
open Idealize.ShloMosaic

/-- An extended real whose absolute value compares below +∞ is a real number. -/
theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | coe r => exact ⟨r, rfl⟩
  | top => simp at hlt
  | bot => simp at hlt

/-- Where `finite` holds, the argument is an array of real numbers. -/
theorem real_of_finite (X : FVec Ideal S2x8192x3072 .f32) (h : Cert.Pre_finite.fn (F := Ideal) X = fun _ => 1#1) :
    ∃ xr : Fin 2 → Fin 8192 → Fin 3072 → ℝ, IsR3 X xr := by
  haveI : Subsingleton S_.Idx := ⟨fun a b => funext fun k => k.elim0⟩
  have hall : ∀ i, ∃ r : ℝ, X i = (r : EReal) := fun i =>
    real_of_olt (X i) (Host.reduce_andi_all _ _ _ _ (fun k => k.elim0) (congrFun h _) i)
  choose f hf using hall
  exact ⟨fun b s d => f (ix3 b s d), fun b s d => hf _⟩

end Cert.Proof.Val

end
-- ==== Proof.MoE.Body.lean ====
/-
  The experts' kernel body, case by case, with the values it leaves.
-/
module

public import proofs.«01_k».proof.Proof.Gen.Kernel2Ideal.Frame.RunA
public import proofs.«01_k».proof.Proof.Gen.Kernel2Ideal.Frame.RunB
public import proofs.«01_k».proof.Proof.Gen.Kernel2Ideal.Frame.RunC
public import proofs.«01_k».proof.Proof.Gen.Kernel2Ideal.Frame.RunD
public import Idealize.ShloMosaic.Lib.WritesUnit

@[expose] public section

set_option maxRecDepth 16384

noncomputable section

namespace Cert.Proof.MoE

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a point's tile reads of the table of live tiles. -/
abbrev liveW (c : Dev nD) (i : grid0.Coords) (xt1 : TbBuf0 (F := F) c tbM0_1) : BitVec 32 :=
  tbM0_1.view.readAt (Elt F) (Rect.unit (s := S72) (k0_off1 i) S1.size (k0_off1_inb i)).toLoadRect xt1 (Shape.Idx.first (numel1_S1.symm ▸ Nat.one_pos))

/-- What a memref reads after one store over the whole of it. -/
theorem read_stored {sp : Space} {s : Shape} {e : EltTy} (v : View sig .tc sp s e) (f : v.ty.Contents (Elt F))
    {off : Fin s.rank → ℕ} (h0 : off = fun _ => 0) (inb : ∀ a, off a + s.size a ≤ s.size a)
    (w : (Rect.unit off s.size inb).shape.Idx → Elt F e) (L : List (View.Piece (Elt F) s e)) :
    v.read (Elt F) (v.writes (Elt F) f ((⟨Rect.unit off s.size inb, w⟩ : View.Piece (Elt F) s e) :: L)) = w :=
  funext fun y => View.read_writes_cons_unit_of_mem v f inb w L y y h0 fun a => (Nat.zero_add _).symm

/-- A load of the whole of a memref reads it. -/
theorem load_all {sp : Space} {s : Shape} {e : EltTy} (v : View sig .tc sp s e) (f : v.ty.Contents (Elt F))
    {off : Fin s.rank → ℕ} (h0 : off = fun _ => 0) (inb : ∀ a, off a + s.size a ≤ s.size a) :
    v.readAt (Elt F) (Rect.unit off s.size inb).toLoadRect f = v.read (Elt F) f := by
  subst h0
  funext j
  rw [View.readAt_apply]
  exact congrArg (v.read (Elt F) f) (funext fun a => Fin.ext (by
    show 0 + 1 * (j a).val = (j a).val
    rw [Nat.zero_add, Nat.one_mul]))

/-- What a load of the whole of a memref reads after a store over the whole of it. -/
theorem load_stored {sp : Space} {s : Shape} {e : EltTy} (v : View sig .tc sp s e)
    {off : Fin s.rank → ℕ} (h0 : off = fun _ => 0) (inb : ∀ a, off a + s.size a ≤ s.size a)
    (w : (Rect.unit off s.size inb).shape.Idx → Elt F e) (L : List (View.Piece (Elt F) s e)) :
    v.readCov ((⟨Rect.unit off s.size inb, w⟩ : View.Piece (Elt F) s e) :: L) (Rect.unit off s.size inb).toLoadRect = w := by
  unfold View.readCov
  rw [load_all v _ h0, read_stored v _ h0]

theorem zero2 : (![0, 0] : Fin 2 → ℕ) = fun _ => 0 := by funext a; fin_cases a <;> rfl
theorem zero3 : (![0, 0, 0] : Fin 3 → ℕ) = fun _ => 0 := by funext a; fin_cases a <;> rfl

/-- What a load of the whole of a whole memref at contents `x` reads. -/
theorem load_unread {sp : Space} {s : Shape} {e : EltTy} {M : Memref sig .tc sp s e} (hM : M.IsWhole) (x : Vec F s e)
    {off : Fin s.rank → ℕ} (h0 : off = fun _ => 0) (inb : ∀ a, off a + s.size a ≤ s.size a) :
    M.view.readAt (Elt F) (Rect.unit off s.size inb).toLoadRect (hM.unread x) = x :=
  (load_all M.view _ h0 inb).trans (hM.read_unread x)

/-- The two carried scratch buffers: the tile's rows in bf16 and the accumulator. -/
abbrev St (F : FTy → Type) : Type := Vec F S512x1024 .bf16 × Vec F S512x1024 .f32

open Classical in
/-- What a live point adds to the state: the product of the point's half of the hidden width. -/
def addS (live : Prop) (x1 x2 : Vec F S1x1024x1792 .bf16) (x3 : Vec F S1x1792x1024 .bf16) (s : St F) : St F :=
  if live then (s.1, k0_pay3 s.1 x1 x2 s.2 x3) else s

/-- A tile's first state: its rows, and an accumulator of zeros. -/
def firstS (x0 : Vec F S512x1024 .f32) : St F := (k0_pay1 x0, k0_pay2)

section
variable (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32)

theorem read_A1 (hc0 : cond0_0 i) (hc2 : ¬cond0_2 i) (hc1 : cond0_1 i (liveW c i xt1)) (f) :
    arg9.view.read (Elt F) (arg9.view.writes (Elt F) f (kernelRun0_A c i arg4 harg4 arg5 harg5 arg6 harg6 arg7 harg7 arg8 harg8 arg9 harg9 arg10 harg10 hc0 hc2 x0 x1 x2 x3 xt0 xt1 hc1).2.1) = k0_pay1 x0 := by
  unfold kernelRun0_A
  dsimp only
  unfold kernelRun0_A.sl.HS0_1
  refine (read_stored (s := S512x1024) _ _ zero2 _ _ _).trans ?_
  rw [load_unread (s := S512x1024) harg4 x0 zero2]
theorem read_A2 (hc0 : cond0_0 i) (hc2 : ¬cond0_2 i) (hc1 : cond0_1 i (liveW c i xt1)) (f) :
    arg10.view.read (Elt F) (arg10.view.writes (Elt F) f (kernelRun0_A c i arg4 harg4 arg5 harg5 arg6 harg6 arg7 harg7 arg8 harg8 arg9 harg9 arg10 harg10 hc0 hc2 x0 x1 x2 x3 xt0 xt1 hc1).2.2.1) = k0_pay3 (k0_pay1 x0) x1 x2 k0_pay2 x3 := by
  unfold kernelRun0_A
  dsimp only
  refine (read_stored (s := S512x1024) _ _ zero2 _ _ _).trans ?_
  have h9 : kernelRun0_A.sl.v11 c arg4 harg4 arg9 x0 = k0_pay1 x0 := by
    unfold kernelRun0_A.sl.v11 kernelRun0_A.sl.HS0_1
    refine (load_stored (s := S512x1024) arg9.view zero2 _ _ _).trans ?_
    rw [load_unread (s := S512x1024) harg4 x0 zero2]
  have h10 : kernelRun0_A.sl.v22 c arg10 = (k0_pay2 (F := F)) := by
    unfold kernelRun0_A.sl.v22 kernelRun0_A.sl.HS1_1
    exact load_stored (s := S512x1024) arg10.view zero2 _ _ _
  rw [h9, h10, load_unread (s := S1x1024x1792) harg5 x1 zero3, load_unread (s := S1x1024x1792) harg6 x2 zero3,
    load_unread (s := S1x1792x1024) harg7 x3 zero3]
theorem read_B1 (hc0 : cond0_0 i) (hc2 : ¬cond0_2 i) (hc1 : ¬cond0_1 i (liveW c i xt1)) (f) :
    arg9.view.read (Elt F) (arg9.view.writes (Elt F) f (kernelRun0_B c i arg4 harg4 arg5 harg5 arg6 harg6 arg7 harg7 arg8 harg8 arg9 harg9 arg10 harg10 hc0 hc2 x0 x1 x2 x3 xt0 xt1 hc1).2.1) = k0_pay1 x0 := by
  unfold kernelRun0_B
  dsimp only
  refine (read_stored (s := S512x1024) _ _ zero2 _ _ _).trans ?_
  rw [load_unread (s := S512x1024) harg4 x0 zero2]
theorem read_B2 (hc0 : cond0_0 i) (hc2 : ¬cond0_2 i) (hc1 : ¬cond0_1 i (liveW c i xt1)) (f) :
    arg10.view.read (Elt F) (arg10.view.writes (Elt F) f (kernelRun0_B c i arg4 harg4 arg5 harg5 arg6 harg6 arg7 harg7 arg8 harg8 arg9 harg9 arg10 harg10 hc0 hc2 x0 x1 x2 x3 xt0 xt1 hc1).2.2.1) = k0_pay2 := by
  unfold kernelRun0_B
  dsimp only
  exact read_stored (s := S512x1024) _ _ zero2 _ _ _
theorem read_C2 (hc0 : ¬cond0_0 i) (hc2 : cond0_2 i) (hc1 : cond0_1 i (liveW c i xt1)) (f) :
    arg10.view.read (Elt F) (arg10.view.writes (Elt F) f (kernelRun0_C c i arg4 harg4 arg5 harg5 arg6 harg6 arg7 harg7 arg8 harg8 arg9 harg9 arg10 harg10 hc0 hc2 x0 x1 x2 x3 xt0 xt1 xs0 xs1 hc1).2.2.1) = k0_pay3 xs0 x1 x2 xs1 x3 := by
  unfold kernelRun0_C
  dsimp only
  unfold kernelRun0_C.sl.HS1_1
  refine (read_stored (s := S512x1024) _ _ zero2 _ _ _).trans ?_
  rw [load_unread (s := S512x1024) harg9 xs0 zero2, load_unread (s := S512x1024) harg10 xs1 zero2,
    load_unread (s := S1x1024x1792) harg5 x1 zero3, load_unread (s := S1x1024x1792) harg6 x2 zero3,
    load_unread (s := S1x1792x1024) harg7 x3 zero3]
theorem read_C4 (hc0 : ¬cond0_0 i) (hc2 : cond0_2 i) (hc1 : cond0_1 i (liveW c i xt1)) (f) :
    arg8.view.read (Elt F) (arg8.view.writes (Elt F) f (kernelRun0_C c i arg4 harg4 arg5 harg5 arg6 harg6 arg7 harg7 arg8 harg8 arg9 harg9 arg10 harg10 hc0 hc2 x0 x1 x2 x3 xt0 xt1 xs0 xs1 hc1).1) = k0_pay3 xs0 x1 x2 xs1 x3 := by
  unfold kernelRun0_C
  dsimp only
  refine (read_stored (s := S512x1024) _ _ zero2 _ _ _).trans ?_
  unfold kernelRun0_C.sl.v11 kernelRun0_C.sl.HS1_1
  refine (load_stored (s := S512x1024) arg10.view zero2 _ _ _).trans ?_
  rw [load_unread (s := S512x1024) harg9 xs0 zero2, load_unread (s := S512x1024) harg10 xs1 zero2,
    load_unread (s := S1x1024x1792) harg5 x1 zero3, load_unread (s := S1x1024x1792) harg6 x2 zero3,
    load_unread (s := S1x1792x1024) harg7 x3 zero3]
theorem read_D4 (hc0 : ¬cond0_0 i) (hc2 : cond0_2 i) (hc1 : ¬cond0_1 i (liveW c i xt1)) (f) :
    arg8.view.read (Elt F) (arg8.view.writes (Elt F) f (kernelRun0_D c i arg4 harg4 arg5 harg5 arg6 harg6 arg7 harg7 arg8 harg8 arg9 harg9 arg10 harg10 hc0 hc2 x0 x1 x2 x3 xt0 xt1 xs0 xs1 hc1).1) = xs1 := by
  unfold kernelRun0_D
  dsimp only
  refine (read_stored (s := S512x1024) _ _ zero2 _ _ _).trans ?_
  rw [load_unread (s := S512x1024) harg10 xs1 zero2]

/-- The body at a tile's first half: the rows staged, the accumulator set, and the first half's product added where the tile is live. -/
theorem run_first (hc0 : cond0_0 i) (hc2 : ¬cond0_2 i) (x4 : Vec F S512x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (addS (cond0_1 i (liveW c i xt1)) x1 x2 x3 (firstS x0)).1 ∗ owns (c : Thread nD τ) arg10 fullShare (addS (cond0_1 i (liveW c i xt1)) x1 x2 x3 (firstS x0)).2 ∗ tbPt0 c tbM0_0 xt0 ∗ tbPt0 c tbM0_1 xt1) -∗ K ⟨⟩))
      ⊢ wp frame (wpE (defs₀ (F := F)) Variants.none c none) E (cc0_expert_ffn i tbM0_0 htbM0_0 tbM0_1 htbM0_1 arg4 harg4 arg5 harg5 arg6 harg6 arg7 harg7 arg8 harg8 arg9 harg9 arg10 harg10) K := by
  by_cases hc1 : cond0_1 i (liveW c i xt1)
  · unfold addS firstS; rw [if_pos hc1]
    iintro ⟨H0, H1, H2, H3, H4, HS0, HS1, HT0, HT1, Hk⟩
    iapply ((kernelRun0_A c i arg4 harg4 arg5 harg5 arg6 harg6 arg7 harg7 arg8 harg8 arg9 harg9 arg10 harg10 hc0 hc2 x0 x1 x2 x3 xt0 xt1 hc1).2.2.2 x4 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, ⟨%e0, HS0⟩, ⟨%e1, HS1⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr; swap; · iexact HS0
      ipureintro; exact read_A1 c i arg4 harg4 arg5 harg5 arg6 harg6 arg7 harg7 arg8 harg8 arg9 harg9 arg10 harg10 x0 x1 x2 x3 xt0 xt1 hc0 hc2 hc1 _
    isplitl [HS1]
    · unfold owns; iexists _; isplitr; swap; · iexact HS1
      ipureintro; exact read_A2 c i arg4 harg4 arg5 harg5 arg6 harg6 arg7 harg7 arg8 harg8 arg9 harg9 arg10 harg10 x0 x1 x2 x3 xt0 xt1 hc0 hc2 hc1 _
    isplitl [HT0]; · iexact HT0
    iexact HT1
  · unfold addS firstS; rw [if_neg hc1]
    iintro ⟨H0, H1, H2, H3, H4, HS0, HS1, HT0, HT1, Hk⟩
    iapply ((kernelRun0_B c i arg4 harg4 arg5 harg5 arg6 harg6 arg7 harg7 arg8 harg8 arg9 harg9 arg10 harg10 hc0 hc2 x0 x1 x2 x3 xt0 xt1 hc1).2.2.2 x4 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, H4, ⟨%e0, HS0⟩, ⟨%e1, HS1⟩, HT0, HT1⟩
    iapply Hk
    isplitl [H0]; · iexact H0
    isplitl [H1]; · iexact H1
    isplitl [H2]; · iexact H2
    isplitl [H3]; · iexact H3
    isplitl [H4]; · iexact H4
    isplitl [HS0]
    · unfold owns; iexists _; isplitr; swap; · iexact HS0
      ipureintro; exact read_B1 c i arg4 harg4 arg5 harg5 arg6 harg6 arg7 harg7 arg8 harg8 arg9 harg9 arg10 harg10 x0 x1 x2 x3 xt0 xt1 hc0 hc2 hc1 _
    isplitl [HS1]
    · unfold owns; iexists _; isplitr; swap; · iexact HS1
      ipureintro; exact read_B2 c i arg4 harg4 arg5 harg5 arg6 harg6 arg7 harg7 arg8 harg8 arg9 harg9 arg10 harg10 x0 x1 x2 x3 xt0 xt1 hc0 hc2 hc1 _
    isplitl [HT0]; · iexact HT0
    iexact HT1

/-- The body at a tile's second half: the second half's product added where the tile is live, and the accumulator stored out. -/
theorem run_second (hc0 : ¬cond0_0 i) (hc2 : cond0_2 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ tbPt0 c tbM0_0 xt0 ∗ tbPt0 c tbM0_1 xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (addS (cond0_1 i (liveW c i xt1)) x1 x2 x3 (xs0, xs1)).2 ∗ owns (c : Thread nD τ) arg9 fullShare (addS (cond0_1 i (liveW c i xt1)) x1 x2 x3 (xs0, xs1)).1 ∗ owns (c : Thread nD τ) arg10 fullShare (addS (cond0_1 i (liveW c i xt1)) x1 x2 x3 (xs0, xs1)).2 ∗ tbPt0 c tbM0_0 xt0 ∗ tbPt0 c tbM0_1 xt1) -∗ K ⟨⟩))
      ⊢ wp frame (wpE (defs₀ (F := F)) Variants.none c none) E (cc0_expert_ffn i tbM0_0 htbM0_0 tbM0_1 htbM0_1 arg4 harg4 arg5 harg5 arg6 harg6 arg7 harg7 arg8 harg8 arg9 harg9 arg10 harg10) K := by
  by_cases hc1 : cond0_1 i (liveW c i xt1)
  · unfold addS; rw [if_pos hc1]
    iintro ⟨H0, H1, H2, H3, H4, HS0, HS1, HT0, HT1, Hk⟩
    iapply ((kernelRun0_C c i arg4 harg4 arg5 harg5 arg6 harg6 arg7 harg7 arg8 harg8 arg9 harg9 arg10 harg10 hc0 hc2 x0 x1 x2 x3 xt0 xt1 xs0 xs1 hc1).2.2.2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, ⟨%e4, H4⟩, HS0, ⟨%e1, HS1⟩, HT0, HT1⟩
    iapply Hk
    isplitl [H0]; · iexact H0
    isplitl [H1]; · iexact H1
    isplitl [H2]; · iexact H2
    isplitl [H3]; · iexact H3
    isplitl [H4]
    · unfold owns; iexists _; isplitr; swap; · iexact H4
      ipureintro; exact read_C4 c i arg4 harg4 arg5 harg5 arg6 harg6 arg7 harg7 arg8 harg8 arg9 harg9 arg10 harg10 x0 x1 x2 x3 xt0 xt1 xs0 xs1 hc0 hc2 hc1 _
    isplitl [HS0]; · iexact HS0
    isplitl [HS1]
    · unfold owns; iexists _; isplitr; swap; · iexact HS1
      ipureintro; exact read_C2 c i arg4 harg4 arg5 harg5 arg6 harg6 arg7 harg7 arg8 harg8 arg9 harg9 arg10 harg10 x0 x1 x2 x3 xt0 xt1 xs0 xs1 hc0 hc2 hc1 _
    isplitl [HT0]; · iexact HT0
    iexact HT1
  · unfold addS; rw [if_neg hc1]
    iintro ⟨H0, H1, H2, H3, H4, HS0, HS1, HT0, HT1, Hk⟩
    iapply ((kernelRun0_D c i arg4 harg4 arg5 harg5 arg6 harg6 arg7 harg7 arg8 harg8 arg9 harg9 arg10 harg10 hc0 hc2 x0 x1 x2 x3 xt0 xt1 xs0 xs1 hc1).2.2.2 E K)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HT0]; · iexact HT0
    isplitl [HT1]; · iexact HT1
    iintro ⟨H0, H1, H2, H3, ⟨%e4, H4⟩, HS0, HS1, HT0, HT1⟩
    iapply Hk
    isplitl [H0]; · iexact H0
    isplitl [H1]; · iexact H1
    isplitl [H2]; · iexact H2
    isplitl [H3]; · iexact H3
    isplitl [H4]
    · unfold owns; iexists _; isplitr; swap; · iexact H4
      ipureintro; exact read_D4 c i arg4 harg4 arg5 harg5 arg6 harg6 arg7 harg7 arg8 harg8 arg9 harg9 arg10 harg10 x0 x1 x2 x3 xt0 xt1 xs0 xs1 hc0 hc2 hc1 _
    isplitl [HS0]; · iexact HS0
    isplitl [HS1]; · iexact HS1
    isplitl [HT0]; · iexact HT0
    iexact HT1

end

end Cert.Proof.MoE

end
-- ==== Proof.MoE.Tables.lean ====
/-
  The host's look-ups before the experts' kernel: which expert a tile of rows takes, and whether it takes any.
-/
module

public import proofs.«01_k».proof.Proof.Gen.Kernel2Ideal.Frame.Runs
public import Idealize.ShloMosaic.Lib.Pointwise
public import Idealize.ShloMosaic.Lib.WordCmp

@[expose] public section

set_option maxRecDepth 16384

noncomputable section

namespace Cert.Proof.MoE

open Cert.Kernel2Ideal Cert.Kernel2Ideal.Gen
open Idealize.ShloMosaic Idealize.ShloMosaic.TcCoe
open scoped BigOperators

variable {F : FTy → Type} [FloatOps F]

/-- A word along the experts. -/
abbrev word8 (w : BitVec 32) : IVec S8 32 := broadcastInDim S8 ![] bcast_S_S8 (constantI S_ 32 w)

/-- A word along the tiles. -/
abbrev word72 (w : BitVec 32) : IVec S72 32 := broadcastInDim S72 ![] bcast_S_S72 (constantI S_ 32 w)

/-- The quotient by 512 rounded down, as the host computes it. -/
def floorDiv (x : IVec S8 32) : IVec S8 32 :=
  select (andi (cmpi .ne (signi x) (broadcastInDim S8 ![] bcast_S_S8 (signi (constantI S_ 32 512#32)))) (cmpi .ne (Host.remsi x (word8 512#32)) (word8 0#32)))
    (subi (Host.divsi x (word8 512#32)) (word8 1#32)) (Host.divsi x (word8 512#32))

/-- The running sum of the experts' padded row counts, from each count plus 511. -/
def endsOf (x : IVec S8 32) : IVec S8 32 :=
  Host.reduceWindow IntOp.addi ![8] ![1] ![7] ![0] (muli (floorDiv x) (word8 512#32)) (broadcastInDim S_ ![] bcast_S_S_ (constantI S_ 32 0#32)) reduceWindows_S8_S8_w8s1p7_0 h_S_

/-- Each tile's first row. -/
def tileStart : IVec S72 32 := muli (iotaInDim S72 32 0) (word72 512#32)

/-- The expert each tile takes. -/
def tileExpert (e : IVec S8 32) : IVec S72 32 :=
  minsi (Host.reduce IntOp.addi (extui 32 (cmpi .sge (broadcastInDim S72x8 ![0, 1] bcast_S72x1_S72x8_0_1 (broadcastInDim S72x1 ![0] bcast_S72_S72x1_0 tileStart))
    (broadcastInDim S72x8 ![0, 1] bcast_S1x8_S72x8_0_1 (broadcastInDim S1x8 ![1] bcast_S8_S1x8_1 e))) natLt_1_32) (constantI S_ 32 0#32) reducesTo_S72x8_S72_d1 h_S_) (word72 7#32)

/-- Whether a tile holds rows of an expert. -/
def tileLive (e : IVec S8 32) : IVec S72 32 :=
  extui 32 (cmpi .slt tileStart (broadcastInDim S72 ![] bcast_S_S72 (shapeCast S_ (extractStridedSlice S1 ![7] e slices_S8_S1_7) shapeCasts_S1_S_))) natLt_1_32

variable (m : (ℓ : Loc nD τ sig) → Buf (Elt F) ℓ)

/-- The experts' row counts plus 511, as the kernel's host code forms them. -/
def cntK (c : Dev nD) : IVec S8 32 := subi (addi (m ((c : Thread nD τ).loc main_arg1)) (word8 512#32)) (word8 1#32)

set_option maxHeartbeats 2000000 in
theorem V_v19 (c : Dev nD) : V m c main_v19 = tileExpert (endsOf (cntK m c)) := by
  unfold V
  simp only [List.flatten_cons, List.flatten_nil, List.append_nil, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp
  all_goals rfl

set_option maxHeartbeats 2000000 in
theorem V_v24 (c : Dev nD) : V m c main_v24 = tileLive (endsOf (cntK m c)) := by
  unfold V
  simp only [List.flatten_cons, List.flatten_nil, List.append_nil, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp
  all_goals rfl

set_option maxHeartbeats 2000000 in
theorem V_v25 (c : Dev nD) : V m c main_v25 = truncf .bf16 (m ((c : Thread nD τ).loc main_arg2)) bitsLt_bf16_f32 := by
  unfold V
  simp only [List.flatten_cons, List.flatten_nil, List.append_nil, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp
  all_goals rfl

set_option maxHeartbeats 2000000 in
theorem V_v26 (c : Dev nD) : V m c main_v26 = truncf .bf16 (m ((c : Thread nD τ).loc main_arg3)) bitsLt_bf16_f32 := by
  unfold V
  simp only [List.flatten_cons, List.flatten_nil, List.append_nil, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp
  all_goals rfl

set_option maxHeartbeats 2000000 in
theorem V_v27 (c : Dev nD) : V m c main_v27 = truncf .bf16 (m ((c : Thread nD τ).loc main_arg4)) bitsLt_bf16_f32 := by
  unfold V
  simp only [List.flatten_cons, List.flatten_nil, List.append_nil, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp
  all_goals rfl

/-! ## The tables' words -/

/-- A sum of conditions' bits counts where they hold. -/
theorem fold_count (p : Fin 8 → Prop) [DecidablePred p] (s : Finset (Fin 8)) :
    s.fold IntOp.addi 0#32 (fun x => BitVec.setWidth 32 (BitVec.ofBool (decide (p x)))) = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem (fun h' => ha (Finset.mem_filter.mp h').1), Nat.add_comm, BitVec.ofNat_add]
      simp [h, IntOp.addi]
    · rw [if_neg h]
      simp [h, IntOp.addi]

/-- How many of the experts end at or before row `w`. -/
def cnt (w : BitVec 32) (e : IVec S8 32) : ℕ := (Finset.univ.filter fun x : Fin 8 => (e (ix1 x)).toInt ≤ w.toInt).card

theorem cnt_le (w : BitVec 32) (e : IVec S8 32) : cnt w e ≤ 8 :=
  (Finset.card_le_univ _).trans (by simp)

/-- The word of a tile's first row. -/
def startW (t : Fin 72) : BitVec 32 := BitVec.ofNat 32 t.val * 512#32

theorem tileExpert_word (e : IVec S8 32) (t : Fin 72) : tileExpert e (ix1 t) = IntOp.minsi (BitVec.ofNat 32 (cnt (startW t) e)) 7#32 := by
  unfold cnt
  rw [← fold_count]
  pointwise [tileExpert, tileStart]
  rfl

theorem tileLive_word (e : IVec S8 32) (t : Fin 72) :
    tileLive e (ix1 t) = BitVec.setWidth 32 (BitVec.ofBool (decide ((startW t).toInt < (e (ix1 (7 : Fin 8))).toInt))) := by
  pointwise [tileLive, tileStart]
  rfl

theorem minsi_le : ∀ n : Fin 9, (IntOp.minsi (BitVec.ofNat 32 n.val) 7#32).toNat ≤ 7 := by decide

theorem tileExpert_le (e : IVec S8 32) (t : Fin 72) : (tileExpert e (ix1 t)).toNat ≤ 7 := by
  rw [tileExpert_word]
  exact minsi_le ⟨cnt (startW t) e, Nat.lt_succ_of_le (cnt_le _ _)⟩

theorem tileExpert_le' (e : IVec S8 32) (y : S72.Idx) : (tileExpert e y).toNat ≤ 7 := by
  have : y = ix1 (y 0) := by funext a; fin_cases a; rfl
  rw [this]
  exact tileExpert_le e _

/-! ## The blocks are inside their arrays -/

theorem coord_word : ∀ i : Fin 2, (BitVec.ofNat 32 i.val).toNat = i.val := by decide

theorem inb_gate (w : BitVec 32) (hw : w.toNat ≤ 7) (j : Fin 2) :
    ∀ a : Fin 3, ((![w.toNat, (0#32).toNat, (BitVec.ofNat 32 j.val).toNat] : Fin 3 → ℕ) a + 1) * S1x1024x1792.size a ≤ S8x1024x3584.size a := by
  intro a
  have hj := j.isLt
  fin_cases a
  · show (w.toNat + 1) * 1 ≤ 8; omega
  · show (0 + 1) * 1024 ≤ 1024; omega
  · show ((BitVec.ofNat 32 j.val).toNat + 1) * 1792 ≤ 3584
    rw [coord_word]; omega

theorem inb_down (w : BitVec 32) (hw : w.toNat ≤ 7) (j : Fin 2) :
    ∀ a : Fin 3, ((![w.toNat, (BitVec.ofNat 32 j.val).toNat, (0#32).toNat] : Fin 3 → ℕ) a + 1) * S1x1792x1024.size a ≤ S8x3584x1024.size a := by
  intro a
  have hj := j.isLt
  fin_cases a
  · show (w.toNat + 1) * 1 ≤ 8; omega
  · show ((BitVec.ofNat 32 j.val).toNat + 1) * 1792 ≤ 3584
    rw [coord_word]; omega
  · show (0 + 1) * 1024 ≤ 1024; omega

theorem tbl_0 : tbl m 0 = tileExpert (endsOf (cntK m (0 : Dev nD))) := V_v19 m 0
theorem tbl_1 : tbl m 1 = tileLive (endsOf (cntK m (0 : Dev nD))) := V_v24 m 0

theorem tbl_le (y : S72.Idx) : ((tbl m 0 : IVec S72 32) y).toNat ≤ 7 := by
  rw [show (tbl m 0 : IVec S72 32) = _ from tbl_0 m]
  exact tileExpert_le' _ y

/-- Whatever the memory, every block the tables name is inside its array. -/
theorem ok : Ok m := by
  unfold Ok ok0
  refine ⟨fun i => ⟨inb_gate _ (tbl_le m _) (i 1), .inr (Affine.block_words_dvd (of_decide_eq_true rfl) (by decide))⟩,
    fun i => ⟨inb_gate _ (tbl_le m _) (i 1), .inr (Affine.block_words_dvd (of_decide_eq_true rfl) (by decide))⟩,
    fun i => ⟨inb_down _ (tbl_le m _) (i 1), .inr (Affine.block_words_dvd (of_decide_eq_true rfl) (by decide))⟩⟩

/-! ## The experts' ends are multiples of a tile -/

theorem foldl_dvd {ι : Type} (l : List ι) (f : ι → BitVec 32) (h : ∀ a, (f a).toNat % 512 = 0) (z : BitVec 32) (hz : z.toNat % 512 = 0) :
    (l.foldl (fun r a => IntOp.addi r (f a)) z).toNat % 512 = 0 := by
  induction l generalizing z with
  | nil => exact hz
  | cons a l ih =>
    refine ih _ ?_
    show (z + f a).toNat % 512 = 0
    have := h a
    rw [BitVec.toNat_add]
    omega

theorem ends_dvd (x : IVec S8 32) (y : S8.Idx) : (endsOf x y).toNat % 512 = 0 := by
  unfold endsOf Host.reduceWindow
  dsimp only
  refine foldl_dvd _ _ (fun n => ?_) _ rfl
  split
  · show (floorDiv x _ * 512#32).toNat % 512 = 0
    rw [BitVec.toNat_mul]
    show _ * 512 % 2 ^ 32 % 512 = 0
    omega
  · rfl

theorem toInt_dvd (w : BitVec 32) (h : w.toNat % 512 = 0) : w.toInt % 512 = 0 := by
  rw [BitVec.toInt_eq_toNat_cond]
  split <;> omega

/-- Row `r` of tile `t` as a word. -/
def rowW (t : Fin 72) (r : Fin 512) : BitVec 32 := BitVec.ofNat 32 (512 * t.val + r.val)

theorem rowW_toInt (t : Fin 72) (r : Fin 512) : (rowW t r).toInt = 512 * t.val + r.val := by
  have ht := t.isLt
  have hr := r.isLt
  unfold rowW
  rw [BitVec.toInt_eq_toNat_cond, BitVec.toNat_ofNat, Nat.mod_eq_of_lt (by omega), if_pos (by omega)]
  push_cast
  rfl

theorem startW_toInt (t : Fin 72) : (startW t).toInt = 512 * t.val := by
  have ht := t.isLt
  unfold startW
  have e : (BitVec.ofNat 32 t.val * 512#32).toNat = 512 * t.val := by
    rw [BitVec.toNat_mul, BitVec.toNat_ofNat, Nat.mod_eq_of_lt (show t.val < 2 ^ 32 by omega)]
    show t.val * 512 % 2 ^ 32 = _
    omega
  rw [BitVec.toInt_eq_toNat_cond, e, if_pos (by omega)]
  push_cast
  rfl

/-- An end that is a multiple of a tile is at or before a row exactly when it is at or before the row's tile. -/
theorem le_row (w : BitVec 32) (h : w.toNat % 512 = 0) (t : Fin 72) (r : Fin 512) : w.toInt ≤ (rowW t r).toInt ↔ w.toInt ≤ (startW t).toInt := by
  have := toInt_dvd w h
  have hr := r.isLt
  rw [rowW_toInt, startW_toInt]
  omega

theorem lt_row (w : BitVec 32) (h : w.toNat % 512 = 0) (t : Fin 72) (r : Fin 512) : (rowW t r).toInt < w.toInt ↔ (startW t).toInt < w.toInt := by
  have := le_row w h t r
  omega

theorem cnt_rowW (x : IVec S8 32) (t : Fin 72) (r : Fin 512) : cnt (rowW t r) (endsOf x) = cnt (startW t) (endsOf x) := by
  unfold cnt
  congr 1
  exact Finset.filter_congr fun k _ => le_row _ (ends_dvd x _) t r

/-- Where the tile is live fewer than eight experts end at or before it. -/
theorem cnt_live (e : IVec S8 32) (w : BitVec 32) (h : w.toInt < (e (ix1 (7 : Fin 8))).toInt) : cnt w e ≤ 7 := by
  unfold cnt
  refine Nat.le_of_lt_succ ((Finset.card_lt_univ_of_notMem (x := (7 : Fin 8)) ?_).trans_le (by simp))
  rw [Finset.mem_filter]
  rintro ⟨_, h'⟩
  omega

theorem minsi_small : ∀ n : Fin 8, (IntOp.minsi (BitVec.ofNat 32 n.val) 7#32).toNat = n.val := by decide

/-- The expert of a live tile is the number of experts that end at or before it. -/
theorem tileExpert_live (e : IVec S8 32) (t : Fin 72) (h : (startW t).toInt < (e (ix1 (7 : Fin 8))).toInt) :
    (tileExpert e (ix1 t)).toNat = cnt (startW t) e := by
  rw [tileExpert_word]
  exact minsi_small ⟨cnt (startW t) e, Nat.lt_succ_of_le (cnt_live e _ h)⟩

end Cert.Proof.MoE
-- ==== Proof.MoE.Run.lean ====
/-
  The experts' launch: the state carried from point to point, the pipeline's proof data, the body's obligation from the
  body's two runs, the run of @main, and the frame.
-/
module

public import proofs.«01_k».proof.Proof.MoE.Body
public import proofs.«01_k».proof.Proof.MoE.Tables
public import Idealize.ShloMosaic.Lib.Pipeline.FrameBody
public import Idealize.ShloMosaic.Lib.Claim

@[expose] public section

set_option maxRecDepth 16384

noncomputable section

namespace Cert.Proof.MoE

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- Whether point `t`'s tile is live. -/
def livePt (c : Dev nD) (t : Fin (cfgM m hO).N) : Prop := cond0_1 (grid0.coords t) (liveW c (grid0.coords t) (tbl m 1))

/-- The state after point `t` from the state it starts at. -/
def afterS (c : Dev nD) (t : Fin (cfgM m hO).N) (s : St F) : St F :=
  addS (livePt m hO c t) (iblk m hO c 1 t) (iblk m hO c 2 t) (iblk m hO c 3 t) s

/-- The state after point `n`: a tile's first half starts afresh, its second half goes on from the first. -/
def stAt (c : Dev nD) : (n : ℕ) → n < (cfgM m hO).N → St F
  | 0, h => afterS m hO c ⟨0, h⟩ (firstS (iblk m hO c 0 ⟨0, h⟩))
  | n + 1, h => if (n + 1) % 2 = 0 then afterS m hO c ⟨n + 1, h⟩ (firstS (iblk m hO c 0 ⟨n + 1, h⟩))
      else afterS m hO c ⟨n + 1, h⟩ (stAt c n (Nat.lt_of_succ_lt h))

theorem stAt_even (c : Dev nD) (t : Fin (cfgM m hO).N) (h : t.val % 2 = 0) :
    stAt m hO c t.val t.isLt = afterS m hO c t (firstS (iblk m hO c 0 t)) := by
  obtain ⟨n, hn⟩ := t
  cases n with
  | zero => rfl
  | succ n => exact if_pos h

/-- The state point `t` finds, past the first point. -/
def prevS (c : Dev nD) (t : Fin (cfgM m hO).N) : St F := stAt m hO c (t.val - 1) (lt_of_le_of_lt (Nat.sub_le _ _) t.isLt)

theorem stAt_odd (c : Dev nD) (t : Fin (cfgM m hO).N) (h : t.val % 2 = 1) :
    stAt m hO c t.val t.isLt = afterS m hO c t (prevS m hO c t) := by
  obtain ⟨n, hn⟩ := t
  cases n with
  | zero => exact absurd h (Nat.zero_ne_one)
  | succ n => exact if_neg (fun h' => by rw [h] at h'; exact absurd h' Nat.one_ne_zero)

/-! ## The invariant -/

/-- The two scratch buffers before point `n`: at anything before the first, then at the state the point before left. -/
def scr (c : Dev nD) : (n : ℕ) → n ≤ (cfgM m hO).N → sProp 𝕄
  | 0, _ => iprop((∃ d, owns (c : Thread nD τ) scM0_0 fullShare d) ∗ (∃ d, owns (c : Thread nD τ) scM0_1 fullShare d))
  | n + 1, h => iprop(owns (c : Thread nD τ) scM0_0 fullShare (stAt m hO c n h).1 ∗ owns (c : Thread nD τ) scM0_1 fullShare (stAt m hO c n h).2)

theorem scr_any (c : Dev nD) (n : ℕ) (h : n ≤ (cfgM m hO).N) :
    scr m hO c n h ⊢ iprop((∃ d, owns (c : Thread nD τ) scM0_0 fullShare d) ∗ (∃ d, owns (c : Thread nD τ) scM0_1 fullShare d)) := by
  cases n with
  | zero => exact Idealize.SL.BI.Entails.refl _
  | succ n =>
    unfold scr
    iintro ⟨H0, H1⟩
    isplitl [H0]
    · iexists _; iexact H0
    iexists _; iexact H1

theorem scr_odd (c : Dev nD) (t : Fin (cfgM m hO).N) (h : t.val % 2 = 1) :
    scr m hO c t.val (Nat.le_of_lt t.isLt) = iprop(owns (c : Thread nD τ) scM0_0 fullShare (prevS m hO c t).1
      ∗ owns (c : Thread nD τ) scM0_1 fullShare (prevS m hO c t).2) := by
  obtain ⟨n, hn⟩ := t
  cases n with
  | zero => exact absurd h (Nat.zero_ne_one)
  | succ n => rfl

/-- The scratch buffers, the generator register and the tables before point `n`. -/
def inv (c : Dev nD) (n : ℕ) (h : n ≤ (cfgM m hO).N) : sProp 𝕄 :=
  iprop(iprop(scr m hO c n h ∗ (∃ r, prngReg c r)) ∗ Pipeline.ΦT pre0 (tbl m) c)

/-! ## The proof data -/

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (stAt m hO c t.val t.isLt).2
  Φ t := inv m hO c t.val (Nat.le_of_lt_succ t.isLt)
  q _ := fullShare
  owed _ := 0

theorem dats_A (c : Dev nD) (w : Fin (cfgM m hO).W) : (dats m hO 0 c).A w = V m c (Pipeline.arrRef spec0 w) := by dsimp only [dats]
theorem after_0 (c : Dev nD) (t : Fin (cfgM m hO).N) : (dats m hO 0 c).after 0 t = iblk m hO c 0 t := by dsimp only [dats]; try rfl
theorem after_1 (c : Dev nD) (t : Fin (cfgM m hO).N) : (dats m hO 0 c).after 1 t = iblk m hO c 1 t := by dsimp only [dats]; try rfl
theorem after_2 (c : Dev nD) (t : Fin (cfgM m hO).N) : (dats m hO 0 c).after 2 t = iblk m hO c 2 t := by dsimp only [dats]; try rfl
theorem after_3 (c : Dev nD) (t : Fin (cfgM m hO).N) : (dats m hO 0 c).after 3 t = iblk m hO c 3 t := by dsimp only [dats]; try rfl
theorem after_4 (c : Dev nD) (t : Fin (cfgM m hO).N) : (dats m hO 0 c).after 4 t = (stAt m hO c t.val t.isLt).2 := by dsimp only [dats]; try rfl

theorem before_0 (c : Dev nD) (t : Fin (cfgM m hO).N) (d) : (dats m hO 0 c).before 0 t d = iblk m hO c 0 t :=
  before0_0_of m hO (dats m hO 0 c) (dats_A m hO c 0) (after_0 m hO c) t d
theorem before_1 (c : Dev nD) (t : Fin (cfgM m hO).N) (d) : (dats m hO 0 c).before 1 t d = iblk m hO c 1 t :=
  before0_1_of m hO (dats m hO 0 c) (dats_A m hO c 1) (after_1 m hO c) t d
theorem before_2 (c : Dev nD) (t : Fin (cfgM m hO).N) (d) : (dats m hO 0 c).before 2 t d = iblk m hO c 2 t :=
  before0_2_of m hO (dats m hO 0 c) (dats_A m hO c 2) (after_2 m hO c) t d
theorem before_3 (c : Dev nD) (t : Fin (cfgM m hO).N) (d) : (dats m hO 0 c).before 3 t d = iblk m hO c 3 t :=
  before0_3_of m hO (dats m hO 0 c) (dats_A m hO c 3) (after_3 m hO c) t d

theorem leaves_0 (c : Dev nD) (t : Fin (cfgM m hO).N) :
    (dats m hO 0 c).leavesExact 0 t = owns (c : Thread nD τ) (ms0_0 m hO t) fullShare (iblk m hO c 0 t) := by
  unfold Dat.leavesExact; rw [liveAt0_0 m hO t, ← after_0 m hO c t]; rfl
theorem leaves_1 (c : Dev nD) (t : Fin (cfgM m hO).N) :
    (dats m hO 0 c).leavesExact 1 t = owns (c : Thread nD τ) (ms0_1 m hO t) fullShare (iblk m hO c 1 t) := by
  unfold Dat.leavesExact; rw [liveAt0_1 m hO t, ← after_1 m hO c t]; rfl
theorem leaves_2 (c : Dev nD) (t : Fin (cfgM m hO).N) :
    (dats m hO 0 c).leavesExact 2 t = owns (c : Thread nD τ) (ms0_2 m hO t) fullShare (iblk m hO c 2 t) := by
  unfold Dat.leavesExact; rw [liveAt0_2 m hO t, ← after_2 m hO c t]; rfl
theorem leaves_3 (c : Dev nD) (t : Fin (cfgM m hO).N) :
    (dats m hO 0 c).leavesExact 3 t = owns (c : Thread nD τ) (ms0_3 m hO t) fullShare (iblk m hO c 3 t) := by
  unfold Dat.leavesExact; rw [liveAt0_3 m hO t, ← after_3 m hO c t]; rfl
theorem leaves_4 (c : Dev nD) (t : Fin (cfgM m hO).N) (h0 : ¬cond0_0 (grid0.coords t)) (h2 : cond0_2 (grid0.coords t)) :
    (dats m hO 0 c).leavesExact 4 t = owns (c : Thread nD τ) (ms0_4 m hO t) fullShare (stAt m hO c t.val t.isLt).2 := by
  unfold Dat.leavesExact; rw [liveAt0_4_C m hO t h0 h2, ← after_4 m hO c t]; rfl

/-! ## The body's obligation -/

def pre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def post (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t)

theorem Phi_before (c : Dev nD) (t : Fin (cfgM m hO).N) :
    (dats m hO 0 c).Φ t.castSucc = inv m hO c t.val (Nat.le_of_lt t.isLt) := by
  dsimp only [dats]; exact Pipeline.Dat.Φ_castSucc (inv m hO c) t

theorem body_even (c : Dev nD) (t : Fin (cfgM m hO).N) (h : t.val % 2 = 0) :
    pre m hO c t ⊢ wp frame (wpE (defs₀ (F := F)) Variants.none c none) Set.univ (bodyAt0 (adm m hO) t) (fun _ => post m hO c t) := by
  have h0 : cond0_0 (grid0.coords t) := (hcond0_0 t).mpr h
  have h2 : ¬cond0_2 (grid0.coords t) := fun h2 => by have := (hcond0_2 t).mp h2; omega
  unfold pre post bodyAt0
  simp only [before_0, before_1, before_2, before_3]
  rw [leaves_0, leaves_1, leaves_2, leaves_3, Dat.leavesExact_idle (dats m hO 0 c) 4 t (idleAt0_4_A m hO t h0 h2) (noFlush0_4_A m hO t h0 h2),
    show (dats m hO 0 c).owesAt () t.succ = (dats m hO 0 c).owesAt () t.castSucc from rfl,
    show (dats m hO 0 c).Φ t.succ = inv m hO c (t.val + 1) t.isLt from rfl, Phi_before]
  unfold inv
  rw [show scr m hO c (t.val + 1) t.isLt = iprop(owns (c : Thread nD τ) scM0_0 fullShare (stAt m hO c t.val t.isLt).1
    ∗ owns (c : Thread nD τ) scM0_1 fullShare (stAt m hO c t.val t.isLt).2) from rfl, stAt_even m hO c t h, PhiT0_eq]
  iintro ⟨⟨⟨HS, Hg⟩, ⟨HT0, HT1⟩⟩, Ho, ⟨%d0, H0⟩, ⟨%d1, H1⟩, ⟨%d2, H2⟩, ⟨%d3, H3⟩, ⟨%d4, H4⟩⟩
  ihave HS' := (scr_any m hO c t.val (Nat.le_of_lt t.isLt)) $$ HS
  icases HS' with ⟨HS0, HS1⟩
  iapply (run_first c (grid0.coords t) _ _ _ _ _ _ _ _ _ _ _ _ _ _ (iblk m hO c 0 t) (iblk m hO c 1 t) (iblk m hO c 2 t)
    (iblk m hO c 3 t) (tbl m 0) (tbl m 1) h0 h2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT0]; · iexact HT0
  isplitl [HT1]; · iexact HT1
  iintro ⟨H0, H1, H2, H3, H4, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexists _; iexact H4

theorem body_odd (c : Dev nD) (t : Fin (cfgM m hO).N) (h : t.val % 2 = 1) :
    pre m hO c t ⊢ wp frame (wpE (defs₀ (F := F)) Variants.none c none) Set.univ (bodyAt0 (adm m hO) t) (fun _ => post m hO c t) := by
  have h0 : ¬cond0_0 (grid0.coords t) := fun h0 => by have := (hcond0_0 t).mp h0; omega
  have h2 : cond0_2 (grid0.coords t) := (hcond0_2 t).mpr h
  unfold pre post bodyAt0
  simp only [before_0, before_1, before_2, before_3]
  rw [leaves_0, leaves_1, leaves_2, leaves_3, leaves_4 m hO c t h0 h2,
    show (dats m hO 0 c).owesAt () t.succ = (dats m hO 0 c).owesAt () t.castSucc from rfl,
    show (dats m hO 0 c).Φ t.succ = inv m hO c (t.val + 1) t.isLt from rfl, Phi_before]
  unfold inv
  rw [show scr m hO c (t.val + 1) t.isLt = iprop(owns (c : Thread nD τ) scM0_0 fullShare (stAt m hO c t.val t.isLt).1
    ∗ owns (c : Thread nD τ) scM0_1 fullShare (stAt m hO c t.val t.isLt).2) from rfl, stAt_odd m hO c t h, scr_odd m hO c t h, PhiT0_eq]
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
  iapply (run_second c (grid0.coords t) _ _ _ _ _ _ _ _ _ _ _ _ _ _ (iblk m hO c 0 t) (iblk m hO c 1 t)
    (iblk m hO c 2 t) (iblk m hO c 3 t) (tbl m 0) (tbl m 1) _ _ h0 h2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HT0]; · iexact HT0
  isplitl [HT1]; · iexact HT1
  iintro ⟨H0, H1, H2, H3, H4, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_ok (c : Dev nD) (t : Fin (cfgM m hO).N) :
    pre m hO c t ⊢ wp frame (wpE (defs₀ (F := F)) Variants.none c none) Set.univ (bodyAt0 (adm m hO) t) (fun _ => post m hO c t) := by
  by_cases h : t.val % 2 = 0
  · exact body_even m hO c t h
  · exact body_odd m hO c t (by omega)

theorem row_eq (t : Fin (cfgM m hO).N) :
    defs₀ (F := F) .tc (cfgM m hO).body ((cfgM m hO).bodyArgs t ((cfgM m hO).slots t)) = bodyAt0 (adm m hO) t := by
  unfold defs₀; rw [Defs.onTc_tc]

theorem obligation (c : Dev nD) : BodyObligation (dats (F := F) m hO 0 c) (defs₀ (F := F)) Variants.none () Set.univ := fun t => by
  rw [bigSep_W0, bigSep_W0, row_eq m hO]
  exact triple_restated (body_ok m hO c t) rfl .rfl fun _ => .rfl

theorem enter (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl, PhiA0_eq]
  exact Idealize.SL.BI.Entails.refl _

theorem leave (c : Dev nD) : (dats m hO 0 c).Φ (Fin.last (cfgM m hO).N) ⊢ Pipeline.ΦA spec0 c := by
  rw [show (dats m hO 0 c).Φ (Fin.last (cfgM m hO).N) = inv m hO c (cfgM m hO).N (Nat.le_refl _) from rfl, PhiA0_eq]
  unfold inv
  iintro ⟨⟨HS, Hg⟩, -⟩
  isplitl [HS]
  · iapply (scr_any m hO c (cfgM m hO).N (Nat.le_refl _)) $$ HS
  iexact Hg

/-! ## The run and the frame -/

set_option backward.isDefEq.respectTransparency.types false in
/-- Every run of @main ends, the arrays at what the proof data compute and every counter at zero. -/
theorem run_quiet : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := dats_A m hO) (hpf := V_pre m)
    (hin := enter m hO) (hout := leave m hO)

theorem run : θ_run defs (onTc (τ := τ) (main (F := F))) (s₀ m ρ)
    (Pipeline.FramePost (Pipeline.pin pcfgs fun _ => adm m (ok m)) (dats m (ok m)) 0 (V m)) :=
  (θ_run defs _ _).mono (fun _ h => h.1) (run_quiet m ρ (ok m))

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (ok m) (dats m (ok m)) (dats_A m (ok m)) (run m ρ))
    ((θ_run defs _ _).mono (fun _ h => h.2) (run_quiet m ρ (ok m)))

end Cert.Proof.MoE

end
-- ==== Proof.MoE.Same.lean ====
/-
  The experts' program and its idealization are the same text: the frame of the one is the frame of the other.
-/
module

public import proofs.«01_k».proof.Defs
public import proofs.«01_k».proof.Proof.Gen.Kernel2
public import proofs.«01_k».proof.Proof.MoE.Run

@[expose] public section

noncomputable section

namespace Cert.Proof.MoE

open Idealize.ShloMosaic Idealize.SL.Sem

set_option maxHeartbeats 2000000 in
theorem bodies_same : Cert.Kernel2.defs₀ (F := Bits) = Cert.Kernel2Ideal.defs₀ (F := Bits) := by
  unfold Cert.Kernel2.defs₀ Cert.Kernel2Ideal.defs₀
  congr 1
  funext l a
  match l, a with
  | 0, (t, s) => rfl

set_option maxHeartbeats 2000000 in
theorem defs_same : Cert.Kernel2.defs (F := Bits) = Cert.Kernel2Ideal.defs (F := Bits) :=
  congrArg (Pipeline.defs (Cert.Kernel2.pcfgs (F := Bits))) bodies_same

set_option maxHeartbeats 4000000 in
theorem main_same : Cert.Kernel2.main (F := Bits) = Cert.Kernel2Ideal.main (F := Bits) := by
  funext c
  unfold Cert.Kernel2.main Cert.Kernel2Ideal.main
  rfl

/-- Equal programs have the same runs. -/
theorem run_same {nD : Nat} {τ : Topo} {sig : RefSig} {V : EltTy → Type} {Λ : Labels} {D D' : Defs nD τ sig V Λ}
    {M M' : Dev nD → Prog (TpuEff nD τ sig V Λ .tc) PUnit} (hD : D = D') (hM : M = M')
    {s : _} {Q : _ → Prop} (h : θ_run D' (onTc (τ := τ) M') s Q) : θ_run D (onTc (τ := τ) M) s Q := by
  subst hD hM
  exact h

set_option maxHeartbeats 2000000 in
theorem frame_kernel2 : Cert.quiescent_Kernel2 := fun m g _ => run_same defs_same main_same (frame (F := Bits) m g)

end Cert.Proof.MoE

end
-- ==== Proof.MoE.Value.lean ====
/-
  The experts' value: what a tile's two points add up to, and the result array.
-/
module

public import proofs.«01_k».proof.Proof.MoE.Run
public import Idealize.ShloMosaic.Lib.Pointwise
public import Idealize.ShloMosaic.Lib.WordCmp
public import Idealize.ShloMosaic.Lib.Pipeline.ValueKit.Geometry

@[expose] public section

set_option maxRecDepth 16384

noncomputable section

namespace Cert.Proof.MoE

open Cert.Kernel2Ideal Cert.Kernel2Ideal.Gen
open Idealize.ShloMosaic Idealize.ShloMosaic.TcCoe
open scoped BigOperators

/-! ## One point's product -/

/-- A gated activation. -/
def actE (g u : EReal) : EReal := g * Ideal.logistic g * u

theorem pay1_eq (x : Vec Ideal S512x1024 .f32) (r : Fin 512) (d : Fin 1024) : k0_pay1 (F := Ideal) x (ix2 r d) = x (ix2 r d) := by
  pointwise [k0_pay1]

theorem pay2_eq (r : Fin 512) (d : Fin 1024) : (k0_pay2 (F := Ideal)) (ix2 r d) = (0 : EReal) := by
  pointwise [k0_pay2]

theorem pay3_eq (h : Vec Ideal S512x1024 .bf16) (wg wu : Vec Ideal S1x1024x1792 .bf16) (acc : Vec Ideal S512x1024 .f32)
    (wd : Vec Ideal S1x1792x1024 .bf16) (r : Fin 512) (d : Fin 1024) :
    k0_pay3 (F := Ideal) h wg wu acc wd (ix2 r d) = (acc (ix2 r d) : EReal) + ∑ f : Fin 1792,
      actE (∑ k : Fin 1024, (h (ix2 r k) : EReal) * wg (ix3 (0 : Fin 1) k f)) (∑ k : Fin 1024, (h (ix2 r k) : EReal) * wu (ix3 (0 : Fin 1) k f))
        * wd (ix3 (0 : Fin 1) f d) := by
  unfold actE
  pointwise [k0_pay3]

/-! ## The blocks -/

variable (m : (ℓ : Loc nD τ sig) → Buf (Elt Ideal) ℓ) (hO : Ok m)

/-- A point's tile. -/
def tileOf (t : Fin (cfgM m hO).N) : Fin 72 := ⟨t.val / 2, by have h : t.val < 144 := lt_of_lt_of_eq t.isLt N_0; omega⟩

theorem coord0 : ∀ t : Fin grid0.N, (grid0.coords t 0).val = t.val / 2 := by decide +kernel
theorem coord1 : ∀ t : Fin grid0.N, (grid0.coords t 1).val = t.val % 2 := by decide +kernel

theorem word_index : ∀ n : Fin 72, (Scalar.indexCast (BitVec.ofNat 32 n.val)).toNat = n.val := by decide

/-- The place in a table a point reads. -/
theorem point_eq (t : Fin (cfgM m hO).N) (h : (Shape.mk 1 S1.size).numel = 1) :
    (Rect.unit (s := S72) (k0_off1 (grid0.coords t)) S1.size (k0_off1_inb (grid0.coords t))).point h = ix1 (tileOf m hO t) := by
  funext a
  fin_cases a
  apply Fin.ext
  show (Scalar.indexCast (BitVec.ofNat 32 (grid0.coords t 0).val)).toNat + 1 * 0 = t.val / 2
  rw [coord0]
  exact word_index (tileOf m hO t)

theorem word2 : ∀ n : Fin 2, (BitVec.ofNat 32 n.val).toNat = n.val := by decide
theorem word72n : ∀ n : Fin 72, (BitVec.ofNat 32 n.val).toNat = n.val := by decide

theorem half_word (t : Fin (cfgM m hO).N) : (BitVec.ofNat 32 (grid0.coords t 1).val).toNat = t.val % 2 := by
  rw [coord1]; exact word2 ⟨t.val % 2, Nat.mod_lt _ (by decide)⟩

theorem tile_word (t : Fin (cfgM m hO).N) : (BitVec.ofNat 32 (grid0.coords t 0).val).toNat = t.val / 2 := by
  rw [coord0]; exact word72n (tileOf m hO t)

/-- The expert's word a point's blocks are named by. -/
theorem table_word (t : Fin (cfgM m hO).N) (h : (Shape.mk 1 S1.size).numel = 1) :
    Pipeline.Prefetch.Contents.at (adm m hO).1 0 (Rect.unit (s := S72) (k0_off1 (grid0.coords t)) S1.size (k0_off1_inb (grid0.coords t))) h
      = (tbl m 0 : IVec S72 32) (ix1 (tileOf m hO t)) :=
  congrArg (tbl m 0 : IVec S72 32) (point_eq m hO t h)

theorem index1 (t : Fin (cfgM m hO).N) : ((cfgM m hO).win 1).index t
    = ![((tbl m 0 : IVec S72 32) (ix1 (tileOf m hO t))).toNat, 0, t.val % 2] := by
  rw [← half_word m hO t, ← table_word m hO t numel1_S1]; rfl
theorem index2 (t : Fin (cfgM m hO).N) : ((cfgM m hO).win 2).index t
    = ![((tbl m 0 : IVec S72 32) (ix1 (tileOf m hO t))).toNat, 0, t.val % 2] := by
  rw [← half_word m hO t, ← table_word m hO t numel1_S1]; rfl
theorem index3 (t : Fin (cfgM m hO).N) : ((cfgM m hO).win 3).index t
    = ![((tbl m 0 : IVec S72 32) (ix1 (tileOf m hO t))).toNat, t.val % 2, 0] := by
  rw [← half_word m hO t, ← table_word m hO t numel1_S1]; rfl
theorem index0 (t : Fin (cfgM m hO).N) : ((cfgM m hO).win 0).index t = ![t.val / 2, 0] := by
  rw [← tile_word m hO t]; rfl
theorem index4 (t : Fin (cfgM m hO).N) : ((cfgM m hO).win 4).index t = ![t.val / 2, 0] := by
  rw [← tile_word m hO t]; rfl

theorem blk0 (c : Dev nD) (t : Fin (cfgM m hO).N) (r : Fin 512) (k : Fin 1024) :
    (iblk m hO c 0 t : Vec Ideal S512x1024 .f32) (ix2 r k)
      = V m c main_arg0 (ix2 (⟨512 * (tileOf m hO t).val + r.val, by have := (tileOf m hO t).isLt; omega⟩ : Fin 36864) k) := by
  have hi := index0 m hO t
  show V m c main_arg0 ((((cfgM m hO).win 0).blk t).view.emb (ix2 r k)) = _
  congr 1
  blk_ext [hi, tileOf]

theorem blk1 (c : Dev nD) (t : Fin (cfgM m hO).N) (k : Fin 1024) (f : Fin 1792) (e : Fin 8)
    (he : ((tbl m 0 : IVec S72 32) (ix1 (tileOf m hO t))).toNat = e.val) :
    (iblk m hO c 1 t : Vec Ideal S1x1024x1792 .bf16) (ix3 (0 : Fin 1) k f)
      = V m c main_v25 (ix3 e k (⟨1792 * (t.val % 2) + f.val, by omega⟩ : Fin 3584)) := by
  have hi := index1 m hO t
  rw [he] at hi
  show V m c main_v25 ((((cfgM m hO).win 1).blk t).view.emb (ix3 (0 : Fin 1) k f)) = _
  congr 1
  blk_ext [hi]

theorem blk2 (c : Dev nD) (t : Fin (cfgM m hO).N) (k : Fin 1024) (f : Fin 1792) (e : Fin 8)
    (he : ((tbl m 0 : IVec S72 32) (ix1 (tileOf m hO t))).toNat = e.val) :
    (iblk m hO c 2 t : Vec Ideal S1x1024x1792 .bf16) (ix3 (0 : Fin 1) k f)
      = V m c main_v26 (ix3 e k (⟨1792 * (t.val % 2) + f.val, by omega⟩ : Fin 3584)) := by
  have hi := index2 m hO t
  rw [he] at hi
  show V m c main_v26 ((((cfgM m hO).win 2).blk t).view.emb (ix3 (0 : Fin 1) k f)) = _
  congr 1
  blk_ext [hi]

theorem blk3 (c : Dev nD) (t : Fin (cfgM m hO).N) (f : Fin 1792) (d : Fin 1024) (e : Fin 8)
    (he : ((tbl m 0 : IVec S72 32) (ix1 (tileOf m hO t))).toNat = e.val) :
    (iblk m hO c 3 t : Vec Ideal S1x1792x1024 .bf16) (ix3 (0 : Fin 1) f d)
      = V m c main_v27 (ix3 e (⟨1792 * (t.val % 2) + f.val, by omega⟩ : Fin 3584) d) := by
  have hi := index3 m hO t
  rw [he] at hi
  show V m c main_v27 ((((cfgM m hO).win 3).blk t).view.emb (ix3 (0 : Fin 1) f d)) = _
  congr 1
  blk_ext [hi]

/-- A point is live exactly when its tile's first row is before the last expert's end. -/
theorem livePt_iff (t : Fin (cfgM m hO).N) :
    livePt m hO 0 t ↔ (startW (tileOf m hO t)).toInt < (endsOf (cntK m 0) (ix1 (7 : Fin 8))).toInt := by
  have e : liveW (F := Ideal) 0 (grid0.coords t) (tbl m 1) = (tbl m 1 : IVec S72 32) (ix1 (tileOf m hO t)) :=
    congrArg (tbl m 1 : IVec S72 32) (point_eq m hO t numel1_S1)
  unfold livePt
  rw [e, show (tbl m 1 : IVec S72 32) = _ from tbl_1 m, tileLive_word]
  unfold cond0_1
  by_cases h : (startW (tileOf m hO t)).toInt < (endsOf (cntK m 0) (ix1 (7 : Fin 8))).toInt
  · simp only [h, iff_true, decide_true]; decide
  · simp only [h, iff_false, decide_false]; decide

/-! ## The experts' mathematics -/

/-- A row's product with one expert's gate or up matrix. -/
def projE (X : FVec Ideal S36864x1024 .f32) (W : FVec Ideal S8x1024x3584 .f32) (e : Fin 8) (r : Fin 36864) (f : Fin 3584) : EReal :=
  ∑ k : Fin 1024, (X (ix2 r k) : EReal) * W (ix3 e k f)

/-- One term of an expert's feed-forward. -/
def termE (X : FVec Ideal S36864x1024 .f32) (Wg Wu : FVec Ideal S8x1024x3584 .f32) (Wd : FVec Ideal S8x3584x1024 .f32)
    (e : Fin 8) (r : Fin 36864) (d : Fin 1024) (f : Fin 3584) : EReal :=
  actE (projE X Wg e r f) (projE X Wu e r f) * Wd (ix3 e f d)

/-- An expert's feed-forward of one row. -/
def ffnE (X : FVec Ideal S36864x1024 .f32) (Wg Wu : FVec Ideal S8x1024x3584 .f32) (Wd : FVec Ideal S8x3584x1024 .f32)
    (e : Fin 8) (r : Fin 36864) (d : Fin 1024) : EReal := ∑ f : Fin 3584, termE X Wg Wu Wd e r d f

/-- The value of a row: its expert's feed-forward, zero past the last expert's end. -/
def rowE (E : IVec S8 32) (X : FVec Ideal S36864x1024 .f32) (Wg Wu : FVec Ideal S8x1024x3584 .f32) (Wd : FVec Ideal S8x3584x1024 .f32)
    (w : BitVec 32) (r : Fin 36864) (d : Fin 1024) : EReal :=
  if h : w.toInt < (E (ix1 (7 : Fin 8))).toInt then ffnE X Wg Wu Wd ⟨cnt w E, Nat.lt_succ_of_le (cnt_live E w h)⟩ r d else 0

/-- The result array. -/
def moe (E : IVec S8 32) (X : FVec Ideal S36864x1024 .f32) (Wg Wu : FVec Ideal S8x1024x3584 .f32) (Wd : FVec Ideal S8x3584x1024 .f32) :
    FVec Ideal S36864x1024 .f32 := fun i => rowE E X Wg Wu Wd (BitVec.ofNat 32 (i 0).val) (i 0) (i 1)

theorem moe_congr {E E' : IVec S8 32} {X X' : FVec Ideal S36864x1024 .f32} {Wg Wg' Wu Wu' : FVec Ideal S8x1024x3584 .f32} {Wd Wd' : FVec Ideal S8x3584x1024 .f32}
    (hE : E = E') (hX : X = X') (hg : Wg = Wg') (hu : Wu = Wu') (hd : Wd = Wd') : moe E X Wg Wu Wd = moe E' X' Wg' Wu' Wd' := by
  subst hE hX hg hu hd; rfl

/-! ## A tile's value -/

/-- The arguments as the memory holds them. -/
abbrev argX : FVec Ideal S36864x1024 .f32 := m (((0 : Dev nD) : Thread nD τ).loc main_arg0)
abbrev argG : FVec Ideal S8x1024x3584 .f32 := m (((0 : Dev nD) : Thread nD τ).loc main_arg2)
abbrev argU : FVec Ideal S8x1024x3584 .f32 := m (((0 : Dev nD) : Thread nD τ).loc main_arg3)
abbrev argD : FVec Ideal S8x3584x1024 .f32 := m (((0 : Dev nD) : Thread nD τ).loc main_arg4)

/-- The array row of a tile's row. -/
def arrRow (T : Fin 72) (r : Fin 512) : Fin 36864 := ⟨512 * T.val + r.val, by have := T.isLt; omega⟩

/-- A payload whose blocks are one expert's half adds that half's terms. -/
theorem half_add (h : Vec Ideal S512x1024 .bf16) (wg wu : Vec Ideal S1x1024x1792 .bf16) (acc : Vec Ideal S512x1024 .f32) (wd : Vec Ideal S1x1792x1024 .bf16)
    (X : FVec Ideal S36864x1024 .f32) (Wg Wu : FVec Ideal S8x1024x3584 .f32) (Wd : FVec Ideal S8x3584x1024 .f32) (e : Fin 8)
    (R : Fin 512 → Fin 36864) (J : Fin 1792 → Fin 3584)
    (hh : ∀ (r : Fin 512) (k : Fin 1024), (h (ix2 r k) : EReal) = X (ix2 (R r) k))
    (h1 : ∀ (k : Fin 1024) (f : Fin 1792), (wg (ix3 (0 : Fin 1) k f) : EReal) = Wg (ix3 e k (J f)))
    (h2 : ∀ (k : Fin 1024) (f : Fin 1792), (wu (ix3 (0 : Fin 1) k f) : EReal) = Wu (ix3 e k (J f)))
    (h3 : ∀ (f : Fin 1792) (d : Fin 1024), (wd (ix3 (0 : Fin 1) f d) : EReal) = Wd (ix3 e (J f) d))
    (r : Fin 512) (d : Fin 1024) :
    k0_pay3 (F := Ideal) h wg wu acc wd (ix2 r d)
      = (acc (ix2 r d) : EReal) + ∑ f : Fin 1792, termE X Wg Wu Wd e (R r) d (J f) := by
  rw [pay3_eq]
  congr 1
  refine Finset.sum_congr rfl fun f _ => ?_
  unfold termE projE
  simp only [hh, h1, h2, h3]

/-- What a live point adds to the accumulator. -/
theorem point_add (t : Fin (cfgM m hO).N) (e : Fin 8) (he : ((tbl m 0 : IVec S72 32) (ix1 (tileOf m hO t))).toNat = e.val)
    (h : Vec Ideal S512x1024 .bf16) (hh : ∀ (r : Fin 512) (k : Fin 1024), (h (ix2 r k) : EReal) = argX m (ix2 (arrRow (tileOf m hO t) r) k))
    (acc : Vec Ideal S512x1024 .f32) (r : Fin 512) (d : Fin 1024) :
    k0_pay3 (F := Ideal) h (iblk m hO 0 1 t) (iblk m hO 0 2 t) acc (iblk m hO 0 3 t) (ix2 r d)
      = (acc (ix2 r d) : EReal) + ∑ f : Fin 1792, termE (argX m) (argG m) (argU m) (argD m) e (arrRow (tileOf m hO t) r) d
          ⟨1792 * (t.val % 2) + f.val, by omega⟩ :=
  half_add h _ _ acc _ (argX m) (argG m) (argU m) (argD m) e (arrRow (tileOf m hO t)) (fun f => ⟨1792 * (t.val % 2) + f.val, by omega⟩) hh
    (fun k f => (blk1 m hO 0 t k f e he).trans (congrFun (V_v25 m 0) _))
    (fun k f => (blk2 m hO 0 t k f e he).trans (congrFun (V_v26 m 0) _))
    (fun f d => (blk3 m hO 0 t f d e he).trans (congrFun (V_v27 m 0) _)) r d

theorem rows_eq (t : Fin (cfgM m hO).N) (r : Fin 512) (k : Fin 1024) :
    (k0_pay1 (F := Ideal) (iblk m hO 0 0 t) (ix2 r k) : EReal) = argX m (ix2 (arrRow (tileOf m hO t) r) k) :=
  (pay1_eq _ r k).trans ((blk0 m hO 0 t r k).trans (congrFun (V_main_arg0 m 0) _))

/-- The accumulator after a tile's second point. -/
theorem tile_value (t : Fin (cfgM m hO).N) (ht : t.val % 2 = 1) (r : Fin 512) (d : Fin 1024) :
    (stAt m hO 0 t.val t.isLt).2 (ix2 r d)
      = rowE (endsOf (cntK m 0)) (argX m) (argG m) (argU m) (argD m) (startW (tileOf m hO t)) (arrRow (tileOf m hO t) r) d := by
  obtain ⟨s, hs⟩ : ∃ s : Fin (cfgM m hO).N, s.val = t.val - 1 := ⟨⟨t.val - 1, by have := t.isLt; omega⟩, rfl⟩
  have hT : tileOf m hO s = tileOf m hO t := Fin.ext (by show s.val / 2 = t.val / 2; omega)
  have hs2 : s.val % 2 = 0 := by omega
  have hp : prevS m hO 0 t = stAt m hO 0 s.val s.isLt := by
    unfold prevS; congr 1; exact hs.symm
  rw [stAt_odd m hO 0 t ht, hp, stAt_even m hO 0 s hs2]
  unfold afterS addS firstS rowE
  have hl := livePt_iff m hO t
  have hl' := livePt_iff m hO s
  rw [hT] at hl'
  by_cases h : (startW (tileOf m hO t)).toInt < (endsOf (cntK m 0) (ix1 (7 : Fin 8))).toInt
  · rw [if_pos (hl.mpr h), if_pos (hl'.mpr h), dif_pos h]
    dsimp only
    have he : ((tbl m 0 : IVec S72 32) (ix1 (tileOf m hO t))).toNat = cnt (startW (tileOf m hO t)) (endsOf (cntK m 0)) := by
      rw [show (tbl m 0 : IVec S72 32) = _ from tbl_0 m]; exact tileExpert_live _ _ h
    have hr : ∀ (r : Fin 512) (k : Fin 1024), (k0_pay1 (F := Ideal) (iblk m hO 0 0 s) (ix2 r k) : EReal)
        = argX m (ix2 (arrRow (tileOf m hO t) r) k) := fun r k => by rw [rows_eq, hT]
    rw [point_add m hO t ⟨_, Nat.lt_succ_of_le (cnt_live _ _ h)⟩ he _ hr,
      point_add m hO s ⟨_, Nat.lt_succ_of_le (cnt_live _ _ h)⟩ (by rw [hT]; exact he) _ (fun r k => by rw [rows_eq]), pay2_eq, zero_add]
    unfold ffnE
    refine Eq.trans ?_ (Fin.sum_univ_add (a := 1792) (b := 1792) _).symm
    congr 1
    · refine Finset.sum_congr rfl fun f _ => ?_
      rw [hT]
      congr 1
      exact Fin.ext (by show 1792 * (s.val % 2) + f.val = f.val; omega)
    · refine Finset.sum_congr rfl fun f _ => ?_
      congr 1
      exact Fin.ext (by show 1792 * (t.val % 2) + f.val = 1792 + f.val; omega)
  · rw [if_neg (fun h' => h (hl.mp h')), if_neg (fun h' => h (hl'.mp h')), dif_neg h]
    exact pay2_eq r d

/-! ## The result array -/

theorem moe_row (x : IVec S8 32) (X : FVec Ideal S36864x1024 .f32) (Wg Wu : FVec Ideal S8x1024x3584 .f32) (Wd : FVec Ideal S8x3584x1024 .f32)
    (T : Fin 72) (r : Fin 512) (d : Fin 1024) :
    moe (endsOf x) X Wg Wu Wd (ix2 (arrRow T r) d) = rowE (endsOf x) X Wg Wu Wd (startW T) (arrRow T r) d := by
  show rowE (endsOf x) X Wg Wu Wd (rowW T r) (arrRow T r) d = _
  unfold rowE
  have hc := cnt_rowW x T r
  have hl := lt_row _ (ends_dvd x (ix1 (7 : Fin 8))) T r
  by_cases h : (startW T).toInt < (endsOf x (ix1 (7 : Fin 8))).toInt
  · rw [dif_pos h, dif_pos (hl.mpr h)]
    congr 1
    exact Fin.ext hc
  · rw [dif_neg h, dif_neg (fun h' => h (hl.mp h'))]

theorem covers4 : ((cfgM m hO).win 4).Covers := by
  refine ⟨fun a => match a with | ⟨0, _⟩ => (by decide : 0 < 512) | ⟨1, _⟩ => (by decide : 0 < 1024), fun β => ?_⟩
  have hb : (β ⟨0, Nat.zero_lt_two⟩).val < 72 :=
    lt_of_lt_of_eq (β ⟨0, Nat.zero_lt_two⟩).isLt (by decide : (36864 + 512 - 1) / 512 = 72)
  have hd : (β ⟨1, Nat.one_lt_two⟩).val < 1 :=
    lt_of_lt_of_eq (β ⟨1, Nat.one_lt_two⟩).isLt (by decide : (1024 + 1024 - 1) / 1024 = 1)
  refine ⟨⟨2 * (β ⟨0, Nat.zero_lt_two⟩).val + 1, by show _ < 144; omega⟩, (flush0_4 _ _).mpr (by show (2 * _ + 1) % 2 = 1; omega), fun a => ⟨?_, Or.inl rfl⟩⟩
  rw [index4]
  match a with
  | ⟨0, _⟩ => show (2 * (β ⟨0, Nat.zero_lt_two⟩).val + 1) / 2 = (β ⟨0, Nat.zero_lt_two⟩).val; omega
  | ⟨1, _⟩ => show 0 = (β ⟨1, Nat.one_lt_two⟩).val; omega

theorem idx_split (y : S512x1024.Idx) : ∃ (r : Fin 512) (d : Fin 1024), y = ix2 r d :=
  ⟨y 0, y 1, by funext a; match a with | ⟨0, _⟩ => rfl | ⟨1, _⟩ => rfl⟩

/-- The result array at the launch's end. -/
theorem final : (dats m hO 0 0).arrAt 4 (cfgM m hO).N = moe (endsOf (cntK m 0)) (argX m) (argG m) (argU m) (argD m) := by
  refine (dats m hO 0 0).arrAt_eq_of_covers 4 _ (covers4 m hO) fun t hf y => ?_
  have ht : t.val % 2 = 1 := (flush0_4 _ t).mp hf
  blk_simp
  rw [after_4]
  obtain ⟨r, d, rfl⟩ := idx_split y
  refine (tile_value m hO t ht r d).trans ((moe_row _ _ _ _ _ _ r d).symm.trans ?_)
  congr 1
  have e := index4 m hO t
  blk_ext [e, arrRow, tileOf]

end Cert.Proof.MoE

end
-- ==== Proof.MoE.Ref.lean ====
/-
  The reference's value for the experts: its term read off operation by operation, and the same array as the kernel's.
-/
module

public import proofs.«01_k».proof.Proof.Gen.Reference2Ideal.Run
public import proofs.«01_k».proof.Proof.MoE.Value

@[expose] public section

set_option maxRecDepth 16384

noncomputable section

namespace Cert.Proof.MoE

open Cert.Reference2Ideal Cert.Reference2Ideal.Gen
open Idealize.ShloMosaic Idealize.ShloMosaic.TcCoe Idealize.ShloMosaic.StableHlo
open scoped BigOperators

/-- A product with one expert's gate or up matrix. -/
def gateR (x : FVec Ideal S36864x1024 .f32) (w : FVec Ideal S1024x3584 .f32) : FVec Ideal S36864x3584 .f32 :=
  Host.dotGeneral dot_S36864x1024_S1024x3584_S36864x3584_1_0_0_1_n_n none x w

/-- The gated product, times the expert's down matrix. -/
def downR (g u : FVec Ideal S36864x3584 .f32) (w : FVec Ideal S3584x1024 .f32) : FVec Ideal S36864x1024 .f32 :=
  Host.dotGeneral dot_S36864x3584_S3584x1024_S36864x1024_1_0_0_1_n_n none
    (mulf (mulf g (Host.divf (broadcastInDim S36864x3584 ![] bcast_S_S36864x3584 (constant S_ .f32 0x3F800000#32))
      (addf (broadcastInDim S36864x3584 ![] bcast_S_S36864x3584 (constant S_ .f32 0x3F800000#32)) (Host.exp (Host.negf g))))) u) w

/-- One expert's rows, zero elsewhere. -/
def onlyR (n it : IVec S36864 32) (e : BitVec 32) (E : IVec S8 32) (y : FVec Ideal S36864x1024 .f32) : FVec Ideal S36864x1024 .f32 :=
  select (broadcastInDim S36864x1024 ![0, 1] bcast_S36864x1_S36864x1024_0_1 (broadcastInDim S36864x1 ![0] bcast_S36864_S36864x1_0
    (andi (cmpi .eq n (broadcastInDim S36864 ![] bcast_S_S36864 (constantI S_ 32 e)))
      (cmpi .slt it (broadcastInDim S36864 ![] bcast_S_S36864 (shapeCast _ (extractStridedSlice S1 ![7] E slices_S8_S1_7) shapeCasts_S1_S_))))))
    y (broadcastInDim S36864x1024 ![] bcast_S_S36864x1024 (id (constant S_ .f32 0x00000000#32)))

theorem gateR_at (x : FVec Ideal S36864x1024 .f32) (w : FVec Ideal S1024x3584 .f32) (r : Fin 36864) (f : Fin 3584) :
    gateR x w (ix2 r f) = ∑ k : Fin 1024, (x (ix2 r k) : EReal) * w (ix2 k f) := by
  pointwise [gateR]

theorem downR_at (g u : FVec Ideal S36864x3584 .f32) (w : FVec Ideal S3584x1024 .f32) (r : Fin 36864) (d : Fin 1024) :
    downR g u w (ix2 r d) = ∑ f : Fin 3584, actE (g (ix2 r f)) (u (ix2 r f)) * w (ix2 f d) := by
  unfold actE
  pointwise [downR]
  rfl

theorem onlyR_at (n it : IVec S36864 32) (e : BitVec 32) (E : IVec S8 32) (y : FVec Ideal S36864x1024 .f32) (r : Fin 36864) (d : Fin 1024) :
    onlyR n it e E y (ix2 r d) = if n (ix1 r) = e ∧ (it (ix1 r)).toInt < (E (ix1 (7 : Fin 8))).toInt then (y (ix2 r d) : EReal) else 0 := by
  have hc : onlyR n it e E y (ix2 r d) = Scalar.select
      (IntOp.andi (IntOp.cmpi CmpIPredicate.eq (n (ix1 r)) e) (IntOp.cmpi CmpIPredicate.slt (it (ix1 r)) (E (ix1 7))))
      (y (ix2 r d)) (id (constant S_ FTy.f32 0#32) ix0) := by pointwise [onlyR]
  have hz : (id (constant (F := Ideal) S_ FTy.f32 0#32) ix0 : EReal) = 0 := by
    show (constant (F := Ideal) S_ FTy.f32 0#32) ix0 = (0 : EReal)
    pointwise []
  rw [hc, hz]
  by_cases h1 : n (ix1 r) = e
  · by_cases h2 : (it (ix1 r)).toInt < (E (ix1 7)).toInt
    · simp [Scalar.select, IntOp.andi, IntOp.cmpi, BitVec.slt, h1, h2]
    · simp [Scalar.select, IntOp.andi, IntOp.cmpi, BitVec.slt, h1, h2]
  · have hb : (n (ix1 r) == e) = false := beq_eq_false_iff_ne.mpr h1
    simp [Scalar.select, IntOp.andi, IntOp.cmpi, BitVec.slt, h1, hb]

theorem count_at (E : IVec S8 32) (r : Fin 36864) :
    (Host.reduce IntOp.addi (extui 32 (cmpi .sle (broadcastInDim S36864x8 ![0, 1] bcast_S1x8_S36864x8_0_1 (broadcastInDim S1x8 ![1] bcast_S8_S1x8_1 E)) (broadcastInDim S36864x8 ![0, 1] bcast_S36864x1_S36864x8_0_1 (broadcastInDim S36864x1 ![0] bcast_S36864_S36864x1_0 (iotaInDim S36864 32 0)))) natLt_1_32) (constantI S_ 32 0#32) reducesTo_S36864x8_S36864_d1 h_S_ : IVec S36864 32) (ix1 r)
      = BitVec.ofNat 32 (cnt (BitVec.ofNat 32 r.val) E) := by
  unfold cnt
  rw [← fold_count]
  pointwise []
  rfl

theorem iota_at (r : Fin 36864) : (iotaInDim S36864 32 0 : IVec S36864 32) (ix1 r) = BitVec.ofNat 32 r.val := by
  pointwise []

theorem upSlice_0 (W : FVec Ideal S8x1024x3584 .f32) (k : Fin 1024) (f : Fin 3584) :
    (shapeCast S1024x3584 (extractStridedSlice S1x1024x3584 ![0, 0, 0] W slices_S8x1024x3584_S1x1024x3584_0_0_0) shapeCasts_S1x1024x3584_S1024x3584) (ix2 k f) = W (ix3 (0 : Fin 8) k f) := by
  pointwise []
theorem downSlice_0 (W : FVec Ideal S8x3584x1024 .f32) (k : Fin 3584) (f : Fin 1024) :
    (shapeCast S3584x1024 (extractStridedSlice S1x3584x1024 ![0, 0, 0] W slices_S8x3584x1024_S1x3584x1024_0_0_0) shapeCasts_S1x3584x1024_S3584x1024) (ix2 k f) = W (ix3 (0 : Fin 8) k f) := by
  pointwise []
theorem upSlice_1 (W : FVec Ideal S8x1024x3584 .f32) (k : Fin 1024) (f : Fin 3584) :
    (shapeCast S1024x3584 (extractStridedSlice S1x1024x3584 ![1, 0, 0] W slices_S8x1024x3584_S1x1024x3584_1_0_0) shapeCasts_S1x1024x3584_S1024x3584) (ix2 k f) = W (ix3 (1 : Fin 8) k f) := by
  pointwise []
theorem downSlice_1 (W : FVec Ideal S8x3584x1024 .f32) (k : Fin 3584) (f : Fin 1024) :
    (shapeCast S3584x1024 (extractStridedSlice S1x3584x1024 ![1, 0, 0] W slices_S8x3584x1024_S1x3584x1024_1_0_0) shapeCasts_S1x3584x1024_S3584x1024) (ix2 k f) = W (ix3 (1 : Fin 8) k f) := by
  pointwise []
theorem upSlice_2 (W : FVec Ideal S8x1024x3584 .f32) (k : Fin 1024) (f : Fin 3584) :
    (shapeCast S1024x3584 (extractStridedSlice S1x1024x3584 ![2, 0, 0] W slices_S8x1024x3584_S1x1024x3584_2_0_0) shapeCasts_S1x1024x3584_S1024x3584) (ix2 k f) = W (ix3 (2 : Fin 8) k f) := by
  pointwise []
theorem downSlice_2 (W : FVec Ideal S8x3584x1024 .f32) (k : Fin 3584) (f : Fin 1024) :
    (shapeCast S3584x1024 (extractStridedSlice S1x3584x1024 ![2, 0, 0] W slices_S8x3584x1024_S1x3584x1024_2_0_0) shapeCasts_S1x3584x1024_S3584x1024) (ix2 k f) = W (ix3 (2 : Fin 8) k f) := by
  pointwise []
theorem upSlice_3 (W : FVec Ideal S8x1024x3584 .f32) (k : Fin 1024) (f : Fin 3584) :
    (shapeCast S1024x3584 (extractStridedSlice S1x1024x3584 ![3, 0, 0] W slices_S8x1024x3584_S1x1024x3584_3_0_0) shapeCasts_S1x1024x3584_S1024x3584) (ix2 k f) = W (ix3 (3 : Fin 8) k f) := by
  pointwise []
theorem downSlice_3 (W : FVec Ideal S8x3584x1024 .f32) (k : Fin 3584) (f : Fin 1024) :
    (shapeCast S3584x1024 (extractStridedSlice S1x3584x1024 ![3, 0, 0] W slices_S8x3584x1024_S1x3584x1024_3_0_0) shapeCasts_S1x3584x1024_S3584x1024) (ix2 k f) = W (ix3 (3 : Fin 8) k f) := by
  pointwise []
theorem upSlice_4 (W : FVec Ideal S8x1024x3584 .f32) (k : Fin 1024) (f : Fin 3584) :
    (shapeCast S1024x3584 (extractStridedSlice S1x1024x3584 ![4, 0, 0] W slices_S8x1024x3584_S1x1024x3584_4_0_0) shapeCasts_S1x1024x3584_S1024x3584) (ix2 k f) = W (ix3 (4 : Fin 8) k f) := by
  pointwise []
theorem downSlice_4 (W : FVec Ideal S8x3584x1024 .f32) (k : Fin 3584) (f : Fin 1024) :
    (shapeCast S3584x1024 (extractStridedSlice S1x3584x1024 ![4, 0, 0] W slices_S8x3584x1024_S1x3584x1024_4_0_0) shapeCasts_S1x3584x1024_S3584x1024) (ix2 k f) = W (ix3 (4 : Fin 8) k f) := by
  pointwise []
theorem upSlice_5 (W : FVec Ideal S8x1024x3584 .f32) (k : Fin 1024) (f : Fin 3584) :
    (shapeCast S1024x3584 (extractStridedSlice S1x1024x3584 ![5, 0, 0] W slices_S8x1024x3584_S1x1024x3584_5_0_0) shapeCasts_S1x1024x3584_S1024x3584) (ix2 k f) = W (ix3 (5 : Fin 8) k f) := by
  pointwise []
theorem downSlice_5 (W : FVec Ideal S8x3584x1024 .f32) (k : Fin 3584) (f : Fin 1024) :
    (shapeCast S3584x1024 (extractStridedSlice S1x3584x1024 ![5, 0, 0] W slices_S8x3584x1024_S1x3584x1024_5_0_0) shapeCasts_S1x3584x1024_S3584x1024) (ix2 k f) = W (ix3 (5 : Fin 8) k f) := by
  pointwise []
theorem upSlice_6 (W : FVec Ideal S8x1024x3584 .f32) (k : Fin 1024) (f : Fin 3584) :
    (shapeCast S1024x3584 (extractStridedSlice S1x1024x3584 ![6, 0, 0] W slices_S8x1024x3584_S1x1024x3584_6_0_0) shapeCasts_S1x1024x3584_S1024x3584) (ix2 k f) = W (ix3 (6 : Fin 8) k f) := by
  pointwise []
theorem downSlice_6 (W : FVec Ideal S8x3584x1024 .f32) (k : Fin 3584) (f : Fin 1024) :
    (shapeCast S3584x1024 (extractStridedSlice S1x3584x1024 ![6, 0, 0] W slices_S8x3584x1024_S1x3584x1024_6_0_0) shapeCasts_S1x3584x1024_S3584x1024) (ix2 k f) = W (ix3 (6 : Fin 8) k f) := by
  pointwise []
theorem upSlice_7 (W : FVec Ideal S8x1024x3584 .f32) (k : Fin 1024) (f : Fin 3584) :
    (shapeCast S1024x3584 (extractStridedSlice S1x1024x3584 ![7, 0, 0] W slices_S8x1024x3584_S1x1024x3584_7_0_0) shapeCasts_S1x1024x3584_S1024x3584) (ix2 k f) = W (ix3 (7 : Fin 8) k f) := by
  pointwise []
theorem downSlice_7 (W : FVec Ideal S8x3584x1024 .f32) (k : Fin 3584) (f : Fin 1024) :
    (shapeCast S3584x1024 (extractStridedSlice S1x3584x1024 ![7, 0, 0] W slices_S8x3584x1024_S1x3584x1024_7_0_0) shapeCasts_S1x3584x1024_S3584x1024) (ix2 k f) = W (ix3 (7 : Fin 8) k f) := by
  pointwise []

variable (V0 : Valuation τ sig (Elt Ideal))

/-- The ends, the counts and the rows, as the reference computes them. -/
abbrev endsR : IVec S8 32 := Cert.Reference2Ideal.Value.res_main_v5 V0
abbrev ownR : IVec S36864 32 := Cert.Reference2Ideal.Value.res_main_v13 V0
abbrev rowsR : IVec S36864 32 := Cert.Reference2Ideal.Value.res_main_v6 V0

/-- Expert 0's rows of the reference. -/
def part_0 : FVec Ideal S36864x1024 .f32 :=
  onlyR (ownR V0) (rowsR V0) 0#32 (endsR V0) (downR (gateR (V0 (Proc.devRef .tc main_arg0)) (shapeCast S1024x3584 (extractStridedSlice S1x1024x3584 ![0, 0, 0] (V0 (Proc.devRef .tc main_arg2)) slices_S8x1024x3584_S1x1024x3584_0_0_0) shapeCasts_S1x1024x3584_S1024x3584)) (gateR (V0 (Proc.devRef .tc main_arg0)) (shapeCast S1024x3584 (extractStridedSlice S1x1024x3584 ![0, 0, 0] (V0 (Proc.devRef .tc main_arg3)) slices_S8x1024x3584_S1x1024x3584_0_0_0) shapeCasts_S1x1024x3584_S1024x3584)) (shapeCast S3584x1024 (extractStridedSlice S1x3584x1024 ![0, 0, 0] (V0 (Proc.devRef .tc main_arg4)) slices_S8x3584x1024_S1x3584x1024_0_0_0) shapeCasts_S1x3584x1024_S3584x1024))
theorem part_0_at (r : Fin 36864) (d : Fin 1024) : part_0 V0 (ix2 r d)
    = if ownR V0 (ix1 r) = 0#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (0 : Fin 8) r d else 0 := by
  unfold part_0 ffnE termE projE
  rw [onlyR_at, downR_at]
  simp only [gateR_at, upSlice_0, downSlice_0]
/-- Expert 1's rows of the reference. -/
def part_1 : FVec Ideal S36864x1024 .f32 :=
  onlyR (ownR V0) (rowsR V0) 1#32 (endsR V0) (downR (gateR (V0 (Proc.devRef .tc main_arg0)) (shapeCast S1024x3584 (extractStridedSlice S1x1024x3584 ![1, 0, 0] (V0 (Proc.devRef .tc main_arg2)) slices_S8x1024x3584_S1x1024x3584_1_0_0) shapeCasts_S1x1024x3584_S1024x3584)) (gateR (V0 (Proc.devRef .tc main_arg0)) (shapeCast S1024x3584 (extractStridedSlice S1x1024x3584 ![1, 0, 0] (V0 (Proc.devRef .tc main_arg3)) slices_S8x1024x3584_S1x1024x3584_1_0_0) shapeCasts_S1x1024x3584_S1024x3584)) (shapeCast S3584x1024 (extractStridedSlice S1x3584x1024 ![1, 0, 0] (V0 (Proc.devRef .tc main_arg4)) slices_S8x3584x1024_S1x3584x1024_1_0_0) shapeCasts_S1x3584x1024_S3584x1024))
theorem part_1_at (r : Fin 36864) (d : Fin 1024) : part_1 V0 (ix2 r d)
    = if ownR V0 (ix1 r) = 1#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (1 : Fin 8) r d else 0 := by
  unfold part_1 ffnE termE projE
  rw [onlyR_at, downR_at]
  simp only [gateR_at, upSlice_1, downSlice_1]
/-- Expert 2's rows of the reference. -/
def part_2 : FVec Ideal S36864x1024 .f32 :=
  onlyR (ownR V0) (rowsR V0) 2#32 (endsR V0) (downR (gateR (V0 (Proc.devRef .tc main_arg0)) (shapeCast S1024x3584 (extractStridedSlice S1x1024x3584 ![2, 0, 0] (V0 (Proc.devRef .tc main_arg2)) slices_S8x1024x3584_S1x1024x3584_2_0_0) shapeCasts_S1x1024x3584_S1024x3584)) (gateR (V0 (Proc.devRef .tc main_arg0)) (shapeCast S1024x3584 (extractStridedSlice S1x1024x3584 ![2, 0, 0] (V0 (Proc.devRef .tc main_arg3)) slices_S8x1024x3584_S1x1024x3584_2_0_0) shapeCasts_S1x1024x3584_S1024x3584)) (shapeCast S3584x1024 (extractStridedSlice S1x3584x1024 ![2, 0, 0] (V0 (Proc.devRef .tc main_arg4)) slices_S8x3584x1024_S1x3584x1024_2_0_0) shapeCasts_S1x3584x1024_S3584x1024))
theorem part_2_at (r : Fin 36864) (d : Fin 1024) : part_2 V0 (ix2 r d)
    = if ownR V0 (ix1 r) = 2#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (2 : Fin 8) r d else 0 := by
  unfold part_2 ffnE termE projE
  rw [onlyR_at, downR_at]
  simp only [gateR_at, upSlice_2, downSlice_2]
/-- Expert 3's rows of the reference. -/
def part_3 : FVec Ideal S36864x1024 .f32 :=
  onlyR (ownR V0) (rowsR V0) 3#32 (endsR V0) (downR (gateR (V0 (Proc.devRef .tc main_arg0)) (shapeCast S1024x3584 (extractStridedSlice S1x1024x3584 ![3, 0, 0] (V0 (Proc.devRef .tc main_arg2)) slices_S8x1024x3584_S1x1024x3584_3_0_0) shapeCasts_S1x1024x3584_S1024x3584)) (gateR (V0 (Proc.devRef .tc main_arg0)) (shapeCast S1024x3584 (extractStridedSlice S1x1024x3584 ![3, 0, 0] (V0 (Proc.devRef .tc main_arg3)) slices_S8x1024x3584_S1x1024x3584_3_0_0) shapeCasts_S1x1024x3584_S1024x3584)) (shapeCast S3584x1024 (extractStridedSlice S1x3584x1024 ![3, 0, 0] (V0 (Proc.devRef .tc main_arg4)) slices_S8x3584x1024_S1x3584x1024_3_0_0) shapeCasts_S1x3584x1024_S3584x1024))
theorem part_3_at (r : Fin 36864) (d : Fin 1024) : part_3 V0 (ix2 r d)
    = if ownR V0 (ix1 r) = 3#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (3 : Fin 8) r d else 0 := by
  unfold part_3 ffnE termE projE
  rw [onlyR_at, downR_at]
  simp only [gateR_at, upSlice_3, downSlice_3]
/-- Expert 4's rows of the reference. -/
def part_4 : FVec Ideal S36864x1024 .f32 :=
  onlyR (ownR V0) (rowsR V0) 4#32 (endsR V0) (downR (gateR (V0 (Proc.devRef .tc main_arg0)) (shapeCast S1024x3584 (extractStridedSlice S1x1024x3584 ![4, 0, 0] (V0 (Proc.devRef .tc main_arg2)) slices_S8x1024x3584_S1x1024x3584_4_0_0) shapeCasts_S1x1024x3584_S1024x3584)) (gateR (V0 (Proc.devRef .tc main_arg0)) (shapeCast S1024x3584 (extractStridedSlice S1x1024x3584 ![4, 0, 0] (V0 (Proc.devRef .tc main_arg3)) slices_S8x1024x3584_S1x1024x3584_4_0_0) shapeCasts_S1x1024x3584_S1024x3584)) (shapeCast S3584x1024 (extractStridedSlice S1x3584x1024 ![4, 0, 0] (V0 (Proc.devRef .tc main_arg4)) slices_S8x3584x1024_S1x3584x1024_4_0_0) shapeCasts_S1x3584x1024_S3584x1024))
theorem part_4_at (r : Fin 36864) (d : Fin 1024) : part_4 V0 (ix2 r d)
    = if ownR V0 (ix1 r) = 4#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (4 : Fin 8) r d else 0 := by
  unfold part_4 ffnE termE projE
  rw [onlyR_at, downR_at]
  simp only [gateR_at, upSlice_4, downSlice_4]
/-- Expert 5's rows of the reference. -/
def part_5 : FVec Ideal S36864x1024 .f32 :=
  onlyR (ownR V0) (rowsR V0) 5#32 (endsR V0) (downR (gateR (V0 (Proc.devRef .tc main_arg0)) (shapeCast S1024x3584 (extractStridedSlice S1x1024x3584 ![5, 0, 0] (V0 (Proc.devRef .tc main_arg2)) slices_S8x1024x3584_S1x1024x3584_5_0_0) shapeCasts_S1x1024x3584_S1024x3584)) (gateR (V0 (Proc.devRef .tc main_arg0)) (shapeCast S1024x3584 (extractStridedSlice S1x1024x3584 ![5, 0, 0] (V0 (Proc.devRef .tc main_arg3)) slices_S8x1024x3584_S1x1024x3584_5_0_0) shapeCasts_S1x1024x3584_S1024x3584)) (shapeCast S3584x1024 (extractStridedSlice S1x3584x1024 ![5, 0, 0] (V0 (Proc.devRef .tc main_arg4)) slices_S8x3584x1024_S1x3584x1024_5_0_0) shapeCasts_S1x3584x1024_S3584x1024))
theorem part_5_at (r : Fin 36864) (d : Fin 1024) : part_5 V0 (ix2 r d)
    = if ownR V0 (ix1 r) = 5#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (5 : Fin 8) r d else 0 := by
  unfold part_5 ffnE termE projE
  rw [onlyR_at, downR_at]
  simp only [gateR_at, upSlice_5, downSlice_5]
/-- Expert 6's rows of the reference. -/
def part_6 : FVec Ideal S36864x1024 .f32 :=
  onlyR (ownR V0) (rowsR V0) 6#32 (endsR V0) (downR (gateR (V0 (Proc.devRef .tc main_arg0)) (shapeCast S1024x3584 (extractStridedSlice S1x1024x3584 ![6, 0, 0] (V0 (Proc.devRef .tc main_arg2)) slices_S8x1024x3584_S1x1024x3584_6_0_0) shapeCasts_S1x1024x3584_S1024x3584)) (gateR (V0 (Proc.devRef .tc main_arg0)) (shapeCast S1024x3584 (extractStridedSlice S1x1024x3584 ![6, 0, 0] (V0 (Proc.devRef .tc main_arg3)) slices_S8x1024x3584_S1x1024x3584_6_0_0) shapeCasts_S1x1024x3584_S1024x3584)) (shapeCast S3584x1024 (extractStridedSlice S1x3584x1024 ![6, 0, 0] (V0 (Proc.devRef .tc main_arg4)) slices_S8x3584x1024_S1x3584x1024_6_0_0) shapeCasts_S1x3584x1024_S3584x1024))
theorem part_6_at (r : Fin 36864) (d : Fin 1024) : part_6 V0 (ix2 r d)
    = if ownR V0 (ix1 r) = 6#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (6 : Fin 8) r d else 0 := by
  unfold part_6 ffnE termE projE
  rw [onlyR_at, downR_at]
  simp only [gateR_at, upSlice_6, downSlice_6]
/-- Expert 7's rows of the reference. -/
def part_7 : FVec Ideal S36864x1024 .f32 :=
  onlyR (ownR V0) (rowsR V0) 7#32 (endsR V0) (downR (gateR (V0 (Proc.devRef .tc main_arg0)) (shapeCast S1024x3584 (extractStridedSlice S1x1024x3584 ![7, 0, 0] (V0 (Proc.devRef .tc main_arg2)) slices_S8x1024x3584_S1x1024x3584_7_0_0) shapeCasts_S1x1024x3584_S1024x3584)) (gateR (V0 (Proc.devRef .tc main_arg0)) (shapeCast S1024x3584 (extractStridedSlice S1x1024x3584 ![7, 0, 0] (V0 (Proc.devRef .tc main_arg3)) slices_S8x1024x3584_S1x1024x3584_7_0_0) shapeCasts_S1x1024x3584_S1024x3584)) (shapeCast S3584x1024 (extractStridedSlice S1x3584x1024 ![7, 0, 0] (V0 (Proc.devRef .tc main_arg4)) slices_S8x3584x1024_S1x3584x1024_7_0_0) shapeCasts_S1x3584x1024_S3584x1024))
theorem part_7_at (r : Fin 36864) (d : Fin 1024) : part_7 V0 (ix2 r d)
    = if ownR V0 (ix1 r) = 7#32 ∧ (rowsR V0 (ix1 r)).toInt < (endsR V0 (ix1 (7 : Fin 8))).toInt then ffnE (V0 (Proc.devRef .tc main_arg0)) (V0 (Proc.devRef .tc main_arg2)) (V0 (Proc.devRef .tc main_arg3)) (V0 (Proc.devRef .tc main_arg4)) (7 : Fin 8) r d else 0 := by
  unfold part_7 ffnE termE projE
  rw [onlyR_at, downR_at]
  simp only [gateR_at, upSlice_7, downSlice_7]

theorem first_half : Cert.Reference2Ideal.Value.res_main_v98 V0 = addf (addf (addf (addf (broadcastInDim S36864x1024 ![] bcast_S_S36864x1024 (constant S_ .f32 0x00000000#32)) (part_0 V0)) (part_1 V0)) (part_2 V0)) (part_3 V0) := rfl
theorem second_half : Cert.Reference2Ideal.Value.res_main_v182 V0 = addf (addf (addf (addf (Cert.Reference2Ideal.Value.res_main_v98 V0) (part_4 V0)) (part_5 V0)) (part_6 V0)) (part_7 V0) := rfl

/-- Of the eight terms only the row's own is not zero. -/
theorem own_term (g : Fin 8 → EReal) (n : Fin 8) (P : Prop) [Decidable P] (hP : P) :
    (((((((((0 : EReal) + (if BitVec.ofNat 32 n.val = 0#32 ∧ P then g 0 else 0)) + (if BitVec.ofNat 32 n.val = 1#32 ∧ P then g 1 else 0)) + (if BitVec.ofNat 32 n.val = 2#32 ∧ P then g 2 else 0)) + (if BitVec.ofNat 32 n.val = 3#32 ∧ P then g 3 else 0)) + (if BitVec.ofNat 32 n.val = 4#32 ∧ P then g 4 else 0)) + (if BitVec.ofNat 32 n.val = 5#32 ∧ P then g 5 else 0)) + (if BitVec.ofNat 32 n.val = 6#32 ∧ P then g 6 else 0)) + (if BitVec.ofNat 32 n.val = 7#32 ∧ P then g 7 else 0)) = g n := by
  fin_cases n <;> simp [hP]

theorem eight (r : Fin 36864) (d : Fin 1024) : Cert.Reference2Ideal.Value.res_main_v182 V0 (ix2 r d)
    = (((((((((0 : EReal) + part_0 V0 (ix2 r d)) + part_1 V0 (ix2 r d)) + part_2 V0 (ix2 r d)) + part_3 V0 (ix2 r d)) + part_4 V0 (ix2 r d)) + part_5 V0 (ix2 r d)) + part_6 V0 (ix2 r d)) + part_7 V0 (ix2 r d)) := by
  have hz : ((broadcastInDim S36864x1024 ![] bcast_S_S36864x1024 (constant (F := Ideal) S_ .f32 0x00000000#32)) (ix2 r d) : EReal) = 0 := by
    pointwise []
  rw [second_half, first_half, ← hz]
  rfl

theorem own_at (r : Fin 36864) : ownR V0 (ix1 r) = BitVec.ofNat 32 (cnt (BitVec.ofNat 32 r.val) (endsR V0)) := count_at (endsR V0) r

theorem rows_at (r : Fin 36864) : rowsR V0 (ix1 r) = BitVec.ofNat 32 r.val := iota_at r

/-- The reference's ends are the running sum of its counts. -/
theorem ends_at : endsR V0 = endsOf (Cert.Reference2Ideal.Value.res_main_v1 V0) := rfl

/-- The kernel's host code adds 512 and takes away one; the reference adds 511. -/
theorem counts_eq (a : IVec S8 32) : subi (addi a (word8 512#32)) (word8 1#32) = addi a (broadcastInDim S8 ![] bcast_S_S8 (constantI S_ 32 511#32)) := by
  funext i
  show (a i + 512#32) - 1#32 = a i + 511#32
  rw [BitVec.sub_eq_add_neg, BitVec.add_assoc]
  rfl

/-- The reference's result array. -/
theorem out_eq : Cert.Reference2Ideal.Value.res_main_v182 V0
    = moe (endsOf (subi (addi (V0 (Proc.devRef .tc main_arg1)) (word8 512#32)) (word8 1#32))) (V0 (Proc.devRef .tc main_arg0)) (V0 (Proc.devRef .tc main_arg2)) (V0 (Proc.devRef .tc main_arg3)) (V0 (Proc.devRef .tc main_arg4)) := by
  rw [counts_eq]
  show _ = moe (endsR V0) _ _ _ _
  funext i
  obtain ⟨r, d, rfl⟩ : ∃ (r : Fin 36864) (d : Fin 1024), i = ix2 r d :=
    ⟨i 0, i 1, by funext a; match a with | ⟨0, _⟩ => rfl | ⟨1, _⟩ => rfl⟩
  rw [eight]
  show _ = rowE (endsR V0) (V0 (Proc.devRef .tc main_arg0)) (V0 (Proc.devRef .tc main_arg2)) (V0 (Proc.devRef .tc main_arg3)) (V0 (Proc.devRef .tc main_arg4)) (BitVec.ofNat 32 r.val) r d
  unfold rowE
  rw [part_0_at, part_1_at, part_2_at, part_3_at, part_4_at, part_5_at, part_6_at, part_7_at, own_at, rows_at]
  by_cases h : (BitVec.ofNat 32 r.val).toInt < (endsR V0 (ix1 (7 : Fin 8))).toInt
  · rw [dif_pos h]
    exact own_term (fun e => ffnE (V0 (Proc.devRef .tc main_arg0)) (V0 (Proc.devRef .tc main_arg2)) (V0 (Proc.devRef .tc main_arg3)) (V0 (Proc.devRef .tc main_arg4)) e r d)
      ⟨cnt (BitVec.ofNat 32 r.val) (endsR V0), Nat.lt_succ_of_le (cnt_live _ _ h)⟩ _ h
  · rw [dif_neg h]
    simp only [h, and_false, if_false, add_zero]

end Cert.Proof.MoE

end
-- ==== Proof.Dense.Norm.lean ====
/-
  The normed row: the mathematics shared by the input projection and the dense feed-forward, as the kernels compute it
  and as the references compute it.
-/
module

public import proofs.«01_k».proof.Proof.Gen.Kernel3Ideal.Value
public import proofs.«01_k».proof.Proof.Gen.Kernel4Ideal.Value
public import proofs.«01_k».proof.Proof.Gen.Reference3Ideal.Run
public import proofs.«01_k».proof.Proof.Gen.Reference4Ideal.Run
public import Idealize.ShloMosaic.Lib.Pointwise
public import Idealize.ShloMosaic.Lib.Pipeline.ValueKit.Geometry

@[expose] public section

set_option maxRecDepth 16384

noncomputable section

namespace Cert.Proof.Dense

open Cert.Kernel4Ideal
open Idealize.ShloMosaic Idealize.ShloMosaic.TcCoe
open scoped BigOperators

/-- One entry of a row divided by its root mean square, times the gain. -/
def normE (v g : Fin 1024 → EReal) (k : Fin 1024) : EReal :=
  v k * Ideal.rsqrt (Ideal.div (∑ j : Fin 1024, v j * v j) (Scalar.ofBits (F := Ideal) .f32 0x44800000#32)
    + (Scalar.ofBits (F := Ideal) .f32 0x358637BD#32 : EReal)) * g k

theorem norm4 (x : Vec Ideal S512x1024 .f32) (g : Vec Ideal S1x1024 .f32) (r : Fin 512) (k : Fin 1024) :
    Cert.Kernel4Ideal.Gen.k0_pay4 (F := Ideal) x g (ix2 r k) = normE (fun j => x (ix2 r j)) (fun j => g (ix2 (0 : Fin 1) j)) k := by
  unfold normE
  pointwise [Cert.Kernel4Ideal.Gen.k0_pay4]

theorem norm3 (x : Vec Ideal S512x1024 .f32) (g : Vec Ideal S1x1024 .f32) (r : Fin 512) (k : Fin 1024) :
    Cert.Kernel3Ideal.Gen.k0_pay2 (F := Ideal) x g (ix2 r k) = normE (fun j => x (ix2 r j)) (fun j => g (ix2 (0 : Fin 1) j)) k := by
  unfold normE
  pointwise [Cert.Kernel3Ideal.Gen.k0_pay2, Cert.Kernel3Ideal.Gen.k0_pay1]

/-- The references' normed rows. -/
def normR (X : FVec Ideal S16384x1024 .f32) (g : FVec Ideal S1024 .f32) : FVec Ideal S16384x1024 .f32 :=
  mulf (mulf X (broadcastInDim S16384x1024 ![0, 1] Cert.Reference4Ideal.Gen.bcast_S16384x1_S16384x1024_0_1 (Host.rsqrt (addf (Host.divf (broadcastInDim Cert.Reference4Ideal.S16384x1 ![0] Cert.Reference4Ideal.Gen.bcast_S16384_S16384x1_0 (Host.reduceAdd (mulf X X) (constant Cert.Reference4Ideal.S_ .f32 0x00000000#32) Cert.Reference4Ideal.Gen.reducesTo_S16384x1024_S16384_d1 Cert.Reference4Ideal.Gen.h_S_)) (broadcastInDim Cert.Reference4Ideal.S16384x1 ![] Cert.Reference4Ideal.Gen.bcast_S_S16384x1 (constant Cert.Reference4Ideal.S_ .f32 0x44800000#32))) (broadcastInDim Cert.Reference4Ideal.S16384x1 ![] Cert.Reference4Ideal.Gen.bcast_S_S16384x1 (constant Cert.Reference4Ideal.S_ .f32 0x358637BD#32)))))) (broadcastInDim S16384x1024 ![0, 1] Cert.Reference4Ideal.Gen.bcast_S1x1024_S16384x1024_0_1 (broadcastInDim S1x1024 ![1] Cert.Reference4Ideal.Gen.bcast_S1024_S1x1024_1 g))

theorem normR_at (X : FVec Ideal S16384x1024 .f32) (g : FVec Ideal S1024 .f32) (r : Fin 16384) (k : Fin 1024) :
    normR X g (ix2 r k) = normE (fun j => X (ix2 r j)) (fun j => g (ix1 j)) k := by
  unfold normE
  pointwise [normR]

end Cert.Proof.Dense

end
-- ==== Proof.Dense.Ffn.lean ====
/-
  The dense feed-forward: what a row block's two points add up to, the result array, and the reference.
-/
module

public import proofs.«01_k».proof.Proof.Dense.Norm
public import proofs.«01_k».proof.Proof.MoE.Value
public import Idealize.ShloMosaic.Lib.Pipeline.ValueKit
public import Idealize.ShloMosaic.Lib.Pipeline.ReadBack

@[expose] public section

set_option maxRecDepth 16384

noncomputable section

namespace Cert.Proof.Dense.Ffn

open Cert.Kernel3Ideal Cert.Kernel3Ideal.Gen
open Idealize.ShloMosaic Idealize.ShloMosaic.TcCoe
open Cert.Proof.MoE (actE)
open scoped BigOperators

/-! ## One point's product -/

theorem start_at (x : Vec Ideal S512x1024 .f32) (r : Fin 512) (d : Fin 1024) : k0_pay3 (F := Ideal) x (ix2 r d) = x (ix2 r d) := by
  pointwise [k0_pay3, k0_pay1]

theorem add_at (h : Vec Ideal S512x1024 .bf16) (wg wu : Vec Ideal S1024x1408 .bf16) (acc : Vec Ideal S512x1024 .f32)
    (wd : Vec Ideal S1408x1024 .bf16) (r : Fin 512) (d : Fin 1024) :
    k0_pay4 (F := Ideal) h wg wu acc wd (ix2 r d) = (acc (ix2 r d) : EReal) + ∑ f : Fin 1408,
      actE (∑ k : Fin 1024, (h (ix2 r k) : EReal) * wg (ix2 k f)) (∑ k : Fin 1024, (h (ix2 r k) : EReal) * wu (ix2 k f)) * wd (ix2 f d) := by
  unfold actE
  pointwise [k0_pay4]

/-! ## The points -/

variable (m : (ℓ : Loc nD τ sig) → Buf (Elt Ideal) ℓ)

/-- What the first point of a row block leaves in the two scratch buffers. -/
theorem first_h (c : Dev nD) (t : Fin cfg0.N) (h0 : t.val % 2 = 0) (h1 : ¬t.val % 2 = 1) :
    (outsAt0 m c t.val t.isLt).2.1 = k0_pay2 (F := Ideal) (iblk m c 0 t) (iblk m c 1 t) := by
  rw [outsAt0_A m c t h0 h1]
  frame_out
theorem first_acc (c : Dev nD) (t : Fin cfg0.N) (h0 : t.val % 2 = 0) (h1 : ¬t.val % 2 = 1) :
    (outsAt0 m c t.val t.isLt).2.2 = k0_pay4 (F := Ideal) (k0_pay2 (F := Ideal) (iblk m c 0 t) (iblk m c 1 t)) (iblk m c 2 t) (iblk m c 3 t)
      (k0_pay3 (F := Ideal) (iblk m c 0 t)) (iblk m c 4 t) := by
  rw [outsAt0_A m c t h0 h1]
  frame_out
/-- What the second point writes back. -/
theorem second_out (c : Dev nD) (t : Fin cfg0.N) (h0 : ¬t.val % 2 = 0) (h1 : t.val % 2 = 1) :
    (outsAt0 m c t.val t.isLt).1 = k0_pay4 (F := Ideal) (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) := by
  rw [outsAt0_B m c t h0 h1]
  frame_out
  simp only [read_unread_whole]

/-! ## The blocks -/

theorem V_v0 (c : Dev nD) : V m c main_v0 = shapeCast S16384x1024 (m ((c : Thread nD τ).loc main_arg0)) shapeCasts_S2x8192x1024_S16384x1024 := by
  unfold V hostOps0
  after_results_simp
  all_goals rfl
theorem V_v1 (c : Dev nD) : V m c main_v1 = (truncf .bf16 (m ((c : Thread nD τ).loc main_arg2) : FVec Ideal S1024x2816 .f32) bitsLt_bf16_f32 : FVec Ideal S1024x2816 .bf16) := by
  unfold V hostOps0
  after_results_simp
  all_goals rfl
theorem V_v2 (c : Dev nD) : V m c main_v2 = (truncf .bf16 (m ((c : Thread nD τ).loc main_arg3) : FVec Ideal S1024x2816 .f32) bitsLt_bf16_f32 : FVec Ideal S1024x2816 .bf16) := by
  unfold V hostOps0
  after_results_simp
  all_goals rfl
theorem V_v3 (c : Dev nD) : V m c main_v3 = (truncf .bf16 (m ((c : Thread nD τ).loc main_arg4) : FVec Ideal S2816x1024 .f32) bitsLt_bf16_f32 : FVec Ideal S2816x1024 .bf16) := by
  unfold V hostOps0
  after_results_simp
  all_goals rfl
theorem V_v4 (c : Dev nD) : V m c main_v4 = shapeCast S1x1024 (m ((c : Thread nD τ).loc main_arg1)) shapeCasts_S1024_S1x1024 := by
  unfold V hostOps0
  after_results_simp
  all_goals rfl

theorem index0 : ∀ t : Fin cfg0.N, (cfg0.win 0).index t = ![t.val / 2, 0] := (by decide +kernel : ∀ t : Fin grid0.N, win0_0.index t = ![t.val / 2, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![0, t.val % 2] := (by decide +kernel : ∀ t : Fin grid0.N, win0_2.index t = ![0, t.val % 2])
theorem index3 : ∀ t : Fin cfg0.N, (cfg0.win 3).index t = ![0, t.val % 2] := (by decide +kernel : ∀ t : Fin grid0.N, win0_3.index t = ![0, t.val % 2])
theorem index4 : ∀ t : Fin cfg0.N, (cfg0.win 4).index t = ![t.val % 2, 0] := (by decide +kernel : ∀ t : Fin grid0.N, win0_4.index t = ![t.val % 2, 0])
theorem index5 : ∀ t : Fin cfg0.N, (cfg0.win 5).index t = ![t.val / 2, 0] := (by decide +kernel : ∀ t : Fin grid0.N, win0_5.index t = ![t.val / 2, 0])

/-- The array row of a point's row. -/
def arrRow (t : Fin cfg0.N) (r : Fin 512) : Fin 16384 := ⟨512 * (t.val / 2) + r.val, by have h : t.val < 64 := lt_of_lt_of_eq t.isLt N_0; omega⟩
/-- The hidden column of a point's column. -/
def hidden (t : Fin cfg0.N) (f : Fin 1408) : Fin 2816 := ⟨1408 * (t.val % 2) + f.val, by omega⟩

theorem blk0 (c : Dev nD) (t : Fin cfg0.N) (r : Fin 512) (k : Fin 1024) :
    (iblk m c 0 t : Vec Ideal S512x1024 .f32) (ix2 r k) = V m c main_v0 (ix2 (arrRow t r) k) := by
  have hi := index0 t
  show V m c main_v0 (((cfg0.win 0).blk t).view.emb (ix2 r k)) = _
  congr 1
  blk_ext [hi, arrRow]
theorem blk1 (c : Dev nD) (t : Fin cfg0.N) (k : Fin 1024) :
    (iblk m c 1 t : Vec Ideal S1x1024 .f32) (ix2 (0 : Fin 1) k) = V m c main_v4 (ix2 (0 : Fin 1) k) := by
  have hi := index1 t
  show V m c main_v4 (((cfg0.win 1).blk t).view.emb (ix2 (0 : Fin 1) k)) = _
  congr 1
  blk_ext [hi]
theorem blk2 (c : Dev nD) (t : Fin cfg0.N) (k : Fin 1024) (f : Fin 1408) :
    (iblk m c 2 t : Vec Ideal S1024x1408 .bf16) (ix2 k f) = V m c main_v1 (ix2 k (hidden t f)) := by
  have hi := index2 t
  show V m c main_v1 (((cfg0.win 2).blk t).view.emb (ix2 k f)) = _
  congr 1
  blk_ext [hi, hidden]
theorem blk3 (c : Dev nD) (t : Fin cfg0.N) (k : Fin 1024) (f : Fin 1408) :
    (iblk m c 3 t : Vec Ideal S1024x1408 .bf16) (ix2 k f) = V m c main_v2 (ix2 k (hidden t f)) := by
  have hi := index3 t
  show V m c main_v2 (((cfg0.win 3).blk t).view.emb (ix2 k f)) = _
  congr 1
  blk_ext [hi, hidden]
theorem blk4 (c : Dev nD) (t : Fin cfg0.N) (f : Fin 1408) (d : Fin 1024) :
    (iblk m c 4 t : Vec Ideal S1408x1024 .bf16) (ix2 f d) = V m c main_v3 (ix2 (hidden t f) d) := by
  have hi := index4 t
  show V m c main_v3 (((cfg0.win 4).blk t).view.emb (ix2 f d)) = _
  congr 1
  blk_ext [hi, hidden]

theorem gain_at (g : FVec Ideal S1024 .f32) (k : Fin 1024) : (shapeCast S1x1024 g shapeCasts_S1024_S1x1024) (ix2 (0 : Fin 1) k) = g (ix1 k) := by
  pointwise []

/-! ## The mathematics -/

/-- The rows the layer normalizes and adds back. -/
def rowsX (x : FVec Ideal S2x8192x1024 .f32) : FVec Ideal S16384x1024 .f32 := shapeCast S16384x1024 x shapeCasts_S2x8192x1024_S16384x1024

/-- A normed row's product with the gate or up matrix. -/
def projE (x : FVec Ideal S2x8192x1024 .f32) (g : FVec Ideal S1024 .f32) (w : FVec Ideal S1024x2816 .f32) (r : Fin 16384) (f : Fin 2816) : EReal :=
  ∑ k : Fin 1024, normE (fun j => rowsX x (ix2 r j)) (fun j => g (ix1 j)) k * w (ix2 k f)

/-- One hidden column's term. -/
def termE (x : FVec Ideal S2x8192x1024 .f32) (g : FVec Ideal S1024 .f32) (wg wu : FVec Ideal S1024x2816 .f32) (wd : FVec Ideal S2816x1024 .f32)
    (r : Fin 16384) (d : Fin 1024) (f : Fin 2816) : EReal :=
  actE (projE x g wg r f) (projE x g wu r f) * wd (ix2 f d)

/-- The layer: the rows plus the feed-forward of the normed rows. -/
def ffn (x : FVec Ideal S2x8192x1024 .f32) (g : FVec Ideal S1024 .f32) (wg wu : FVec Ideal S1024x2816 .f32) (wd : FVec Ideal S2816x1024 .f32) :
    FVec Ideal S16384x1024 .f32 :=
  fun i => (rowsX x (ix2 (i 0) (i 1)) : EReal) + ∑ f : Fin 2816, termE x g wg wu wd (i 0) (i 1) f

/-- A payload over blocks of the arrays adds the terms of its hidden columns. -/
theorem half_add (h : Vec Ideal S512x1024 .bf16) (wg wu : Vec Ideal S1024x1408 .bf16) (acc : Vec Ideal S512x1024 .f32) (wd : Vec Ideal S1408x1024 .bf16)
    (x : FVec Ideal S2x8192x1024 .f32) (g : FVec Ideal S1024 .f32) (Wg Wu : FVec Ideal S1024x2816 .f32) (Wd : FVec Ideal S2816x1024 .f32)
    (R : Fin 512 → Fin 16384) (J : Fin 1408 → Fin 2816)
    (hh : ∀ (r : Fin 512) (k : Fin 1024), (h (ix2 r k) : EReal) = normE (fun j => rowsX x (ix2 (R r) j)) (fun j => g (ix1 j)) k)
    (h1 : ∀ (k : Fin 1024) (f : Fin 1408), (wg (ix2 k f) : EReal) = Wg (ix2 k (J f)))
    (h2 : ∀ (k : Fin 1024) (f : Fin 1408), (wu (ix2 k f) : EReal) = Wu (ix2 k (J f)))
    (h3 : ∀ (f : Fin 1408) (d : Fin 1024), (wd (ix2 f d) : EReal) = Wd (ix2 (J f) d))
    (r : Fin 512) (d : Fin 1024) :
    k0_pay4 (F := Ideal) h wg wu acc wd (ix2 r d)
      = (acc (ix2 r d) : EReal) + ∑ f : Fin 1408, termE x g Wg Wu Wd (R r) d (J f) := by
  rw [add_at]
  congr 1
  refine Finset.sum_congr rfl fun f _ => ?_
  unfold termE projE
  simp only [hh, h1, h2, h3]

/-! ## A row block's value -/

/-- The arguments as the memory holds them. -/
abbrev argX (c : Dev nD) : FVec Ideal S2x8192x1024 .f32 := m ((c : Thread nD τ).loc main_arg0)
abbrev argS (c : Dev nD) : FVec Ideal S1024 .f32 := m ((c : Thread nD τ).loc main_arg1)
abbrev argG (c : Dev nD) : FVec Ideal S1024x2816 .f32 := m ((c : Thread nD τ).loc main_arg2)
abbrev argU (c : Dev nD) : FVec Ideal S1024x2816 .f32 := m ((c : Thread nD τ).loc main_arg3)
abbrev argD (c : Dev nD) : FVec Ideal S2816x1024 .f32 := m ((c : Thread nD τ).loc main_arg4)

/-- The normed rows a row block's first point leaves. -/
theorem norm_rows (c : Dev nD) (t : Fin cfg0.N) (r : Fin 512) (k : Fin 1024) :
    (k0_pay2 (F := Ideal) (iblk m c 0 t) (iblk m c 1 t) (ix2 r k) : EReal)
      = normE (fun j => rowsX (argX m c) (ix2 (arrRow t r) j)) (fun j => argS m c (ix1 j)) k := by
  refine (norm3 _ _ r k).trans (congrArg₂ (fun v g => normE v g k) ?_ ?_)
  · funext j
    exact (blk0 m c t r j).trans (congrFun (V_v0 m c) _)
  · funext j
    exact (blk1 m c t j).trans ((congrFun (V_v4 m c) _).trans (gain_at _ j))

/-- What a point adds to the accumulator. -/
theorem point_add (c : Dev nD) (t : Fin cfg0.N) (h : Vec Ideal S512x1024 .bf16)
    (hh : ∀ (r : Fin 512) (k : Fin 1024), (h (ix2 r k) : EReal) = normE (fun j => rowsX (argX m c) (ix2 (arrRow t r) j)) (fun j => argS m c (ix1 j)) k)
    (acc : Vec Ideal S512x1024 .f32) (r : Fin 512) (d : Fin 1024) :
    k0_pay4 (F := Ideal) h (iblk m c 2 t) (iblk m c 3 t) acc (iblk m c 4 t) (ix2 r d)
      = (acc (ix2 r d) : EReal) + ∑ f : Fin 1408, termE (argX m c) (argS m c) (argG m c) (argU m c) (argD m c) (arrRow t r) d (hidden t f) :=
  half_add h _ _ acc _ (argX m c) (argS m c) (argG m c) (argU m c) (argD m c) (arrRow t) (hidden t) hh
    (fun k f => (blk2 m c t k f).trans (congrFun (V_v1 m c) _))
    (fun k f => (blk3 m c t k f).trans (congrFun (V_v2 m c) _))
    (fun f d => (blk4 m c t f d).trans (congrFun (V_v3 m c) _)) r d

/-- What a row block's second point writes back. -/
theorem block_value (c : Dev nD) (t : Fin cfg0.N) (ht : t.val % 2 = 1) (r : Fin 512) (d : Fin 1024) :
    (outsAt0 m c t.val t.isLt).1 (ix2 r d)
      = ffn (argX m c) (argS m c) (argG m c) (argU m c) (argD m c) (ix2 (arrRow t r) d) := by
  have hlt : t.val - 1 < cfg0.N := Nat.lt_of_le_of_lt (Nat.sub_le _ _) t.isLt
  have hs0 : (t.val - 1) % 2 = 0 := by omega
  have hs1 : ¬(t.val - 1) % 2 = 1 := by omega
  have hR : ∀ r, arrRow ⟨t.val - 1, hlt⟩ r = arrRow t r := fun r => Fin.ext (by
    show 512 * ((t.val - 1) / 2) + r.val = 512 * (t.val / 2) + r.val; omega)
  have hn := norm_rows m c ⟨t.val - 1, hlt⟩
  rw [second_out m c t (by omega) ht, first_h m c ⟨t.val - 1, hlt⟩ hs0 hs1, first_acc m c ⟨t.val - 1, hlt⟩ hs0 hs1]
  refine (point_add m c t _ (fun r k => (hn r k).trans (by rw [hR])) _ r d).trans ?_
  rw [point_add m c ⟨t.val - 1, hlt⟩ _ hn, start_at, hR]
  unfold ffn
  rw [add_assoc]
  refine congrArg₂ (fun a b : EReal => a + b) ?_ ?_
  · exact (blk0 m c ⟨t.val - 1, hlt⟩ r d).trans ((congrFun (V_v0 m c) _).trans (by rw [hR]; rfl))
  · refine Eq.trans ?_ (Fin.sum_univ_add (a := 1408) (b := 1408) _).symm
    congr 1
    · refine Finset.sum_congr rfl fun f _ => ?_
      exact congrArg (termE (argX m c) (argS m c) (argG m c) (argU m c) (argD m c) (arrRow t r) d)
        (Fin.ext (by show 1408 * ((t.val - 1) % 2) + f.val = f.val; omega))
    · refine Finset.sum_congr rfl fun f _ => ?_
      exact congrArg (termE (argX m c) (argS m c) (argG m c) (argU m c) (argD m c) (arrRow t r) d)
        (Fin.ext (by show 1408 * (t.val % 2) + f.val = 1408 + f.val; omega))

/-! ## The result array -/

theorem covers5 : (cfg0.win 5).Covers := by decide +kernel

/-- The result array at the launch's end. -/
theorem final (c : Dev nD) : (dats m 0 c).arrAt 5 cfg0.N = ffn (argX m c) (argS m c) (argG m c) (argU m c) (argD m c) := by
  refine (dats m 0 c).arrAt_eq_of_covers 5 _ covers5 fun t hf y => ?_
  have ht : t.val % 2 = 1 := (flush0_5 t).mp hf
  blk_simp
  rw [after0_5]
  obtain ⟨r, d, rfl⟩ : ∃ (r : Fin 512) (d : Fin 1024), y = ix2 r d := ⟨y 0, y 1, by funext a; match a with | ⟨0, _⟩ => rfl | ⟨1, _⟩ => rfl⟩
  refine (block_value m c t ht r d).trans ?_
  congr 1
  have e := index5 t
  blk_ext [e, arrRow]

/-! ## The reference -/

/-- The reference's product with the gate or up matrix. -/
def gateR (n : FVec Ideal S16384x1024 .f32) (w : FVec Ideal S1024x2816 .f32) : FVec Ideal Cert.Reference3Ideal.S16384x2816 .f32 :=
  Host.dotGeneral Cert.Reference3Ideal.dot_S16384x1024_S1024x2816_S16384x2816_1_0_0_1_n_n none n w

/-- The reference's gated product, times the down matrix. -/
def downR (g u : FVec Ideal Cert.Reference3Ideal.S16384x2816 .f32) (w : FVec Ideal S2816x1024 .f32) : FVec Ideal S16384x1024 .f32 :=
  Host.dotGeneral Cert.Reference3Ideal.dot_S16384x2816_S2816x1024_S16384x1024_1_0_0_1_n_n none
    (mulf (mulf g (Host.divf
      (broadcastInDim Cert.Reference3Ideal.S16384x2816 ![] Cert.Reference3Ideal.Gen.bcast_S_S16384x2816 (constant Cert.Reference3Ideal.S_ .f32 0x3F800000#32))
      (addf (broadcastInDim Cert.Reference3Ideal.S16384x2816 ![] Cert.Reference3Ideal.Gen.bcast_S_S16384x2816 (constant Cert.Reference3Ideal.S_ .f32 0x3F800000#32))
        (Host.exp (Host.negf g))))) u) w

theorem gateR_at (n : FVec Ideal S16384x1024 .f32) (w : FVec Ideal S1024x2816 .f32) (r : Fin 16384) (f : Fin 2816) :
    gateR n w (ix2 r f) = ∑ k : Fin 1024, (n (ix2 r k) : EReal) * w (ix2 k f) := by
  pointwise [gateR]

theorem downR_at (g u : FVec Ideal Cert.Reference3Ideal.S16384x2816 .f32) (w : FVec Ideal S2816x1024 .f32) (r : Fin 16384) (d : Fin 1024) :
    downR g u w (ix2 r d) = ∑ f : Fin 2816, actE (g (ix2 r f)) (u (ix2 r f)) * w (ix2 f d) := by
  unfold actE
  pointwise [downR]
  rfl

/-- The reference's result, operation by operation, is the layer. -/
theorem ref_eq (x : FVec Ideal S2x8192x1024 .f32) (g : FVec Ideal S1024 .f32) (wg wu : FVec Ideal S1024x2816 .f32) (wd : FVec Ideal S2816x1024 .f32) :
    addf (rowsX x) (downR (gateR (normR (rowsX x) g) wg) (gateR (normR (rowsX x) g) wu) wd) = ffn x g wg wu wd := by
  funext i
  obtain ⟨r, d, rfl⟩ : ∃ (r : Fin 16384) (d : Fin 1024), i = ix2 r d := ⟨i 0, i 1, by funext a; match a with | ⟨0, _⟩ => rfl | ⟨1, _⟩ => rfl⟩
  refine congrArg (fun a : EReal => (rowsX x (ix2 r d) : EReal) + a) ?_
  refine (downR_at _ _ wd r d).trans (Finset.sum_congr rfl fun f _ => ?_)
  unfold termE projE
  simp only [gateR_at, normR_at]
  rfl

/-- Equal arguments give equal layers. -/
theorem ffn_congr {x x' : FVec Ideal S2x8192x1024 .f32} {g g' : FVec Ideal S1024 .f32} {wg wg' wu wu' : FVec Ideal S1024x2816 .f32}
    {wd wd' : FVec Ideal S2816x1024 .f32} (h0 : x' = x) (h1 : g' = g) (h2 : wg' = wg) (h3 : wu' = wu) (h4 : wd' = wd) :
    ffn x' g' wg' wu' wd' = ffn x g wg wu wd := by
  subst h0; subst h1; subst h2; subst h3; subst h4; rfl

end Cert.Proof.Dense.Ffn

end
-- ==== Proof.Dense.Proj.lean ====
/-
  The input projection: the six column chunks a grid point stores are one product of the normed rows with the matrix, and
  the result array is that product.
-/
module

public import proofs.«01_k».proof.Proof.Dense.Norm

@[expose] public section

set_option maxRecDepth 16384

noncomputable section

namespace Cert.Proof.Dense.Proj

open Cert.Kernel4Ideal Cert.Kernel4Ideal.Gen
open Idealize.ShloMosaic Idealize.ShloMosaic.TcCoe
open scoped BigOperators

/-! ## A grid point's block -/

theorem chunk_at (h : FVec Ideal S512x1024 .bf16) (w : Vec Ideal S1024x512 .bf16) (r d : Fin 512) :
    k0_pay1 (F := Ideal) h w (ix2 r d) = ∑ k : Fin 1024, (h (ix2 r k) : EReal) * w (ix2 k d) := by
  pointwise [k0_pay1]

/-- The product of the normed rows of a block with the matrix. -/
def blockE (h : FVec Ideal S512x1024 .bf16) (w : Vec Ideal S1024x3072 .bf16) : Vec Ideal S512x3072 .bf16 :=
  fun y => ∑ k : Fin 1024, (h (ix2 (y 0) k) : EReal) * w (ix2 k (y 1))

/-- A chunk is the columns of the block's product from its offset on. -/
theorem chunk_eq (h : FVec Ideal S512x1024 .bf16) (w : Vec Ideal S1024x3072 .bf16) (off : ℕ)
    (inb : ∀ a, (![0, off] : Fin 2 → ℕ) a + S1024x512.size a ≤ S1024x3072.size a)
    (inb' : ∀ a, (![0, off] : Fin 2 → ℕ) a + S512x512.size a ≤ S512x3072.size a) (x : S512x512.Idx) :
    k0_pay1 (F := Ideal) h (View.ld w (Rect.unit (s := S1024x3072) ![0, off] S1024x512.size inb)) x
      = blockE h w ((Rect.unit (s := S512x3072) ![0, off] S512x512.size inb').emb x) := by
  obtain ⟨r, d, rfl⟩ : ∃ (r d : Fin 512), x = ix2 r d := ⟨x 0, x 1, by funext a; match a with | ⟨0, _⟩ => rfl | ⟨1, _⟩ => rfl⟩
  rw [chunk_at]
  unfold blockE
  refine Finset.sum_congr rfl fun k _ => ?_
  congr 1
  · congr 1
    funext a
    match a with
    | ⟨0, _⟩ => exact Fin.ext (by show r.val = 0 + 1 * r.val; omega)
    | ⟨1, _⟩ => rfl
  · show w ((Rect.unit (s := S1024x3072) ![0, off] S1024x512.size inb).emb (ix2 k d)) = _
    congr 1
    funext a
    match a with
    | ⟨0, _⟩ => exact Fin.ext (by show 0 + 1 * k.val = k.val; omega)
    | ⟨1, _⟩ => rfl

/-- The staging buffer after a point. -/
theorem out_block (x0 : Vec Ideal S512x1024 .f32) (x1 : Vec Ideal S1x1024 .f32) (x2 : Vec Ideal S1024x3072 .bf16) :
    out0_3 (F := Ideal) x0 x1 x2 = blockE (k0_pay4 (F := Ideal) x0 x1) x2 := by
  funext y
  have e0 : View.ld x0 r0_0 = x0 := View.ld_unit_lit _ x0 (by decide)
  have e1 : View.ld x1 r0_1 = x1 := View.ld_unit_lit _ x1 (by decide)
  unfold out0_3 k0_pay8
  rw [e0, e1]
  refine View.canon_apply_of_pieces _ _ (fun p hp x => ?_) y (cover0_3 _ _ _ _ _ _ y)
  simp only [List.mem_cons, List.not_mem_nil, or_false] at hp
  rcases hp with rfl | rfl | rfl | rfl | rfl | rfl
  · exact chunk_eq _ x2 2560 inb_S1024x3072_S1024x512_0_2560 inb_S512x3072_S512x512_0_2560 x
  · exact chunk_eq _ x2 2048 inb_S1024x3072_S1024x512_0_2048 inb_S512x3072_S512x512_0_2048 x
  · exact chunk_eq _ x2 1536 inb_S1024x3072_S1024x512_0_1536 inb_S512x3072_S512x512_0_1536 x
  · exact chunk_eq _ x2 1024 inb_S1024x3072_S1024x512_0_1024 inb_S512x3072_S512x512_0_1024 x
  · exact chunk_eq _ x2 512 inb_S1024x3072_S1024x512_0_512 inb_S512x3072_S512x512_0_512 x
  · exact chunk_eq _ x2 0 inb_S1024x3072_S1024x512_0_0 inb_S512x3072_S512x512_0_0 x

/-! ## The blocks of the arrays -/

variable (m : (ℓ : Loc nD τ sig) → Buf (Elt Ideal) ℓ)

theorem V_v0 (c : Dev nD) : V m c main_v0 = shapeCast S16384x1024 (m ((c : Thread nD τ).loc main_arg0)) shapeCasts_S2x8192x1024_S16384x1024 := by
  unfold V hostOps0
  after_results_simp
  all_goals rfl
theorem V_v1 (c : Dev nD) : V m c main_v1 = (truncf .bf16 (m ((c : Thread nD τ).loc main_arg2) : FVec Ideal S1024x3072 .f32) bitsLt_bf16_f32 : FVec Ideal S1024x3072 .bf16) := by
  unfold V hostOps0
  after_results_simp
  all_goals rfl
theorem V_v2 (c : Dev nD) : V m c main_v2 = shapeCast S1x1024 (m ((c : Thread nD τ).loc main_arg1)) shapeCasts_S1024_S1x1024 := by
  unfold V hostOps0
  after_results_simp
  all_goals rfl

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![0, 0] := (by decide +kernel : ∀ t : Fin grid0.N, win0_1.index t = ![0, 0])
theorem index2 : ∀ t : Fin cfg0.N, (cfg0.win 2).index t = ![0, 0] := (by decide +kernel : ∀ t : Fin grid0.N, win0_2.index t = ![0, 0])
theorem index3 : ∀ t : Fin cfg0.N, (cfg0.win 3).index t = ![t.val, 0] := (by decide +kernel : ∀ t : Fin grid0.N, win0_3.index t = ![t.val, 0])

/-- The array row of a block's row. -/
def arrRow (t : Fin cfg0.N) (r : Fin 512) : Fin 16384 := ⟨512 * t.val + r.val, by have h : t.val < 32 := lt_of_lt_of_eq t.isLt N_0; omega⟩

theorem blk0 (c : Dev nD) (t : Fin cfg0.N) (r : Fin 512) (k : Fin 1024) :
    (iblk m c 0 t : Vec Ideal S512x1024 .f32) (ix2 r k) = V m c main_v0 (ix2 (arrRow t r) k) := by
  have hi := index0 t
  show V m c main_v0 (((cfg0.win 0).blk t).view.emb (ix2 r k)) = _
  congr 1
  blk_ext [hi, arrRow]

theorem blk1 (c : Dev nD) (t : Fin cfg0.N) (k : Fin 1024) :
    (iblk m c 1 t : Vec Ideal S1x1024 .f32) (ix2 (0 : Fin 1) k) = V m c main_v2 (ix2 (0 : Fin 1) k) := by
  have hi := index1 t
  show V m c main_v2 (((cfg0.win 1).blk t).view.emb (ix2 (0 : Fin 1) k)) = _
  congr 1
  blk_ext [hi]

theorem blk2 (c : Dev nD) (t : Fin cfg0.N) (k : Fin 1024) (d : Fin 3072) :
    (iblk m c 2 t : Vec Ideal S1024x3072 .bf16) (ix2 k d) = V m c main_v1 (ix2 k d) := by
  have hi := index2 t
  show V m c main_v1 (((cfg0.win 2).blk t).view.emb (ix2 k d)) = _
  congr 1
  blk_ext [hi]

theorem gain_at (g : FVec Ideal S1024 .f32) (k : Fin 1024) : (shapeCast S1x1024 g shapeCasts_S1024_S1x1024) (ix2 (0 : Fin 1) k) = g (ix1 k) := by
  pointwise []

/-! ## The result array -/

/-- The rows the layer normalizes. -/
def rowsX (x : FVec Ideal S2x8192x1024 .f32) : FVec Ideal S16384x1024 .f32 := shapeCast S16384x1024 x shapeCasts_S2x8192x1024_S16384x1024

/-- The projection: the normed rows times the matrix. -/
def proj (x : FVec Ideal S2x8192x1024 .f32) (g : FVec Ideal S1024 .f32) (w : FVec Ideal S1024x3072 .f32) : FVec Ideal S16384x3072 .bf16 :=
  fun i => ∑ k : Fin 1024, normE (fun j => rowsX x (ix2 (i 0) j)) (fun j => g (ix1 j)) k * w (ix2 k (i 1))

theorem point_value (c : Dev nD) (t : Fin cfg0.N) (r : Fin 512) (d : Fin 3072) :
    out0_3 (F := Ideal) (iblk m c 0 t) (iblk m c 1 t) (iblk m c 2 t) (ix2 r d)
      = proj (m ((c : Thread nD τ).loc main_arg0)) (m ((c : Thread nD τ).loc main_arg1)) (m ((c : Thread nD τ).loc main_arg2)) (ix2 (arrRow t r) d) := by
  refine (congrFun (out_block _ _ _) _).trans ?_
  unfold blockE proj
  refine Finset.sum_congr rfl fun k _ => ?_
  refine congrArg₂ (fun a b : EReal => a * b) ((norm4 _ _ r k).trans (congrArg₂ (fun v g => normE v g k) ?_ ?_)) ?_
  · funext j
    exact (blk0 m c t r j).trans (congrFun (V_v0 m c) _)
  · funext j
    exact (blk1 m c t j).trans ((congrFun (V_v2 m c) _).trans (gain_at _ j))
  · exact (blk2 m c t k d).trans (congrFun (V_v1 m c) _)

theorem covers3 : (cfg0.win 3).Covers := by decide +kernel

/-- The result array at the launch's end. -/
theorem final (c : Dev nD) : (dats m 0 c).arrAt 3 cfg0.N
    = proj (m ((c : Thread nD τ).loc main_arg0)) (m ((c : Thread nD τ).loc main_arg1)) (m ((c : Thread nD τ).loc main_arg2)) := by
  refine (dats m 0 c).arrAt_eq_of_covers 3 _ covers3 fun t hf y => ?_
  blk_simp
  rw [after0_3]
  obtain ⟨r, d, rfl⟩ : ∃ (r : Fin 512) (d : Fin 3072), y = ix2 r d := ⟨y 0, y 1, by funext a; match a with | ⟨0, _⟩ => rfl | ⟨1, _⟩ => rfl⟩
  refine (point_value m c t r d).trans ?_
  congr 1
  have e := index3 t
  blk_ext [e, arrRow]

/-! ## The reference -/

/-- The reference's result: its normed rows times the matrix, in the result's format. -/
theorem ref_eq (x : FVec Ideal S2x8192x1024 .f32) (g : FVec Ideal S1024 .f32) (w : FVec Ideal S1024x3072 .f32) :
    (truncf .bf16 (Host.dotGeneral Cert.Reference4Ideal.dot_S16384x1024_S1024x3072_S16384x3072_1_0_0_1_n_n none (normR (rowsX x) g) w) bitsLt_bf16_f32 : FVec Ideal S16384x3072 .bf16)
      = proj x g w := by
  funext i
  obtain ⟨r, d, rfl⟩ : ∃ (r : Fin 16384) (d : Fin 3072), i = ix2 r d := ⟨i 0, i 1, by funext a; match a with | ⟨0, _⟩ => rfl | ⟨1, _⟩ => rfl⟩
  have h : (truncf .bf16 (Host.dotGeneral Cert.Reference4Ideal.dot_S16384x1024_S1024x3072_S16384x3072_1_0_0_1_n_n none (normR (rowsX x) g) w) bitsLt_bf16_f32 : FVec Ideal S16384x3072 .bf16) (ix2 r d)
      = ∑ k : Fin 1024, (normR (rowsX x) g (ix2 r k) : EReal) * w (ix2 k d) := by
    pointwise []
  rw [h]
  unfold proj
  refine Finset.sum_congr rfl fun k _ => ?_
  rw [normR_at]
  rfl

/-- Equal arguments give equal projections. -/
theorem proj_congr {x x' : FVec Ideal S2x8192x1024 .f32} {g g' : FVec Ideal S1024 .f32} {w w' : FVec Ideal S1024x3072 .f32}
    (h0 : x' = x) (h1 : g' = g) (h2 : w' = w) : proj x' g' w' = proj x g w := by
  subst h0; subst h1; subst h2; rfl

end Cert.Proof.Dense.Proj

end
-- ==== Proof.Dense.Out.lean ====
/-
  The output projections: a row block's value, the result array and the reference, for the even layer (two parts) and
  the odd layer (one part).
-/
module

public import proofs.«01_k».proof.Proof.Gen.Kernel5Ideal.Value
public import proofs.«01_k».proof.Proof.Gen.Kernel6Ideal.Value
public import proofs.«01_k».proof.Proof.Gen.Reference5Ideal.Run
public import proofs.«01_k».proof.Proof.Gen.Reference6Ideal.Run
public import Idealize.ShloMosaic.Lib.Pointwise
public import Idealize.ShloMosaic.Lib.Pipeline.ValueKit.Geometry

@[expose] public section

set_option maxRecDepth 16384

noncomputable section

open Idealize.ShloMosaic Idealize.ShloMosaic.TcCoe
open scoped BigOperators

/-! ## The even layer -/

namespace Cert.Proof.Dense.Even

open Cert.Kernel5Ideal Cert.Kernel5Ideal.Gen

theorem add_at (x : Vec Ideal S512x1024 .f32) (a b : Vec Ideal S512x512 .bf16) (wa wb : Vec Ideal S512x1024 .bf16) (r : Fin 512) (d : Fin 1024) :
    k0_pay1 (F := Ideal) x a wa b wb (ix2 r d) = ((x (ix2 r d) : EReal) + ∑ k : Fin 512, (a (ix2 r k) : EReal) * wa (ix2 k d))
      + ∑ k : Fin 512, (b (ix2 r k) : EReal) * wb (ix2 k d) := by
  pointwise [k0_pay1]

/-- The staging buffer after a point: the rows plus each part times its rows of the matrix. -/
theorem out_at (x : Vec Ideal S512x1024 .f32) (a b : Vec Ideal S512x512 .bf16) (w : Vec Ideal S1024x1024 .bf16) (r : Fin 512) (d : Fin 1024) :
    out0_4 (F := Ideal) x a b w (ix2 r d) = ((x (ix2 r d) : EReal) + ∑ k : Fin 512, (a (ix2 r k) : EReal) * w (ix2 (Fin.castAdd 512 k) d))
      + ∑ k : Fin 512, (b (ix2 r k) : EReal) * w (ix2 (Fin.natAdd 512 k) d) := by
  have e0 : View.ld x r0_0 = x := View.ld_unit_lit _ x (by decide)
  have e1 : View.ld a r0_1 = a := View.ld_unit_lit _ a (by decide)
  have e2 : View.ld b r0_1 = b := View.ld_unit_lit _ b (by decide)
  have wa : ∀ k : Fin 512, View.ld w r0_2 (ix2 k d) = w (ix2 (Fin.castAdd 512 k) d) := fun k => by
    show w (r0_2.emb (ix2 k d)) = _
    congr 1
    funext i
    match i with
    | ⟨0, _⟩ => exact Fin.ext (by show 0 + 1 * k.val = k.val; omega)
    | ⟨1, _⟩ => exact Fin.ext (by show 0 + 1 * d.val = d.val; omega)
  have wb : ∀ k : Fin 512, View.ld w r0_3 (ix2 k d) = w (ix2 (Fin.natAdd 512 k) d) := fun k => by
    show w (r0_3.emb (ix2 k d)) = _
    congr 1
    funext i
    match i with
    | ⟨0, _⟩ => exact Fin.ext (by show 512 + 1 * k.val = 512 + k.val; omega)
    | ⟨1, _⟩ => exact Fin.ext (by show 0 + 1 * d.val = d.val; omega)
  unfold out0_4
  rw [View.canon_cons_unit_lit _ _ _ (by decide), add_at, e0, e1, e2]
  simp only [wa, wb]

variable (m : (ℓ : Loc nD τ sig) → Buf (Elt Ideal) ℓ)

/-- The residual's rows. -/
def rowsX (x : FVec Ideal S2x8192x1024 .f32) : FVec Ideal S16384x1024 .f32 := shapeCast S16384x1024 x shapeCasts_S2x8192x1024_S16384x1024
/-- The rows of one mixer's result. -/
def rowsH (a : FVec Ideal S2x8192x512 .f32) : FVec Ideal S16384x512 .f32 := shapeCast S16384x512 a shapeCasts_S2x8192x512_S16384x512

theorem V_v0 (c : Dev nD) : V m c main_v0 = rowsX (m ((c : Thread nD τ).loc main_arg0)) := by
  unfold V hostOps0
  after_results_simp
  all_goals rfl
theorem V_v2 (c : Dev nD) : V m c main_v2 = (shapeCast S16384x512 (truncf .bf16 (m ((c : Thread nD τ).loc main_arg1) : FVec Ideal S2x8192x512 .f32) bitsLt_bf16_f32 : FVec Ideal S2x8192x512 .bf16) shapeCasts_S2x8192x512_S16384x512 : FVec Ideal S16384x512 .bf16) := by
  unfold V hostOps0
  after_results_simp
  all_goals rfl
theorem V_v4 (c : Dev nD) : V m c main_v4 = (shapeCast S16384x512 (truncf .bf16 (m ((c : Thread nD τ).loc main_arg2) : FVec Ideal S2x8192x512 .f32) bitsLt_bf16_f32 : FVec Ideal S2x8192x512 .bf16) shapeCasts_S2x8192x512_S16384x512 : FVec Ideal S16384x512 .bf16) := by
  unfold V hostOps0
  after_results_simp
  all_goals rfl
theorem V_v5 (c : Dev nD) : V m c main_v5 = (truncf .bf16 (m ((c : Thread nD τ).loc main_arg3) : FVec Ideal S1024x1024 .f32) bitsLt_bf16_f32 : FVec Ideal S1024x1024 .bf16) := by
  unfold V hostOps0
  after_results_simp
  all_goals rfl

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![t.val, 0] := (by decide +kernel : ∀ t : Fin grid0.N, win0_1.index t = ![t.val, 0])
theorem index2 : ∀ t : Fin cfg0.N, (cfg0.win 2).index t = ![t.val, 0] := (by decide +kernel : ∀ t : Fin grid0.N, win0_2.index t = ![t.val, 0])
theorem index3 : ∀ t : Fin cfg0.N, (cfg0.win 3).index t = ![0, 0] := (by decide +kernel : ∀ t : Fin grid0.N, win0_3.index t = ![0, 0])
theorem index4 : ∀ t : Fin cfg0.N, (cfg0.win 4).index t = ![t.val, 0] := (by decide +kernel : ∀ t : Fin grid0.N, win0_4.index t = ![t.val, 0])

/-- The array row of a block's row. -/
def arrRow (t : Fin cfg0.N) (r : Fin 512) : Fin 16384 := ⟨512 * t.val + r.val, by have h : t.val < 32 := lt_of_lt_of_eq t.isLt N_0; omega⟩

theorem blk0 (c : Dev nD) (t : Fin cfg0.N) (r : Fin 512) (k : Fin 1024) :
    (iblk m c 0 t : Vec Ideal S512x1024 .f32) (ix2 r k) = V m c main_v0 (ix2 (arrRow t r) k) := by
  have hi := index0 t
  show V m c main_v0 (((cfg0.win 0).blk t).view.emb (ix2 r k)) = _
  congr 1
  blk_ext [hi, arrRow]
theorem blk1 (c : Dev nD) (t : Fin cfg0.N) (r : Fin 512) (k : Fin 512) :
    (iblk m c 1 t : Vec Ideal S512x512 .bf16) (ix2 r k) = V m c main_v2 (ix2 (arrRow t r) k) := by
  have hi := index1 t
  show V m c main_v2 (((cfg0.win 1).blk t).view.emb (ix2 r k)) = _
  congr 1
  blk_ext [hi, arrRow]
theorem blk2 (c : Dev nD) (t : Fin cfg0.N) (r : Fin 512) (k : Fin 512) :
    (iblk m c 2 t : Vec Ideal S512x512 .bf16) (ix2 r k) = V m c main_v4 (ix2 (arrRow t r) k) := by
  have hi := index2 t
  show V m c main_v4 (((cfg0.win 2).blk t).view.emb (ix2 r k)) = _
  congr 1
  blk_ext [hi, arrRow]
theorem blk3 (c : Dev nD) (t : Fin cfg0.N) (k d : Fin 1024) :
    (iblk m c 3 t : Vec Ideal S1024x1024 .bf16) (ix2 k d) = V m c main_v5 (ix2 k d) := by
  have hi := index3 t
  show V m c main_v5 (((cfg0.win 3).blk t).view.emb (ix2 k d)) = _
  congr 1
  blk_ext [hi]

/-- The layer: the rows plus the two mixers' rows, side by side, times the matrix. -/
def outp (x : FVec Ideal S2x8192x1024 .f32) (a b : FVec Ideal S2x8192x512 .f32) (w : FVec Ideal S1024x1024 .f32) : FVec Ideal S16384x1024 .f32 :=
  fun i => ((rowsX x (ix2 (i 0) (i 1)) : EReal) + ∑ k : Fin 512, (rowsH a (ix2 (i 0) k) : EReal) * w (ix2 (Fin.castAdd 512 k) (i 1)))
    + ∑ k : Fin 512, (rowsH b (ix2 (i 0) k) : EReal) * w (ix2 (Fin.natAdd 512 k) (i 1))

theorem point_value (c : Dev nD) (t : Fin cfg0.N) (r : Fin 512) (d : Fin 1024) :
    out0_4 (F := Ideal) (iblk m c 0 t) (iblk m c 1 t) (iblk m c 2 t) (iblk m c 3 t) (ix2 r d)
      = outp (m ((c : Thread nD τ).loc main_arg0)) (m ((c : Thread nD τ).loc main_arg1)) (m ((c : Thread nD τ).loc main_arg2)) (m ((c : Thread nD τ).loc main_arg3)) (ix2 (arrRow t r) d) := by
  refine (out_at _ _ _ _ r d).trans ?_
  unfold outp
  refine congrArg₂ (fun a b : EReal => a + b) (congrArg₂ (fun a b : EReal => a + b) ?_ (Finset.sum_congr rfl fun k _ => ?_)) (Finset.sum_congr rfl fun k _ => ?_)
  · exact (blk0 m c t r d).trans (congrFun (V_v0 m c) _)
  · exact congrArg₂ (fun a b : EReal => a * b) ((blk1 m c t r k).trans (congrFun (V_v2 m c) _)) ((blk3 m c t _ d).trans (congrFun (V_v5 m c) _))
  · exact congrArg₂ (fun a b : EReal => a * b) ((blk2 m c t r k).trans (congrFun (V_v4 m c) _)) ((blk3 m c t _ d).trans (congrFun (V_v5 m c) _))

theorem covers4 : (cfg0.win 4).Covers := by decide +kernel

/-- The result array at the launch's end. -/
theorem final (c : Dev nD) : (dats m 0 c).arrAt 4 cfg0.N
    = outp (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers4 fun t hf y => ?_
  blk_simp
  rw [after0_4]
  obtain ⟨r, d, rfl⟩ : ∃ (r : Fin 512) (d : Fin 1024), y = ix2 r d := ⟨y 0, y 1, by funext a; match a with | ⟨0, _⟩ => rfl | ⟨1, _⟩ => rfl⟩
  refine (point_value m c t r d).trans ?_
  congr 1
  have e := index4 t
  blk_ext [e, arrRow]

/-- The reference's rows of the two mixers side by side. -/
def bothR (a b : FVec Ideal S2x8192x512 .f32) : FVec Ideal S16384x1024 .f32 :=
  shapeCast S16384x1024 (concatenate Cert.Reference5Ideal.S2x8192x1024 2 [⟨Cert.Reference5Ideal.S2x8192x512, a⟩, ⟨Cert.Reference5Ideal.S2x8192x512, b⟩]
    Cert.Reference5Ideal.Gen.concatenates_S2x8192x512_S2x8192x512_S2x8192x1024_d2) shapeCasts_S2x8192x1024_S16384x1024

theorem both_left (a b : FVec Ideal S2x8192x512 .f32) (r : Fin 16384) (k : Fin 512) : bothR a b (ix2 r (Fin.castAdd 512 k)) = rowsH a (ix2 r k) := by
  pointwise [bothR, rowsH]
  exact dif_pos k.isLt
theorem both_right (a b : FVec Ideal S2x8192x512 .f32) (r : Fin 16384) (k : Fin 512) : bothR a b (ix2 r (Fin.natAdd 512 k)) = rowsH b (ix2 r k) := by
  pointwise [bothR, rowsH]
  refine (dif_neg (by show ¬(512 + k.val < 512); omega)).trans ?_
  congr 2
  exact Fin.ext (by show 512 + k.val - 512 = k.val; omega)

/-- The reference's result is the layer. -/
theorem ref_eq (x : FVec Ideal S2x8192x1024 .f32) (a b : FVec Ideal S2x8192x512 .f32) (w : FVec Ideal S1024x1024 .f32) :
    addf (rowsX x) (Host.dotGeneral Cert.Reference5Ideal.dot_S16384x1024_S1024x1024_S16384x1024_1_0_0_1_n_n none (bothR a b) w) = outp x a b w := by
  funext i
  obtain ⟨r, d, rfl⟩ : ∃ (r : Fin 16384) (d : Fin 1024), i = ix2 r d := ⟨i 0, i 1, by funext a; match a with | ⟨0, _⟩ => rfl | ⟨1, _⟩ => rfl⟩
  have h : (addf (rowsX x) (Host.dotGeneral Cert.Reference5Ideal.dot_S16384x1024_S1024x1024_S16384x1024_1_0_0_1_n_n none (bothR a b) w) : FVec Ideal S16384x1024 .f32) (ix2 r d)
      = (rowsX x (ix2 r d) : EReal) + ∑ k : Fin (512 + 512), (bothR a b (ix2 r k) : EReal) * w (ix2 k d) := by
    pointwise []
  rw [h, Fin.sum_univ_add]
  simp only [both_left, both_right]
  rw [← add_assoc]
  rfl

/-- Equal arguments give equal layers. -/
theorem outp_congr {x x' : FVec Ideal S2x8192x1024 .f32} {a a' b b' : FVec Ideal S2x8192x512 .f32} {w w' : FVec Ideal S1024x1024 .f32}
    (h0 : x' = x) (h1 : a' = a) (h2 : b' = b) (h3 : w' = w) : outp x' a' b' w' = outp x a b w := by
  subst h0; subst h1; subst h2; subst h3; rfl

end Cert.Proof.Dense.Even

/-! ## The odd layer -/

namespace Cert.Proof.Dense.Odd

open Cert.Kernel6Ideal Cert.Kernel6Ideal.Gen

theorem add_at (x : Vec Ideal S512x1024 .f32) (a : Vec Ideal S512x1024 .bf16) (w : Vec Ideal S1024x1024 .bf16) (r : Fin 512) (d : Fin 1024) :
    k0_pay1 (F := Ideal) x a w (ix2 r d) = (x (ix2 r d) : EReal) + ∑ k : Fin 1024, (a (ix2 r k) : EReal) * w (ix2 k d) := by
  pointwise [k0_pay1]

/-- The staging buffer after a point: the rows plus the part times the matrix. -/
theorem out_at (x : Vec Ideal S512x1024 .f32) (a : Vec Ideal S512x1024 .bf16) (w : Vec Ideal S1024x1024 .bf16) (r : Fin 512) (d : Fin 1024) :
    out0_3 (F := Ideal) x a w (ix2 r d) = (x (ix2 r d) : EReal) + ∑ k : Fin 1024, (a (ix2 r k) : EReal) * w (ix2 k d) := by
  have e0 : View.ld x r0_0 = x := View.ld_unit_lit _ x (by decide)
  have e1 : View.ld a r0_0 = a := View.ld_unit_lit _ a (by decide)
  have e2 : View.ld w r0_1 = w := View.ld_unit_lit _ w (by decide)
  unfold out0_3
  rw [View.canon_cons_unit_lit _ _ _ (by decide), add_at, e0, e1, e2]

variable (m : (ℓ : Loc nD τ sig) → Buf (Elt Ideal) ℓ)

/-- The rows of the residual, and of the mixer's result. -/
def rowsX (x : FVec Ideal S2x8192x1024 .f32) : FVec Ideal S16384x1024 .f32 := shapeCast S16384x1024 x shapeCasts_S2x8192x1024_S16384x1024

theorem V_v0 (c : Dev nD) : V m c main_v0 = rowsX (m ((c : Thread nD τ).loc main_arg0)) := by
  unfold V hostOps0
  after_results_simp
  all_goals rfl
theorem V_v2 (c : Dev nD) : V m c main_v2 = (shapeCast S16384x1024 (truncf .bf16 (m ((c : Thread nD τ).loc main_arg1) : FVec Ideal S2x8192x1024 .f32) bitsLt_bf16_f32 : FVec Ideal S2x8192x1024 .bf16) shapeCasts_S2x8192x1024_S16384x1024 : FVec Ideal S16384x1024 .bf16) := by
  unfold V hostOps0
  after_results_simp
  all_goals rfl
theorem V_v3 (c : Dev nD) : V m c main_v3 = (truncf .bf16 (m ((c : Thread nD τ).loc main_arg2) : FVec Ideal S1024x1024 .f32) bitsLt_bf16_f32 : FVec Ideal S1024x1024 .bf16) := by
  unfold V hostOps0
  after_results_simp
  all_goals rfl

theorem index0 : ∀ t : Fin cfg0.N, (cfg0.win 0).index t = ![t.val, 0] := (by decide +kernel : ∀ t : Fin grid0.N, win0_0.index t = ![t.val, 0])
theorem index1 : ∀ t : Fin cfg0.N, (cfg0.win 1).index t = ![t.val, 0] := (by decide +kernel : ∀ t : Fin grid0.N, win0_1.index t = ![t.val, 0])
theorem index2 : ∀ t : Fin cfg0.N, (cfg0.win 2).index t = ![0, 0] := (by decide +kernel : ∀ t : Fin grid0.N, win0_2.index t = ![0, 0])
theorem index3 : ∀ t : Fin cfg0.N, (cfg0.win 3).index t = ![t.val, 0] := (by decide +kernel : ∀ t : Fin grid0.N, win0_3.index t = ![t.val, 0])

/-- The array row of a block's row. -/
def arrRow (t : Fin cfg0.N) (r : Fin 512) : Fin 16384 := ⟨512 * t.val + r.val, by have h : t.val < 32 := lt_of_lt_of_eq t.isLt N_0; omega⟩

theorem blk0 (c : Dev nD) (t : Fin cfg0.N) (r : Fin 512) (k : Fin 1024) :
    (iblk m c 0 t : Vec Ideal S512x1024 .f32) (ix2 r k) = V m c main_v0 (ix2 (arrRow t r) k) := by
  have hi := index0 t
  show V m c main_v0 (((cfg0.win 0).blk t).view.emb (ix2 r k)) = _
  congr 1
  blk_ext [hi, arrRow]
theorem blk1 (c : Dev nD) (t : Fin cfg0.N) (r : Fin 512) (k : Fin 1024) :
    (iblk m c 1 t : Vec Ideal S512x1024 .bf16) (ix2 r k) = V m c main_v2 (ix2 (arrRow t r) k) := by
  have hi := index1 t
  show V m c main_v2 (((cfg0.win 1).blk t).view.emb (ix2 r k)) = _
  congr 1
  blk_ext [hi, arrRow]
theorem blk2 (c : Dev nD) (t : Fin cfg0.N) (k d : Fin 1024) :
    (iblk m c 2 t : Vec Ideal S1024x1024 .bf16) (ix2 k d) = V m c main_v3 (ix2 k d) := by
  have hi := index2 t
  show V m c main_v3 (((cfg0.win 2).blk t).view.emb (ix2 k d)) = _
  congr 1
  blk_ext [hi]

/-- The layer: the rows plus the mixer's rows times the matrix. -/
def outp (x a : FVec Ideal S2x8192x1024 .f32) (w : FVec Ideal S1024x1024 .f32) : FVec Ideal S16384x1024 .f32 :=
  fun i => (rowsX x (ix2 (i 0) (i 1)) : EReal) + ∑ k : Fin 1024, (rowsX a (ix2 (i 0) k) : EReal) * w (ix2 k (i 1))

theorem point_value (c : Dev nD) (t : Fin cfg0.N) (r : Fin 512) (d : Fin 1024) :
    out0_3 (F := Ideal) (iblk m c 0 t) (iblk m c 1 t) (iblk m c 2 t) (ix2 r d)
      = outp (m ((c : Thread nD τ).loc main_arg0)) (m ((c : Thread nD τ).loc main_arg1)) (m ((c : Thread nD τ).loc main_arg2)) (ix2 (arrRow t r) d) := by
  refine (out_at _ _ _ r d).trans ?_
  unfold outp
  refine congrArg₂ (fun a b : EReal => a + b) ?_ (Finset.sum_congr rfl fun k _ => ?_)
  · exact (blk0 m c t r d).trans (congrFun (V_v0 m c) _)
  · exact congrArg₂ (fun a b : EReal => a * b) ((blk1 m c t r k).trans (congrFun (V_v2 m c) _)) ((blk2 m c t _ d).trans (congrFun (V_v3 m c) _))

theorem covers3 : (cfg0.win 3).Covers := by decide +kernel

/-- The result array at the launch's end. -/
theorem final (c : Dev nD) : (dats m 0 c).arrAt 3 cfg0.N
    = outp (m ((c : Thread nD τ).loc main_arg0)) (m ((c : Thread nD τ).loc main_arg1)) (m ((c : Thread nD τ).loc main_arg2)) := by
  refine (dats m 0 c).arrAt_eq_of_covers 3 _ covers3 fun t hf y => ?_
  blk_simp
  rw [after0_3]
  obtain ⟨r, d, rfl⟩ : ∃ (r : Fin 512) (d : Fin 1024), y = ix2 r d := ⟨y 0, y 1, by funext a; match a with | ⟨0, _⟩ => rfl | ⟨1, _⟩ => rfl⟩
  refine (point_value m c t r d).trans ?_
  congr 1
  have e := index3 t
  blk_ext [e, arrRow]

/-- The reference's result is the layer. -/
theorem ref_eq (x a : FVec Ideal S2x8192x1024 .f32) (w : FVec Ideal S1024x1024 .f32) :
    addf (rowsX x) (Host.dotGeneral Cert.Reference6Ideal.dot_S16384x1024_S1024x1024_S16384x1024_1_0_0_1_n_n none (rowsX a) w) = outp x a w := by
  funext i
  obtain ⟨r, d, rfl⟩ : ∃ (r : Fin 16384) (d : Fin 1024), i = ix2 r d := ⟨i 0, i 1, by funext a; match a with | ⟨0, _⟩ => rfl | ⟨1, _⟩ => rfl⟩
  have h : (addf (rowsX x) (Host.dotGeneral Cert.Reference6Ideal.dot_S16384x1024_S1024x1024_S16384x1024_1_0_0_1_n_n none (rowsX a) w) : FVec Ideal S16384x1024 .f32) (ix2 r d)
      = (rowsX x (ix2 r d) : EReal) + ∑ k : Fin 1024, (rowsX a (ix2 r k) : EReal) * w (ix2 k d) := by
    pointwise []
  exact h

/-- Equal arguments give equal layers. -/
theorem outp_congr {x x' a a' : FVec Ideal S2x8192x1024 .f32} {w w' : FVec Ideal S1024x1024 .f32}
    (h0 : x' = x) (h1 : a' = a) (h2 : w' = w) : outp x' a' w' = outp x a w := by
  subst h0; subst h1; subst h2; rfl

end Cert.Proof.Dense.Odd

end
-- ==== Proof.DI.Box.lean ====
/-
  Boxes of a staged scratch: what a load of a box reads, what a store to a box leaves, and the two maps' slices of the
  scratch of the differential attention, joined and taken apart.
-/
module

public import Idealize.ShloMosaic.Lib.WholeRead
public import Idealize.ShloMosaic.Lib.WritesUnit
public import Idealize.ShloMosaic.Lib.ValueIdxCore
public import Idealize.ShloMosaic.Lib.Exec
public import Idealize.ShloMosaic.Lib.Pipeline.Kit

@[expose] public section

noncomputable section

namespace Cert.Proof.Diff

open Idealize.ShloMosaic Idealize.ShloMosaic.ValueIdx

/-- A box of a table. -/
def getBox {s : Shape} {α : Type} (off size : Fin s.rank → ℕ) (inb : ∀ a, off a + size a ≤ s.size a) (x : s.Idx → α) :
    (Rect.unit off size inb).shape.Idx → α :=
  fun j => x (fun a => ⟨off a + (j a).val, Nat.lt_of_lt_of_le (Nat.add_lt_add_left (j a).isLt _) (inb a)⟩)

/-- A table with a box overwritten. -/
def putBox {s : Shape} {α : Type} (off size : Fin s.rank → ℕ) (inb : ∀ a, off a + size a ≤ s.size a)
    (w : (Rect.unit off size inb).shape.Idx → α) (x : s.Idx → α) : s.Idx → α :=
  fun y => if h : ∀ a, off a ≤ (y a).val ∧ (y a).val < off a + size a then
    w (Rect.unitLocal (s := s) (off := off) (size := size) y h) else x y

variable {sig : RefSig} {κ : Kind} {sp : Space} {s : Shape} {e : EltTy} {Val : EltTy → Type}

theorem read_cons (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f ((⟨Rect.unit off size inb, w⟩ : View.Piece Val s e) :: L))
      = putBox off size inb w (v.read Val (v.writes Val f L)) :=
  funext fun y => View.read_writes_cons_unit v f inb w L y rfl

theorem readAt_box (v : View sig κ sp s e) (f : v.ty.Contents Val) {off size : Fin s.rank → ℕ} (inb : ∀ a, off a + size a ≤ s.size a) :
    v.readAt Val (Rect.unit off size inb).toLoadRect f = getBox off size inb (v.read Val f) := by
  funext j
  rw [View.readAt_apply]
  exact congrArg (v.read Val f) (funext fun a => Fin.ext (by
    show off a + 1 * (j a).val = off a + (j a).val
    rw [Nat.one_mul]))

theorem readCov_box [∀ e, Nonempty (Val e)] (v : View sig κ sp s e) (L : List (View.Piece Val s e)) {off size : Fin s.rank → ℕ}
    (inb : ∀ a, off a + size a ≤ s.size a) :
    ∃ f : v.ty.Contents Val, v.readCov L (Rect.unit off size inb).toLoadRect = getBox off size inb (v.read Val (v.writes Val f L)) := by
  unfold View.readCov
  exact ⟨_, readAt_box v _ inb⟩

/-- A load over all of a memref reads it. -/
theorem readAt_all (v : View sig κ sp s e) (f : v.ty.Contents Val) {off : Fin s.rank → ℕ} (h0 : off = fun _ => 0)
    (inb : ∀ a, off a + s.size a ≤ s.size a) :
    v.readAt Val (Rect.unit off s.size inb).toLoadRect f = v.read Val f := by
  subst h0
  rw [readAt_box]
  funext j
  exact congrArg (v.read Val f) (funext fun d => Fin.ext (Nat.zero_add _))

/-- A memref stored over all of it reads the stored value. -/
theorem read_all (v : View sig κ sp s e) (f : v.ty.Contents Val) {off : Fin s.rank → ℕ} (h0 : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w :=
  funext fun y => View.read_writes_cons_unit_of_mem v f inb w L y y h0 fun a => (Nat.zero_add _).symm

/-! ## The two maps' slices -/

section Maps
variable {α : Type} {d n : ℕ}

/-- The two maps' slices, joined. -/
def join (w : Fin 2 → (⟨3, ![1, n, d]⟩ : Shape).Idx → α) : (⟨3, ![2, n, d]⟩ : Shape).Idx → α :=
  fun y => w (y 0) (ix3 0 (y 1) (y 2))

/-- The last rows of a slice. -/
def low (o : ℕ) {n' : ℕ} (h : o + n' ≤ n) (w : (⟨3, ![1, n, d]⟩ : Shape).Idx → α) : (⟨3, ![1, n', d]⟩ : Shape).Idx → α :=
  fun j => w (ix3 0 ⟨o + (j 1).val, Nat.lt_of_lt_of_le (Nat.add_lt_add_left (j 1).isLt _) h⟩ (j 2))

/-- A slice with its last rows overwritten. -/
def putLow (o : ℕ) {n' : ℕ} (h : o + n' = n) (u : (⟨3, ![1, n', d]⟩ : Shape).Idx → α) (w : (⟨3, ![1, n, d]⟩ : Shape).Idx → α) :
    (⟨3, ![1, n, d]⟩ : Shape).Idx → α :=
  fun y => if hy : o ≤ (y 1).val then u (ix3 0 ⟨(y 1).val - o, by have : (y 1).val < n := (y 1).isLt; omega⟩ (y 2)) else w y

theorem get_join (w : Fin 2 → (⟨3, ![1, n, d]⟩ : Shape).Idx → α) (k : Fin 2) (inb) :
    getBox (s := ⟨3, ![2, n, d]⟩) ![k.val, 0, 0] ![1, n, d] inb (join w) = w k := by
  funext j
  show w _ _ = _
  have h0 : (j 0).val = 0 := Nat.lt_one_iff.mp (j 0).isLt
  have e0 : (⟨k.val + (j 0).val, by rw [h0]; exact k.isLt⟩ : Fin 2) = k := Fin.ext (by show k.val + (j 0).val = _; rw [h0]; rfl)
  refine (congrArg (fun z => w z _) e0).trans (congrArg (w k) (funext fun a => Fin.ext ?_))
  match a with
  | ⟨0, _⟩ => exact h0.symm
  | ⟨1, _⟩ => exact Nat.zero_add _
  | ⟨2, _⟩ => exact Nat.zero_add _

theorem get_low (w : Fin 2 → (⟨3, ![1, n, d]⟩ : Shape).Idx → α) (k : Fin 2) (o n' : ℕ) (h : o + n' ≤ n) (inb) :
    getBox (s := ⟨3, ![2, n, d]⟩) ![k.val, o, 0] ![1, n', d] inb (join w) = low o h (w k) := by
  funext j
  show w _ _ = _
  have h0 : (j 0).val = 0 := Nat.lt_one_iff.mp (j 0).isLt
  have e0 : (⟨k.val + (j 0).val, by rw [h0]; exact k.isLt⟩ : Fin 2) = k := Fin.ext (by show k.val + (j 0).val = _; rw [h0]; rfl)
  refine (congrArg (fun z => w z _) e0).trans (congrArg (w k) (funext fun a => Fin.ext ?_))
  match a with
  | ⟨0, _⟩ => rfl
  | ⟨1, _⟩ => rfl
  | ⟨2, _⟩ => exact Nat.zero_add _

theorem put_low (w : Fin 2 → (⟨3, ![1, n, d]⟩ : Shape).Idx → α) (k : Fin 2) (o n' : ℕ) (h : o + n' = n) (inb)
    (u : (⟨3, ![1, n', d]⟩ : Shape).Idx → α) :
    putBox (s := ⟨3, ![2, n, d]⟩) ![k.val, o, 0] ![1, n', d] inb u (join w)
      = join (Function.update w k (putLow o h u (w k))) := by
  funext y
  unfold putBox join
  by_cases hk : y 0 = k
  · have hz : ((y 0 : Fin 2) : ℕ) = k.val := congrArg Fin.val hk
    refine Eq.trans ?_ (congrFun ((congrArg (Function.update w k (putLow o h u (w k))) (show (y 0 : Fin 2) = k from hk)).trans
      (Function.update_self _ _ _)) _).symm
    unfold putLow
    by_cases ho : o ≤ (y 1).val
    · have hyn : (y 1).val < n := (y 1).isLt
      have hyd : (y 2).val < d := (y 2).isLt
      rw [dif_pos (show o ≤ ((ix3 (0 : Fin 1) (y 1) (y 2) : (⟨3, ![1, n, d]⟩ : Shape).Idx) 1).val from ho), dif_pos]
      · refine congrArg u (funext fun a => Fin.ext ?_)
        match a with
        | ⟨0, _⟩ => show ((y 0 : Fin 2) : ℕ) - k.val = 0; omega
        | ⟨1, _⟩ => rfl
        | ⟨2, _⟩ => exact Nat.sub_zero _
      · intro a
        match a with
        | ⟨0, _⟩ => show k.val ≤ ((y 0 : Fin 2) : ℕ) ∧ ((y 0 : Fin 2) : ℕ) < k.val + 1; omega
        | ⟨1, _⟩ => show o ≤ (y 1).val ∧ (y 1).val < o + n'; omega
        | ⟨2, _⟩ => show 0 ≤ (y 2).val ∧ (y 2).val < 0 + d; omega
    · rw [dif_neg (show ¬ o ≤ ((ix3 (0 : Fin 1) (y 1) (y 2) : (⟨3, ![1, n, d]⟩ : Shape).Idx) 1).val from ho), dif_neg]
      · exact congrArg (fun z : Fin 2 => w z _) hk
      · intro hc
        exact ho (hc 1).1
  · refine (dif_neg ?_).trans (congrFun (Function.update_of_ne (show (y 0 : Fin 2) ≠ k from hk) _ w) _).symm
    intro hc
    have h0 : k.val ≤ ((y 0 : Fin 2) : ℕ) ∧ ((y 0 : Fin 2) : ℕ) < k.val + 1 := hc 0
    exact hk (Fin.ext (by omega))

theorem putLow_zero (u w : (⟨3, ![1, n, d]⟩ : Shape).Idx → α) : putLow 0 (Nat.zero_add n) u w = u := by
  funext y
  unfold putLow
  rw [dif_pos (Nat.zero_le _)]
  refine congrArg u (funext fun a => Fin.ext ?_)
  match a with
  | ⟨0, _⟩ => exact (Nat.lt_one_iff.mp (y 0).isLt).symm
  | ⟨1, _⟩ => rfl
  | ⟨2, _⟩ => rfl

theorem put_join (w : Fin 2 → (⟨3, ![1, n, d]⟩ : Shape).Idx → α) (k : Fin 2) (inb)
    (u : (⟨3, ![1, n, d]⟩ : Shape).Idx → α) :
    putBox (s := ⟨3, ![2, n, d]⟩) ![k.val, 0, 0] ![1, n, d] inb u (join w) = join (Function.update w k u) := by
  rw [put_low w k 0 n (Nat.zero_add n) inb u, putLow_zero]

/-- One map's slice of a table. -/
def slc (x : (⟨3, ![2, n, d]⟩ : Shape).Idx → α) (k : Fin 2) : (⟨3, ![1, n, d]⟩ : Shape).Idx → α :=
  fun j => x (ix3 k (j 1 : Fin n) (j 2 : Fin d))

/-- Any contents are two slices joined. -/
theorem eq_join (x : (⟨3, ![2, n, d]⟩ : Shape).Idx → α) : x = join (slc x) := by
  funext y
  exact congrArg x (funext fun a => match a with | ⟨0, _⟩ => rfl | ⟨1, _⟩ => rfl | ⟨2, _⟩ => rfl)

/-- A store over the whole. -/
theorem put_whole (off : Fin 3 → ℕ) (h0 : off = fun _ => 0) (inb) (u x : (⟨3, ![2, n, d]⟩ : Shape).Idx → α) :
    putBox (s := ⟨3, ![2, n, d]⟩) off ![2, n, d] inb u x = join (slc u) := by
  subst h0
  rw [← eq_join u]
  funext y
  unfold putBox
  rw [dif_pos fun a => ⟨Nat.zero_le _, by show (y a).val < 0 + _; rw [Nat.zero_add]; exact (y a).isLt⟩]
  exact congrArg u (funext fun a => Fin.ext (Nat.sub_zero _))

end Maps

/-! ## The scratch read and written a slice at a time -/

section Scratch
variable {n d : ℕ} (v : View sig κ sp ⟨3, ![2, n, d]⟩ e) {f : v.ty.Contents Val}
  {w : Fin 2 → (⟨3, ![1, n, d]⟩ : Shape).Idx → Val e} {L : List (View.Piece Val ⟨3, ![2, n, d]⟩ e)}

theorem read_put (hL : v.read Val (v.writes Val f L) = join w) (k : Fin 2) {off size : Fin 3 → ℕ} (ho : off = ![k.val, 0, 0])
    (hs : size = ![1, n, d]) (inb : ∀ a, off a + size a ≤ (⟨3, ![2, n, d]⟩ : Shape).size a)
    (u : (Rect.unit (s := ⟨3, ![2, n, d]⟩) off size inb).shape.Idx → Val e)
    (u' : (⟨3, ![1, n, d]⟩ : Shape).Idx → Val e) (hu : HEq u u') :
    v.read Val (v.writes Val f ((⟨Rect.unit off size inb, u⟩ : View.Piece Val _ e) :: L)) = join (Function.update w k u') := by
  subst ho hs
  obtain rfl := eq_of_heq hu
  rw [read_cons, hL, put_join]

theorem read_putLow (hL : v.read Val (v.writes Val f L) = join w) (k : Fin 2) (o n' : ℕ) (h : o + n' = n) {off size : Fin 3 → ℕ}
    (ho : off = ![k.val, o, 0]) (hs : size = ![1, n', d]) (inb : ∀ a, off a + size a ≤ (⟨3, ![2, n, d]⟩ : Shape).size a)
    (u : (Rect.unit (s := ⟨3, ![2, n, d]⟩) off size inb).shape.Idx → Val e)
    (u' : (⟨3, ![1, n', d]⟩ : Shape).Idx → Val e) (hu : HEq u u') :
    v.read Val (v.writes Val f ((⟨Rect.unit off size inb, u⟩ : View.Piece Val _ e) :: L))
      = join (Function.update w k (putLow o h u' (w k))) := by
  subst ho hs
  obtain rfl := eq_of_heq hu
  rw [read_cons, hL, put_low]

theorem read_whole3 {off size : Fin 3 → ℕ} (ho : off = fun _ => 0)
    (hs : size = ![2, n, d]) (inb : ∀ a, off a + size a ≤ (⟨3, ![2, n, d]⟩ : Shape).size a)
    (u : (Rect.unit (s := ⟨3, ![2, n, d]⟩) off size inb).shape.Idx → Val e)
    (u' : (⟨3, ![2, n, d]⟩ : Shape).Idx → Val e) (hu : HEq u u') :
    v.read Val (v.writes Val f ((⟨Rect.unit off size inb, u⟩ : View.Piece Val _ e) :: L)) = join (slc u') := by
  subst hs
  obtain rfl := eq_of_heq hu
  rw [read_cons, put_whole _ ho]

theorem load_slice (hf : v.read Val f = join w) (k : Fin 2) {off : Fin 3 → ℕ} (ho : off = ![k.val, 0, 0])
    (inb : ∀ a, off a + (![1, n, d] : Fin 3 → ℕ) a ≤ (⟨3, ![2, n, d]⟩ : Shape).size a) :
    v.readAt Val (Rect.unit (s := ⟨3, ![2, n, d]⟩) off ![1, n, d] inb).toLoadRect f = w k := by
  subst ho
  rw [readAt_box, hf, get_join]

theorem load_low (hf : v.read Val f = join w) (k : Fin 2) (o n' : ℕ) (h : o + n' ≤ n) {off : Fin 3 → ℕ} (ho : off = ![k.val, o, 0])
    (inb : ∀ a, off a + (![1, n', d] : Fin 3 → ℕ) a ≤ (⟨3, ![2, n, d]⟩ : Shape).size a) :
    v.readAt Val (Rect.unit (s := ⟨3, ![2, n, d]⟩) off ![1, n', d] inb).toLoadRect f = low o h (w k) := by
  subst ho
  rw [readAt_box, hf, get_low]

/-- A load from rows the writes cover, for what the writes leave in a map's slice whatever lay below. -/
theorem cov_low [∀ e, Nonempty (Val e)] (k : Fin 2) (o n' : ℕ) (h : o + n' ≤ n) {wk : (⟨3, ![1, n, d]⟩ : Shape).Idx → Val e}
    (hL : ∀ (g : v.ty.Contents Val) (w : Fin 2 → (⟨3, ![1, n, d]⟩ : Shape).Idx → Val e), v.read Val g = join w →
      ∃ w', v.read Val (v.writes Val g L) = join w' ∧ w' k = wk)
    {off : Fin 3 → ℕ} (ho : off = ![k.val, o, 0])
    (inb : ∀ a, off a + (![1, n', d] : Fin 3 → ℕ) a ≤ (⟨3, ![2, n, d]⟩ : Shape).size a) :
    v.readCov L (Rect.unit (s := ⟨3, ![2, n, d]⟩) off ![1, n', d] inb).toLoadRect = low o h wk := by
  subst ho
  obtain ⟨g, hg⟩ := readCov_box v L inb
  obtain ⟨w', hw, rfl⟩ := hL g _ (eq_join _)
  rw [hg, hw, get_low]

/-- The same for a whole slice. -/
theorem cov_slice [∀ e, Nonempty (Val e)] (k : Fin 2) {wk : (⟨3, ![1, n, d]⟩ : Shape).Idx → Val e}
    (hL : ∀ (g : v.ty.Contents Val) (w : Fin 2 → (⟨3, ![1, n, d]⟩ : Shape).Idx → Val e), v.read Val g = join w →
      ∃ w', v.read Val (v.writes Val g L) = join w' ∧ w' k = wk)
    {off : Fin 3 → ℕ} (ho : off = ![k.val, 0, 0])
    (inb : ∀ a, off a + (![1, n, d] : Fin 3 → ℕ) a ≤ (⟨3, ![2, n, d]⟩ : Shape).size a) :
    v.readCov L (Rect.unit (s := ⟨3, ![2, n, d]⟩) off ![1, n, d] inb).toLoadRect = wk := by
  subst ho
  obtain ⟨g, hg⟩ := readCov_box v L inb
  obtain ⟨w', hw, rfl⟩ := hL g _ (eq_join _)
  rw [hg, hw, get_join]

end Scratch

end Cert.Proof.Diff

end
-- ==== Proof.DI.Body.lean ====
/-
  The kernel body's run with its values: the two maps' state (stabiliser, lane sums, accumulator) after each key block, in
  the branch of the fixed stabiliser and in the branch of the running one, and the whole body on any staging memrefs.
-/
module

public import proofs.«01_k».proof.Proof.DI.Box
public import proofs.«01_k».proof.Proof.Gen.Kernel7Ideal
public import proofs.«01_k».proof.Proof.Gen.Kernel7Ideal.Skeleton
public import Idealize.ShloMosaic.Lib.Tactic
public import Idealize.ShloMosaic.Lib.LaneScatter.Fold

@[expose] public section

set_option maxRecDepth 65536

noncomputable section

namespace Cert.Proof.DI

open Cert.Kernel7Ideal Cert.Kernel7Ideal.Gen Cert.Proof.Diff
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The values -/

/-- Rows `o … o + n - 1` of a staged key or value block. -/
def krows (n : ℕ) (x : Vec F S8192x128 .bf16) (o : ℕ) : (⟨2, ![n, 128]⟩ : Shape).Idx → Elt F .bf16 :=
  fun j => x (ix2 ⟨(o + (j 0 : Fin n).val) % 8192, Nat.mod_lt _ (by decide)⟩ (j 1 : Fin 128))

/-- The lane sums or the accumulator, one slice a map. -/
abbrev LA (F : FTy → Type) : Type := Fin 2 → Vec F S1x1024x128 .f32

/-- The queries of each map: the scaled block with the other map's lanes cleared. -/
def qOf (x0 : Vec F S1024x128 .bf16) (k : Fin 2) : FVec F S1024x128 .bf16 :=
  if k = 0 then k0_pay134 x0 else k0_pay137 (iota .tc S1x128 32 [1] iota_S1x128_d1_w32) (k0_pay133 x0) 64#32 k0_pay135 k0_pay136

/-- A block before the diagonal under the fixed stabiliser `b`: the lane sums. -/
def fixL (b : F .f32) (q : FVec F S1024x128 .bf16) (kk : Vec F S1024x128 .bf16) (l : Vec F S1x1024x128 .f32) : Vec F S1x1024x128 .f32 :=
  k0_pay5 b q kk l

/-- … and the accumulator. -/
def fixA (b : F .f32) (q : FVec F S1024x128 .bf16) (kk vv : Vec F S1024x128 .bf16) (a : Vec F S1x1024x128 .f32) : Vec F S1x1024x128 .f32 :=
  k0_pay12 (k0_pay6 b q kk vv a)

/-- A block before the diagonal under the running stabiliser: the stabiliser, … -/
def onM (q : FVec F S1024x128 .bf16) (kk : Vec F S1024x128 .bf16) (m : Vec F S1x1024x1 .f32) : Vec F S1x1024x1 .f32 :=
  k0_pay72 (k0_pay67 q kk m)

/-- … the lane sums … -/
def onL (q : FVec F S1024x128 .bf16) (kk : Vec F S1024x128 .bf16) (m : Vec F S1x1024x1 .f32) (l : Vec F S1x1024x128 .f32) :
    Vec F S1x1024x128 .f32 := k0_pay70 q kk m l

/-- … and the accumulator. -/
def onA (q : FVec F S1024x128 .bf16) (kk vv : Vec F S1024x128 .bf16) (m : Vec F S1x1024x1 .f32) (a : Vec F S1x1024x128 .f32) :
    Vec F S1x1024x128 .f32 := k0_pay71 (k0_pay64 vv) (k0_pay68 q kk m) (k0_pay69 q kk m) a

/-- The stabilisers, one slice a map. -/
abbrev Ms (F : FTy → Type) : Type := Fin 2 → Vec F S1x1024x1 .f32

/-- The two maps' queries. -/
abbrev qs (q0 q1 : FVec F S1024x128 .bf16) (m : Fin 2) : FVec F S1024x128 .bf16 := if m = 0 then q0 else q1

/-- The state after the first `n` blocks under the fixed stabiliser. -/
def fixN (b : F .f32) (q : Fin 2 → FVec F S1024x128 .bf16) (x1 x2 : Vec F S8192x128 .bf16) (l a : LA F) : ℕ → LA F × LA F
  | 0 => (l, a)
  | n + 1 => (fun m => fixL b (q m) (krows 1024 x1 (1024 * n)) ((fixN b q x1 x2 l a n).1 m),
      fun m => fixA b (q m) (krows 1024 x1 (1024 * n)) (krows 1024 x2 (1024 * n)) ((fixN b q x1 x2 l a n).2 m))

/-- The state after the first `n` blocks under the running stabiliser. -/
def onN (q : Fin 2 → FVec F S1024x128 .bf16) (x1 x2 : Vec F S8192x128 .bf16) (m : Ms F) (l a : LA F) : ℕ → Ms F × LA F × LA F
  | 0 => (m, l, a)
  | n + 1 => (fun j => onM (q j) (krows 1024 x1 (1024 * n)) ((onN q x1 x2 m l a n).1 j),
      fun j => onL (q j) (krows 1024 x1 (1024 * n)) ((onN q x1 x2 m l a n).1 j) ((onN q x1 x2 m l a n).2.1 j),
      fun j => onA (q j) (krows 1024 x1 (1024 * n)) (krows 1024 x2 (1024 * n)) ((onN q x1 x2 m l a n).1 j) ((onN q x1 x2 m l a n).2.2 j))

theorem load_krows {M : Memref sig .tc .vmem S8192x128 .bf16} (hM : M.IsWhole) (x : Vec F S8192x128 .bf16) (n o : ℕ) (hn : o + n ≤ 8192)
    {off : Fin 2 → ℕ} (ho : off = ![o, 0]) (inb : ∀ a, off a + (![n, 128] : Fin 2 → ℕ) a ≤ S8192x128.size a) :
    M.view.readAt (Elt F) (Rect.unit (s := S8192x128) off ![n, 128] inb).toLoadRect (hM.unread x) = krows n x o := by
  funext j
  rw [Memref.IsWhole.readAt_unread]
  subst ho
  refine congrArg x (funext fun a => Fin.ext ?_)
  match a with
  | ⟨0, _⟩ =>
    have h : (j 0).val < n := (j 0).isLt
    show o + 1 * (j 0).val = (o + (j 0).val) % 8192
    rw [Nat.mod_eq_of_lt (by omega), Nat.one_mul]
  | ⟨1, _⟩ =>
    show 0 + 1 * (j 1).val = (j 1).val
    omega

section Runs

variable (c : Dev nD) (i : grid0.Coords) (arg3 : Memref sig .tc .smem S1x1 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x1 .f32) (harg10 : arg10.IsWhole) (arg11 : Memref sig .tc .vmem S2x1024x128 .f32) (harg11 : arg11.IsWhole) (arg12 : Memref sig .tc .vmem S2x1024x128 .f32) (harg12 : arg12.IsWhole)
  (b : F .f32) (q0 q1 : FVec F S1024x128 .bf16) (x1 x2 : Vec F S8192x128 .bf16)

/-- What a trip reads and writes under the fixed stabiliser. -/
def heldF (l a : LA F) : sProp 𝕄 :=
  iprop(owns (c : Thread nD τ) arg5 fullShare x1 ∗ owns (c : Thread nD τ) arg6 fullShare x2
    ∗ owns (c : Thread nD τ) arg11 fullShare (join l) ∗ owns (c : Thread nD τ) arg12 fullShare (join a))

theorem trip1 (E : Set ℕ) (arg2 : BitVec 32) (k : Fin (k0_t1_loop i).trips) (l a : LA F) :
    heldF c arg5 arg6 arg11 arg12 x1 x2 l a
      ⊢ wp frame (wpE (defs₀ (F := F)) Variants.nat c none) E
          (k0_t1_body i arg3 harg3 arg4 harg4 arg5 harg5 arg6 harg6 arg7 harg7 arg8 harg8 arg9 harg9 arg10 harg10 arg11 harg11 arg12 harg12 arg2 b q0 q1 k ())
          (fun _ => heldF c arg5 arg6 arg11 arg12 x1 x2
            (fun m => fixL b (qs q0 q1 m) (krows 1024 x1 (1024 * k.val)) (l m))
            (fun m => fixA b (qs q0 q1 m) (krows 1024 x1 (1024 * k.val)) (krows 1024 x2 (1024 * k.val)) (a m))) := by
  unfold k0_t1_body
  simp only [k0_part1_eq_skeleton]; unfold k0_part1_skel
  have hk7 : k.val < 7 := Nat.lt_of_lt_of_le k.isLt (k0_t1_abs i).2.1
  unfold heldF owns
  iintro ⟨⟨%f5, %hf5, H5⟩, ⟨%f6, %hf6, H6⟩, ⟨%f11, %hf11, H11⟩, ⟨%f12, %hf12, H12⟩⟩
  obtain rfl := harg5.eq_unread hf5; obtain rfl := harg6.eq_unread hf6
  sl_exec
  sl_step
  have hk : View.readAt (Elt F) arg5.view (Rect.unit (s := S8192x128) (k0_off1 i k) S1024x128.size (k0_off1_inb i k)).toLoadRect
      (harg5.unread x1) = krows 1024 x1 (1024 * k.val) := load_krows harg5 x1 1024 _ (by omega) (k0_off1_eq i k) _
  have hv : View.readAt (Elt F) arg6.view (Rect.unit (s := S8192x128) (k0_off1 i k) S1024x128.size (k0_off1_inb i k)).toLoadRect
      (harg6.unread x2) = krows 1024 x2 (1024 * k.val) := load_krows harg6 x2 1024 _ (by omega) (k0_off1_eq i k) _
  have hl0 : View.readAt (Elt F) arg11.view (Rect.unit (s := S2x1024x128) ![0, 0, 0] S1x1024x128.size inb_S2x1024x128_S1x1024x128_0_0_0).toLoadRect f11 = l 0 :=
    load_slice arg11.view hf11 0 rfl _
  have ha0 : View.readAt (Elt F) arg12.view (Rect.unit (s := S2x1024x128) ![0, 0, 0] S1x1024x128.size inb_S2x1024x128_S1x1024x128_0_0_0).toLoadRect f12 = a 0 :=
    load_slice arg12.view hf12 0 rfl _
  have hl1 : trip1.sl.v536 c arg11 f11 = l 1 := load_slice arg11.view hf11 1 rfl _
  have ha1 : trip1.sl.v557 c arg12 f12 = a 1 := load_slice arg12.view hf12 1 rfl _
  isplitl [H5]
  · iexists _; isplitr; swap; · iexact H5
    ipureintro; exact hf5
  isplitl [H6]
  · iexists _; isplitr; swap; · iexact H6
    ipureintro; exact hf6
  isplitl [H11]
  · iexists _; isplitr; swap; · iexact H11
    ipureintro
    refine (read_put arg11.view (read_put arg11.view (L := []) hf11 0 rfl rfl _ _ _ HEq.rfl) 1 rfl rfl _ _ _ HEq.rfl).trans ?_
    rw [hk, hv, hl0, hl1, ha0]
    refine congrArg join (funext fun m => ?_)
    fin_cases m <;> rfl
  iexists _; isplitr; swap; · iexact H12
  ipureintro
  refine (read_put arg12.view (read_put arg12.view (L := []) hf12 0 rfl rfl _ _ _ HEq.rfl) 1 rfl rfl _ _ _ HEq.rfl).trans ?_
  rw [hk, hv, ha0, ha1]
  refine congrArg join (funext fun m => ?_)
  fin_cases m <;> rfl

/-- What a trip reads and writes under the running stabiliser. -/
def heldO (m : Ms F) (l a : LA F) : sProp 𝕄 :=
  iprop(owns (c : Thread nD τ) arg5 fullShare x1 ∗ owns (c : Thread nD τ) arg6 fullShare x2 ∗ owns (c : Thread nD τ) arg10 fullShare (join m)
    ∗ owns (c : Thread nD τ) arg11 fullShare (join l) ∗ owns (c : Thread nD τ) arg12 fullShare (join a))

theorem trip3 (E : Set ℕ) (arg2 : BitVec 32) (k : Fin (k0_t3_loop i).trips) (m : Ms F) (l a : LA F) :
    heldO c arg5 arg6 arg10 arg11 arg12 x1 x2 m l a
      ⊢ wp frame (wpE (defs₀ (F := F)) Variants.nat c none) E
          (k0_t3_body i arg3 harg3 arg4 harg4 arg5 harg5 arg6 harg6 arg7 harg7 arg8 harg8 arg9 harg9 arg10 harg10 arg11 harg11 arg12 harg12 arg2 q0 q1 k ())
          (fun _ => heldO c arg5 arg6 arg10 arg11 arg12 x1 x2
            (fun j => onM (qs q0 q1 j) (krows 1024 x1 (1024 * k.val)) (m j))
            (fun j => onL (qs q0 q1 j) (krows 1024 x1 (1024 * k.val)) (m j) (l j))
            (fun j => onA (qs q0 q1 j) (krows 1024 x1 (1024 * k.val)) (krows 1024 x2 (1024 * k.val)) (m j) (a j))) := by
  unfold k0_t3_body
  simp only [k0_part11_eq_skeleton, k0_part12_eq_skeleton]; unfold k0_part11_skel k0_part12_skel
  have hk7 : k.val < 7 := Nat.lt_of_lt_of_le k.isLt (k0_t3_abs i).2.1
  unfold heldO owns
  iintro ⟨⟨%f5, %hf5, H5⟩, ⟨%f6, %hf6, H6⟩, ⟨%f10, %hf10, H10⟩, ⟨%f11, %hf11, H11⟩, ⟨%f12, %hf12, H12⟩⟩
  obtain rfl := harg5.eq_unread hf5; obtain rfl := harg6.eq_unread hf6
  sl_exec
  sl_step
  have hk : View.readAt (Elt F) arg5.view (Rect.unit (s := S8192x128) (k0_off4 i k) S1024x128.size (k0_off4_inb i k)).toLoadRect
      (harg5.unread x1) = krows 1024 x1 (1024 * k.val) := load_krows harg5 x1 1024 _ (by omega) (k0_off4_eq i k) _
  have hv : View.readAt (Elt F) arg6.view (Rect.unit (s := S8192x128) (k0_off4 i k) S1024x128.size (k0_off4_inb i k)).toLoadRect
      (harg6.unread x2) = krows 1024 x2 (1024 * k.val) := load_krows harg6 x2 1024 _ (by omega) (k0_off4_eq i k) _
  have hm0 : View.readAt (Elt F) arg10.view (Rect.unit (s := S2x1024x1) ![0, 0, 0] S1x1024x1.size inb_S2x1024x1_S1x1024x1_0_0_0).toLoadRect f10 = m 0 :=
    load_slice arg10.view hf10 0 rfl _
  have hl0 : View.readAt (Elt F) arg11.view (Rect.unit (s := S2x1024x128) ![0, 0, 0] S1x1024x128.size inb_S2x1024x128_S1x1024x128_0_0_0).toLoadRect f11 = l 0 :=
    load_slice arg11.view hf11 0 rfl _
  have ha0 : View.readAt (Elt F) arg12.view (Rect.unit (s := S2x1024x128) ![0, 0, 0] S1x1024x128.size inb_S2x1024x128_S1x1024x128_0_0_0).toLoadRect f12 = a 0 :=
    load_slice arg12.view hf12 0 rfl _
  have hm1 : trip3.sl.v418 c arg10 f10 = m 1 := load_slice arg10.view hf10 1 rfl _
  have hl1 : trip3.sl.v428 c arg11 f11 = l 1 := load_slice arg11.view hf11 1 rfl _
  have ha1 : trip3.sl.v451 c arg12 f12 = a 1 := load_slice arg12.view hf12 1 rfl _
  isplitl [H5]
  · iexists _; isplitr; swap; · iexact H5
    ipureintro; exact hf5
  isplitl [H6]
  · iexists _; isplitr; swap; · iexact H6
    ipureintro; exact hf6
  isplitl [H10]
  · iexists _; isplitr; swap; · iexact H10
    ipureintro
    refine (read_put arg10.view (read_put arg10.view (L := []) hf10 0 rfl rfl _ _ _ HEq.rfl) 1 rfl rfl _ _ _ HEq.rfl).trans ?_
    simp only [hk, hv, hm0, hm1]
    refine congrArg join (funext fun m => ?_)
    fin_cases m <;> rfl
  isplitl [H11]
  · iexists _; isplitr; swap; · iexact H11
    ipureintro
    refine (read_put arg11.view (read_put arg11.view (L := []) hf11 0 rfl rfl _ _ _ HEq.rfl) 1 rfl rfl _ _ _ HEq.rfl).trans ?_
    simp only [hk, hv, hm0, hm1, hl0, hl1]
    refine congrArg join (funext fun m => ?_)
    fin_cases m <;> rfl
  iexists _; isplitr; swap; · iexact H12
  ipureintro
  refine (read_put arg12.view (read_put arg12.view (L := []) hf12 0 rfl rfl _ _ _ HEq.rfl) 1 rfl rfl _ _ _ HEq.rfl).trans ?_
  simp only [hk, hv, hm0, hm1, ha0, ha1]
  refine congrArg join (funext fun m => ?_)
  fin_cases m <;> rfl

theorem t1_trips (i : grid0.Coords) : (k0_t1_loop i).trips = (i 2).val := by
  have : ∀ n : Fin 8, Scf.trips 0#32 (Scalar.addi 0#32 (Scalar.muli (Scalar.divsi (Scalar.subi (BitVec.ofNat 32 n.val) 0#32) 1#32) 1#32)) 1#32 = n.val := by decide
  exact this ⟨(i 2).val, (i 2).isLt⟩

theorem t3_trips (i : grid0.Coords) : (k0_t3_loop i).trips = (i 2).val := t1_trips i

theorem loop1 (E : Set ℕ) (arg2 : BitVec 32) (l a : LA F) :
    heldF c arg5 arg6 arg11 arg12 x1 x2 l a
      ⊢ wp frame (wpE (defs₀ (F := F)) Variants.nat c none) E
          (Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg2 b q0 q1))
          (fun _ => heldF c arg5 arg6 arg11 arg12 x1 x2 (fixN b (qs q0 q1) x1 x2 l a (i 2).val).1 (fixN b (qs q0 q1) x1 x2 l a (i 2).val).2) := by
  iintro H
  iapply (Scf.wp_for frame (wpE (defs₀ (F := F)) Variants.nat c none) E _ _ _ (k0_t1_ok i) ⟨⟩ _
    (fun n _ => heldF c arg5 arg6 arg11 arg12 x1 x2 (fixN b (qs q0 q1) x1 x2 l a n).1 (fixN b (qs q0 q1) x1 x2 l a n).2)
    (fun k _ => trip1 c i arg3 harg3 arg4 harg4 arg5 harg5 arg6 harg6 arg7 harg7 arg8 harg8 arg9 harg9 arg10 harg10 arg11 harg11 arg12 harg12 b q0 q1 x1 x2 E arg2 k _ _))
  isplitl [H]
  · iexact H
  iintro %_ H
  rw [← t1_trips i]; iexact H

theorem loop2 (E : Set ℕ) (arg2 v141 : BitVec 32) (P : sProp 𝕄) :
    P ⊢ wp frame (wpE (defs₀ (F := F)) Variants.nat c none) E
          (Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg2 b q0 q1 v141))
          (fun _ => P) := by
  iintro H
  iapply (Scf.wp_for frame (wpE (defs₀ (F := F)) Variants.nat c none) E _ _ _ (k0_t2_ok i) ⟨⟩ _ (fun _ _ => P)
    (fun k _ => absurd k.isLt (Nat.not_lt.2 (Nat.le_trans (k0_t2_abs i).2.1 (Nat.zero_le _)))))
  isplitl [H]
  · iexact H
  iintro %_ H
  iexact H

theorem loop3 (E : Set ℕ) (arg2 : BitVec 32) (m : Ms F) (l a : LA F) :
    heldO c arg5 arg6 arg10 arg11 arg12 x1 x2 m l a
      ⊢ wp frame (wpE (defs₀ (F := F)) Variants.nat c none) E
          (Scf.Loop.for (k0_t3_loop i) (k0_t3_ok i) ⟨⟩ (k0_t3_body i arg3 harg3 arg4 harg4 arg5 harg5 arg6 harg6 arg7 harg7 arg8 harg8 arg9 harg9 arg10 harg10 arg11 harg11 arg12 harg12 arg2 q0 q1))
          (fun _ => heldO c arg5 arg6 arg10 arg11 arg12 x1 x2 (onN (qs q0 q1) x1 x2 m l a (i 2).val).1
            (onN (qs q0 q1) x1 x2 m l a (i 2).val).2.1 (onN (qs q0 q1) x1 x2 m l a (i 2).val).2.2) := by
  iintro H
  iapply (Scf.wp_for frame (wpE (defs₀ (F := F)) Variants.nat c none) E _ _ _ (k0_t3_ok i) ⟨⟩ _
    (fun n _ => heldO c arg5 arg6 arg10 arg11 arg12 x1 x2 (onN (qs q0 q1) x1 x2 m l a n).1
      (onN (qs q0 q1) x1 x2 m l a n).2.1 (onN (qs q0 q1) x1 x2 m l a n).2.2)
    (fun k _ => trip3 c i arg3 harg3 arg4 harg4 arg5 harg5 arg6 harg6 arg7 harg7 arg8 harg8 arg9 harg9 arg10 harg10 arg11 harg11 arg12 harg12 q0 q1 x1 x2 E arg2 k _ _ _))
  isplitl [H]
  · iexact H
  iintro %_ H
  rw [← t3_trips i]; iexact H

theorem loop4 (E : Set ℕ) (arg2 v145 : BitVec 32) (P : sProp 𝕄) :
    P ⊢ wp frame (wpE (defs₀ (F := F)) Variants.nat c none) E
          (Scf.Loop.for (k0_t4_loop i) (k0_t4_ok i) ⟨⟩ (k0_t4_body i arg3 harg3 arg4 harg4 arg5 harg5 arg6 harg6 arg7 harg7 arg8 harg8 arg9 harg9 arg10 harg10 arg11 harg11 arg12 harg12 arg2 q0 q1 v145))
          (fun _ => P) := by
  iintro H
  iapply (Scf.wp_for frame (wpE (defs₀ (F := F)) Variants.nat c none) E _ _ _ (k0_t4_ok i) ⟨⟩ _ (fun _ _ => P)
    (fun k _ => absurd k.isLt (Nat.not_lt.2 (Nat.le_trans (k0_t4_abs i).2.1 (Nat.zero_le _)))))
  isplitl [H]
  · iexact H
  iintro %_ H
  iexact H

end Runs

/-! ## The parts -/

/-- A run at the head of a longer program. -/
theorem bind_run {α β : Type} {E : Set ℕ} {c : Dev nD} {prog : Prog (TpuEff nD τ sig (Elt F) Λ₀ .tc) α} {P : sProp 𝕄} {Post : α → sProp 𝕄}
    (h : P ⊢ wp frame (wpE (defs₀ (F := F)) Variants.nat c none) E prog Post)
    (kk : α → Prog (TpuEff nD τ sig (Elt F) Λ₀ .tc) β) (Qk : β → sProp 𝕄) :
    iprop(P ∗ (∀ r, Post r -∗ wp frame (wpE (defs₀ (F := F)) Variants.nat c none) E (kk r) Qk))
      ⊢ wp frame (wpE (defs₀ (F := F)) Variants.nat c none) E (prog >>= kk) Qk := by
  rw [wp_bind]
  iintro ⟨HP, HK⟩
  iapply (wp_wand_r _ _ _)
  isplitl [HP]
  · iapply h; iexact HP
  · iintro %r HPost
    iapply HK; iexact HPost

section Parts

variable (c : Dev nD) (i : grid0.Coords) (arg3 : Memref sig .tc .smem S1x1 .f32) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x1 .f32) (harg10 : arg10.IsWhole) (arg11 : Memref sig .tc .vmem S2x1024x128 .f32) (harg11 : arg11.IsWhole) (arg12 : Memref sig .tc .vmem S2x1024x128 .f32) (harg12 : arg12.IsWhole)
  (b : F .f32) (q0 q1 : FVec F S1024x128 .bf16) (x1 x2 : Vec F S8192x128 .bf16)

theorem part3 (E : Set ℕ) (arg2 : BitVec 32) (l a : LA F) :
    heldF c arg5 arg6 arg11 arg12 x1 x2 l a
      ⊢ wp frame (wpE (defs₀ (F := F)) Variants.nat c none) E
          (k0_part3 i arg3 harg3 arg4 harg4 arg5 harg5 arg6 harg6 arg7 harg7 arg8 harg8 arg9 harg9 arg10 harg10 arg11 harg11 arg12 harg12 arg2 b q0 q1)
          (fun r => iprop(heldF c arg5 arg6 arg11 arg12 x1 x2 (fixN b (qs q0 q1) x1 x2 l a (i 2).val).1 (fixN b (qs q0 q1) x1 x2 l a (i 2).val).2
            ∗ ⌜r = ⟨k0_pay20 (krows 512 x1 (1024 * (i 2).val)), k0_pay21 (krows 512 x2 (1024 * (i 2).val)),
                k0_pay22 q0 (krows 512 x1 (1024 * (i 2).val)), k0_pay23, k0_pay25, k0_pay26, k0_pay27, k0_pay28⟩⌝)) := by
  rw [k0_part3_eq_skeleton]; unfold k0_part3_skel
  iintro H
  iapply (bind_run (loop1 c i arg3 harg3 arg4 harg4 arg5 harg5 arg6 harg6 arg7 harg7 arg8 harg8 arg9 harg9 arg10 harg10 arg11 harg11 arg12 harg12 b q0 q1 x1 x2 E arg2 l a) _ _)
  isplitl [H]; · iexact H
  iintro %_ H
  iapply (bind_run (loop2 c i arg3 harg3 arg4 harg4 arg5 harg5 arg6 harg6 arg7 harg7 arg8 harg8 arg9 harg9 arg10 harg10 arg11 harg11 arg12 harg12 b q0 q1 E arg2 _ _) _ _)
  isplitl [H]; · iexact H
  iintro %_ H
  unfold heldF owns
  icases H with ⟨⟨%f5, %hf5, H5⟩, ⟨%f6, %hf6, H6⟩, ⟨%f11, %hf11, H11⟩, ⟨%f12, %hf12, H12⟩⟩
  obtain rfl := harg5.eq_unread hf5; obtain rfl := harg6.eq_unread hf6
  have hi : (i 2).val < 8 := (i 2).isLt
  have hk : View.readAt (Elt F) arg5.view (Rect.unit (s := S8192x128) (k0_off3 i 0#32) S512x128.size (k0_off3_inb i 0)).toLoadRect
      (harg5.unread x1) = krows 512 x1 (1024 * (i 2).val) := load_krows harg5 x1 512 _ (by omega) (k0_off3_eq i 0) _
  have hv : View.readAt (Elt F) arg6.view (Rect.unit (s := S8192x128) (k0_off3 i 0#32) S512x128.size (k0_off3_inb i 0)).toLoadRect
      (harg6.unread x2) = krows 512 x2 (1024 * (i 2).val) := load_krows harg6 x2 512 _ (by omega) (k0_off3_eq i 0) _
  sl_exec
  sl_step
  isplitl [H5 H6 H11 H12]
  · isplitl [H5]
    · iexists _; isplitr; swap; · iexact H5
      ipureintro; exact hf5
    isplitl [H6]
    · iexists _; isplitr; swap; · iexact H6
      ipureintro; exact hf6
    isplitl [H11]
    · iexists _; isplitr; swap; · iexact H11
      ipureintro; exact hf11
    iexists _; isplitr; swap; · iexact H12
    ipureintro; exact hf12
  ipureintro
  rfl

/-- The fixed stabiliser's diagonal block, all rows against its first half's keys. -/
def dgL (b : F .f32) (q : FVec F S1024x128 .bf16) (kk : Vec F S512x128 .bf16) (l : Vec F S1x1024x128 .f32) : Vec F S1x1024x128 .f32 :=
  k0_pay31 (k0_pay30 b (k0_pay22 q kk) k0_pay23 k0_pay25 k0_pay26 k0_pay27 k0_pay28 l)
def dgA (b : F .f32) (q : FVec F S1024x128 .bf16) (kk vv : Vec F S512x128 .bf16) (a : Vec F S1x1024x128 .f32) : Vec F S1x1024x128 .f32 :=
  k0_pay32 (k0_pay21 vv) (k0_pay29 b (k0_pay22 q kk) k0_pay23 k0_pay25 k0_pay26 k0_pay27 k0_pay28) a

/-- The last half's rows against the second half's keys. -/
def dhL (b : F .f32) (q : FVec F S1024x128 .bf16) (kk : Vec F S512x128 .bf16) (l : Vec F S1x512x128 .f32) : Vec F S1x512x128 .f32 :=
  k0_pay52 (k0_pay50 l) (k0_pay51 b (k0_pay44 q kk) k0_pay45 k0_pay46 64#32 k0_pay47 k0_pay48)
def dhA (b : F .f32) (q : FVec F S1024x128 .bf16) (kk vv : Vec F S512x128 .bf16) (a : Vec F S1x512x128 .f32) : Vec F S1x512x128 .f32 :=
  k0_pay53 (k0_pay43 vv) (k0_pay49 b (k0_pay44 q kk) k0_pay45 k0_pay46 64#32 k0_pay47 k0_pay48) a

/-- The whole diagonal block under the fixed stabiliser. -/
def diagL (b : F .f32) (q : FVec F S1024x128 .bf16) (x1 : Vec F S8192x128 .bf16) (n : ℕ) (l : Vec F S1x1024x128 .f32) : Vec F S1x1024x128 .f32 :=
  putLow 512 rfl (dhL b q (krows 512 x1 (1024 * n + 512)) (low 512 (le_refl _) (dgL b q (krows 512 x1 (1024 * n)) l))) (dgL b q (krows 512 x1 (1024 * n)) l)
def diagA (b : F .f32) (q : FVec F S1024x128 .bf16) (x1 x2 : Vec F S8192x128 .bf16) (n : ℕ) (a : Vec F S1x1024x128 .f32) : Vec F S1x1024x128 .f32 :=
  putLow 512 rfl (dhA b q (krows 512 x1 (1024 * n + 512)) (krows 512 x2 (1024 * n + 512))
    (low 512 (le_refl _) (dgA b q (krows 512 x1 (1024 * n)) (krows 512 x2 (1024 * n)) a))) (dgA b q (krows 512 x1 (1024 * n)) (krows 512 x2 (1024 * n)) a)

/-- The scratch cleared. -/
def zeroLA : LA F := slc k0_pay138

/-- The state after every block under the fixed stabiliser. -/
def fixEnd (b : F .f32) (q : Fin 2 → FVec F S1024x128 .bf16) (x1 x2 : Vec F S8192x128 .bf16) (n : ℕ) : LA F × LA F :=
  (fun m => diagL b (q m) x1 n ((fixN b q x1 x2 zeroLA zeroLA n).1 m), fun m => diagA b (q m) x1 x2 n ((fixN b q x1 x2 zeroLA zeroLA n).2 m))

abbrev isLe (b : F .f32) : BitVec 1 := Scalar.cmpf .ole b (Scalar.ofBits .f32 0x42700000#32 : F .f32)

theorem part21_fix (E : Set ℕ) (arg2 : BitVec 32) (v1 : IVec S1x128 32) (v7 : FVec F S1024x128 .bf16) (c64 : BitVec 32) (v39 v40 : IVec S1x128 32)
    (hq : k0_pay137 v1 v7 c64 v39 v40 = q1) (hb : isLe b = 1#1) :
    iprop(owns (c : Thread nD τ) arg5 fullShare x1 ∗ owns (c : Thread nD τ) arg6 fullShare x2
        ∗ (∃ d, owns (c : Thread nD τ) arg11 fullShare d) ∗ (∃ d, owns (c : Thread nD τ) arg12 fullShare d))
      ⊢ wp frame (wpE (defs₀ (F := F)) Variants.nat c none) E
          (k0_part21 i arg3 harg3 arg4 harg4 arg5 harg5 arg6 harg6 arg7 harg7 arg8 harg8 arg9 harg9 arg10 harg10 arg11 harg11 arg12 harg12 arg2 b v1 v7 q0 c64 v39 v40)
          (fun r => iprop(heldF c arg5 arg6 arg11 arg12 x1 x2 (fixEnd b (qs q0 q1) x1 x2 (i 2).val).1 (fixEnd b (qs q0 q1) x1 x2 (i 2).val).2
            ∗ ⌜r = ⟨q1, isLe b⟩⌝)) := by
  rw [k0_part21_eq_skeleton]; unfold k0_part21_skel
  have h78 : Scalar.cmpi .ne (Scalar.extui (isLe b) : BitVec 32) 0#32 = 1#1 := by rw [hb]; decide
  dsimp only
  simp only [if_pos h78, hq]
  unfold owns
  iintro ⟨⟨%f5, %hf5, H5⟩, ⟨%f6, %hf6, H6⟩, ⟨%d11, %f11, -, H11⟩, ⟨%d12, %f12, -, H12⟩⟩
  obtain rfl := harg5.eq_unread hf5; obtain rfl := harg6.eq_unread hf6
  set_option sl_exec.stopBefore "k0_part3" in sl_exec
  iapply (bind_run (part3 c i arg3 harg3 arg4 harg4 arg5 harg5 arg6 harg6 arg7 harg7 arg8 harg8 arg9 harg9 arg10 harg10 arg11 harg11 arg12 harg12 b q0 q1 x1 x2 E arg2 zeroLA zeroLA) _ _)
  isplitl [H5 H6 H11 H12]
  · unfold heldF owns
    isplitl [H5]
    · iexists _; isplitr; swap; · iexact H5
      ipureintro; exact hf5
    isplitl [H6]
    · iexists _; isplitr; swap; · iexact H6
      ipureintro; exact hf6
    isplitl [H11]
    · iexists _; isplitr; swap; · iexact H11
      ipureintro; exact read_whole3 arg11.view (L := []) (by funext a; fin_cases a <;> rfl) rfl _ _ _ HEq.rfl
    iexists _; isplitr; swap; · iexact H12
    ipureintro; exact read_whole3 arg12.view (L := []) (by funext a; fin_cases a <;> rfl) rfl _ _ _ HEq.rfl
  iintro %r ⟨H, %hr⟩
  subst hr
  unfold heldF owns
  icases H with ⟨⟨%g5, %hg5, H5⟩, ⟨%g6, %hg6, H6⟩, ⟨%g11, %hg11, H11⟩, ⟨%g12, %hg12, H12⟩⟩
  obtain rfl := harg5.eq_unread hg5; obtain rfl := harg6.eq_unread hg6
  have hi : (i 2).val < 8 := (i 2).isLt
  have hk : View.readAt (Elt F) arg5.view (Rect.unit (s := S8192x128) (k0_off3 i 512#32) S512x128.size (k0_off3_inb i 1)).toLoadRect
      (harg5.unread x1) = krows 512 x1 (1024 * (i 2).val + 512) := load_krows harg5 x1 512 _ (by omega) (k0_off3_eq i 1) _
  have hv : View.readAt (Elt F) arg6.view (Rect.unit (s := S8192x128) (k0_off3 i 512#32) S512x128.size (k0_off3_inb i 1)).toLoadRect
      (harg6.unread x2) = krows 512 x2 (1024 * (i 2).val + 512) := load_krows harg6 x2 512 _ (by omega) (k0_off3_eq i 1) _
  sl_exec
  sl_step
  have hl (k : Fin 2) inb : View.readAt (Elt F) arg11.view (Rect.unit (s := S2x1024x128) ![k.val, 0, 0] S1x1024x128.size inb).toLoadRect g11
      = (fixN b (qs q0 q1) x1 x2 zeroLA zeroLA (i 2).val).1 k := load_slice arg11.view hg11 k rfl inb
  have ha (k : Fin 2) inb : View.readAt (Elt F) arg12.view (Rect.unit (s := S2x1024x128) ![k.val, 0, 0] S1x1024x128.size inb).toLoadRect g12
      = (fixN b (qs q0 q1) x1 x2 zeroLA zeroLA (i 2).val).2 k := load_slice arg12.view hg12 k rfl inb
  generalize hln : (fixN b (qs q0 q1) x1 x2 zeroLA zeroLA (i 2).val).1 = ln at hl hg11
  generalize han : (fixN b (qs q0 q1) x1 x2 zeroLA zeroLA (i 2).val).2 = an at ha hg12
  have hL2 (g : arg11.view.ty.Contents (Elt F)) (w : LA F) (hg : arg11.view.read (Elt F) g = join w) :
      arg11.view.read (Elt F) (arg11.view.writes (Elt F) g (part21_fix.sl.H11_2 c i arg11 b q0 q1 x1 x2 g11))
        = join (Function.update (Function.update w 0 (dgL b q0 (krows 512 x1 (1024 * (i 2).val)) (ln 0))) 1
            (dgL b q1 (krows 512 x1 (1024 * (i 2).val)) (ln 1))) :=
    read_put arg11.view (read_put arg11.view (L := []) hg 0 rfl rfl _ _ _
      (heq_of_eq (congrArg (dgL b q0 (krows 512 x1 (1024 * (i 2).val))) (hl 0 _)))) 1 rfl rfl _ _ _
      (heq_of_eq (congrArg (dgL b q1 (krows 512 x1 (1024 * (i 2).val))) (hl 1 _)))
  have hA2 (g : arg12.view.ty.Contents (Elt F)) (w : LA F) (hg : arg12.view.read (Elt F) g = join w) :
      arg12.view.read (Elt F) (arg12.view.writes (Elt F) g (part21_fix.sl.H12_2 c i arg12 b q0 q1 x1 x2 g12))
        = join (Function.update (Function.update w 0 (dgA b q0 (krows 512 x1 (1024 * (i 2).val)) (krows 512 x2 (1024 * (i 2).val)) (an 0))) 1
            (dgA b q1 (krows 512 x1 (1024 * (i 2).val)) (krows 512 x2 (1024 * (i 2).val)) (an 1))) :=
    read_put arg12.view (read_put arg12.view (L := []) hg 0 rfl rfl _ _ _
      (heq_of_eq (congrArg (dgA b q0 (krows 512 x1 (1024 * (i 2).val)) (krows 512 x2 (1024 * (i 2).val))) (ha 0 _)))) 1 rfl rfl _ _ _
      (heq_of_eq (congrArg (dgA b q1 (krows 512 x1 (1024 * (i 2).val)) (krows 512 x2 (1024 * (i 2).val))) (ha 1 _)))
  have c0 : arg11.view.readCov (part21_fix.sl.H11_2 c i arg11 b q0 q1 x1 x2 g11) (Rect.unit (s := S2x1024x128) ![0, 512, 0] S1x512x128.size inb_S2x1024x128_S1x512x128_0_512_0).toLoadRect
      = low 512 (le_refl _) (dgL b q0 (krows 512 x1 (1024 * (i 2).val)) (ln 0)) :=
    cov_low arg11.view 0 512 512 (le_refl _) (fun g w hg => ⟨_, hL2 g w hg, rfl⟩) rfl inb_S2x1024x128_S1x512x128_0_512_0
  have d0 : arg12.view.readCov (part21_fix.sl.H12_2 c i arg12 b q0 q1 x1 x2 g12) (Rect.unit (s := S2x1024x128) ![0, 512, 0] S1x512x128.size inb_S2x1024x128_S1x512x128_0_512_0).toLoadRect
      = low 512 (le_refl _) (dgA b q0 (krows 512 x1 (1024 * (i 2).val)) (krows 512 x2 (1024 * (i 2).val)) (an 0)) :=
    cov_low arg12.view 0 512 512 (le_refl _) (fun g w hg => ⟨_, hA2 g w hg, rfl⟩) rfl inb_S2x1024x128_S1x512x128_0_512_0
  have hL3 (g : arg11.view.ty.Contents (Elt F)) (w : LA F) (hg : arg11.view.read (Elt F) g = join w) :
      arg11.view.read (Elt F) (arg11.view.writes (Elt F) g (part21_fix.sl.H11_3 c i arg11 b q0 q1 x1 x2 g11))
        = join (Function.update (Function.update (Function.update w 0 (dgL b q0 (krows 512 x1 (1024 * (i 2).val)) (ln 0))) 1
            (dgL b q1 (krows 512 x1 (1024 * (i 2).val)) (ln 1))) 0 (diagL b q0 x1 (i 2).val (ln 0))) :=
    read_putLow arg11.view (hL2 g w hg) 0 512 512 rfl rfl rfl inb_S2x1024x128_S1x512x128_0_512_0 (part21_fix.sl.v398 c i arg11 b q0 q1 x1 x2 g11)
      (dhL b q0 (krows 512 x1 (1024 * (i 2).val + 512)) (low 512 (le_refl _) (dgL b q0 (krows 512 x1 (1024 * (i 2).val)) (ln 0))))
      (heq_of_eq (congrArg (dhL b q0 (krows 512 x1 (1024 * (i 2).val + 512))) c0))
  have hA3 (g : arg12.view.ty.Contents (Elt F)) (w : LA F) (hg : arg12.view.read (Elt F) g = join w) :
      arg12.view.read (Elt F) (arg12.view.writes (Elt F) g (part21_fix.sl.H12_3 c i arg12 b q0 q1 x1 x2 g12))
        = join (Function.update (Function.update (Function.update w 0 (dgA b q0 (krows 512 x1 (1024 * (i 2).val)) (krows 512 x2 (1024 * (i 2).val)) (an 0))) 1
            (dgA b q1 (krows 512 x1 (1024 * (i 2).val)) (krows 512 x2 (1024 * (i 2).val)) (an 1))) 0 (diagA b q0 x1 x2 (i 2).val (an 0))) :=
    read_putLow arg12.view (hA2 g w hg) 0 512 512 rfl rfl rfl inb_S2x1024x128_S1x512x128_0_512_0 (part21_fix.sl.v406 c i arg12 b q0 q1 x1 x2 g12)
      (dhA b q0 (krows 512 x1 (1024 * (i 2).val + 512)) (krows 512 x2 (1024 * (i 2).val + 512)) (low 512 (le_refl _) (dgA b q0 (krows 512 x1 (1024 * (i 2).val)) (krows 512 x2 (1024 * (i 2).val)) (an 0))))
      (heq_of_eq (congrArg (dhA b q0 (krows 512 x1 (1024 * (i 2).val + 512)) (krows 512 x2 (1024 * (i 2).val + 512))) d0))
  have c1 : arg11.view.readCov (part21_fix.sl.H11_3 c i arg11 b q0 q1 x1 x2 g11) (Rect.unit (s := S2x1024x128) ![1, 512, 0] S1x512x128.size inb_S2x1024x128_S1x512x128_1_512_0).toLoadRect
      = low 512 (le_refl _) (dgL b q1 (krows 512 x1 (1024 * (i 2).val)) (ln 1)) :=
    cov_low arg11.view 1 512 512 (le_refl _) (fun g w hg => ⟨_, hL3 g w hg, rfl⟩) rfl inb_S2x1024x128_S1x512x128_1_512_0
  have d1 : arg12.view.readCov (part21_fix.sl.H12_3 c i arg12 b q0 q1 x1 x2 g12) (Rect.unit (s := S2x1024x128) ![1, 512, 0] S1x512x128.size inb_S2x1024x128_S1x512x128_1_512_0).toLoadRect
      = low 512 (le_refl _) (dgA b q1 (krows 512 x1 (1024 * (i 2).val)) (krows 512 x2 (1024 * (i 2).val)) (an 1)) :=
    cov_low arg12.view 1 512 512 (le_refl _) (fun g w hg => ⟨_, hA3 g w hg, rfl⟩) rfl inb_S2x1024x128_S1x512x128_1_512_0
  isplitl [H5 H6 H11 H12]
  · isplitl [H5]
    · iexists _; isplitr; swap; · iexact H5
      ipureintro; exact hg5
    isplitl [H6]
    · iexists _; isplitr; swap; · iexact H6
      ipureintro; exact hg6
    isplitl [H11]
    · iexists _; isplitr; swap; · iexact H11
      ipureintro
      refine (read_putLow arg11.view (hL3 g11 _ hg11) 1 512 512 rfl rfl rfl inb_S2x1024x128_S1x512x128_1_512_0
        (k0_pay140 (part21_fix.sl.v478 c i arg11 b q0 q1 x1 x2 g11)) (dhL b q1 (krows 512 x1 (1024 * (i 2).val + 512)) (low 512 (le_refl _) (dgL b q1 (krows 512 x1 (1024 * (i 2).val)) (ln 1)))) (heq_of_eq (congrArg (dhL b q1 (krows 512 x1 (1024 * (i 2).val + 512))) c1))).trans ?_
      refine congrArg join (funext fun m => ?_)
      unfold fixEnd; rw [hln]
      fin_cases m <;> rfl
    iexists _; isplitr; swap; · iexact H12
    ipureintro
    refine (read_putLow arg12.view (hA3 g12 _ hg12) 1 512 512 rfl rfl rfl inb_S2x1024x128_S1x512x128_1_512_0
      (k0_pay141 (part21_fix.sl.v323 i x2) (part21_fix.sl.v468 i b q1 x1) (part21_fix.sl.v482 c i arg12 b q0 q1 x1 x2 g12))
      (dhA b q1 (krows 512 x1 (1024 * (i 2).val + 512)) (krows 512 x2 (1024 * (i 2).val + 512)) (low 512 (le_refl _) (dgA b q1 (krows 512 x1 (1024 * (i 2).val)) (krows 512 x2 (1024 * (i 2).val)) (an 1)))) (heq_of_eq (congrArg (dhA b q1 (krows 512 x1 (1024 * (i 2).val + 512)) (krows 512 x2 (1024 * (i 2).val + 512))) d1))).trans ?_
    refine congrArg join (funext fun m => ?_)
    unfold fixEnd; rw [han]
    fin_cases m <;> rfl
  ipureintro
  rfl

/-- The diagonal block under the running stabiliser, one map: the stabiliser, … -/
def odV (q : FVec F S1024x128 .bf16) (kk : Vec F S1024x128 .bf16) (m : Vec F S1x1024x1 .f32) : FVec F S1024x1 .f32 :=
  k0_pay115 (k0_pay108 q kk) k0_pay109 k0_pay110 64#32 k0_pay111 k0_pay112 (Scalar.extui (Scalar.cmpi .sgt 64#32 0#32)) (Scalar.extui (Scalar.cmpi .slt 64#32 0#32)) m
def odS (q : FVec F S1024x128 .bf16) (kk : Vec F S1024x128 .bf16) (m : Vec F S1x1024x1 .f32) : FVec F S1024x1024 .f32 :=
  k0_pay116 (k0_pay108 q kk) k0_pay109 k0_pay110 64#32 k0_pay111 k0_pay112 (Scalar.extui (Scalar.cmpi .sgt 64#32 0#32)) (Scalar.extui (Scalar.cmpi .slt 64#32 0#32)) m
/-- … the lane sums … -/
def odL (q : FVec F S1024x128 .bf16) (kk : Vec F S1024x128 .bf16) (m : Vec F S1x1024x1 .f32) (l : Vec F S1x1024x128 .f32) : Vec F S1x1024x128 .f32 :=
  k0_pay118 (k0_pay114 m) (odV q kk m) (odS q kk m) l
/-- … and the accumulator. -/
def odA (q : FVec F S1024x128 .bf16) (kk vv : Vec F S1024x128 .bf16) (m : Vec F S1x1024x1 .f32) (a : Vec F S1x1024x128 .f32) : Vec F S1x1024x128 .f32 :=
  k0_pay119 (k0_pay107 vv) (k0_pay114 m) (odV q kk m) (odS q kk m) a

/-- The running stabiliser at its start. -/
def negM : Ms F := slc k0_pay99

/-- The state after every block under the running stabiliser. -/
def onEnd (q : Fin 2 → FVec F S1024x128 .bf16) (x1 x2 : Vec F S8192x128 .bf16) (n : ℕ) : LA F × LA F :=
  (fun j => odL (q j) (krows 1024 x1 (1024 * n)) ((onN q x1 x2 negM zeroLA zeroLA n).1 j) ((onN q x1 x2 negM zeroLA zeroLA n).2.1 j),
   fun j => odA (q j) (krows 1024 x1 (1024 * n)) (krows 1024 x2 (1024 * n)) ((onN q x1 x2 negM zeroLA zeroLA n).1 j) ((onN q x1 x2 negM zeroLA zeroLA n).2.2 j))

theorem part15 (E : Set ℕ) (arg2 : BitVec 32) (l a : LA F) :
    iprop(owns (c : Thread nD τ) arg5 fullShare x1 ∗ owns (c : Thread nD τ) arg6 fullShare x2
        ∗ (∃ d, owns (c : Thread nD τ) arg10 fullShare d) ∗ owns (c : Thread nD τ) arg11 fullShare (join l) ∗ owns (c : Thread nD τ) arg12 fullShare (join a))
      ⊢ wp frame (wpE (defs₀ (F := F)) Variants.nat c none) E
          (k0_part15 i arg3 harg3 arg4 harg4 arg5 harg5 arg6 harg6 arg7 harg7 arg8 harg8 arg9 harg9 arg10 harg10 arg11 harg11 arg12 harg12 arg2 q0 q1)
          (fun r => iprop(heldO c arg5 arg6 arg10 arg11 arg12 x1 x2 (onN (qs q0 q1) x1 x2 negM l a (i 2).val).1
              (onN (qs q0 q1) x1 x2 negM l a (i 2).val).2.1 (onN (qs q0 q1) x1 x2 negM l a (i 2).val).2.2
            ∗ ⌜r = ⟨k0_pay106 (krows 1024 x1 (1024 * (i 2).val)), k0_pay107 (krows 1024 x2 (1024 * (i 2).val)),
                k0_pay108 q0 (krows 1024 x1 (1024 * (i 2).val)), k0_pay109, k0_pay110, 64#32, k0_pay111, k0_pay112,
                Scalar.extui (Scalar.cmpi .sgt 64#32 0#32), Scalar.extui (Scalar.cmpi .slt 64#32 0#32)⟩⌝)) := by
  rw [k0_part15_eq_skeleton]; unfold k0_part15_skel
  unfold owns
  iintro ⟨⟨%f5, %hf5, H5⟩, ⟨%f6, %hf6, H6⟩, ⟨%d10, %f10, -, H10⟩, H11, H12⟩
  sl_exec
  iapply (bind_run (loop3 c i arg3 harg3 arg4 harg4 arg5 harg5 arg6 harg6 arg7 harg7 arg8 harg8 arg9 harg9 arg10 harg10 arg11 harg11 arg12 harg12 q0 q1 x1 x2 E arg2 negM l a) _ _)
  isplitl [H5 H6 H10 H11 H12]
  · unfold heldO owns
    isplitl [H5]
    · iexists _; isplitr; swap; · iexact H5
      ipureintro; exact hf5
    isplitl [H6]
    · iexists _; isplitr; swap; · iexact H6
      ipureintro; exact hf6
    isplitl [H10]
    · iexists _; isplitr; swap; · iexact H10
      ipureintro; exact read_whole3 arg10.view (L := []) (by funext a; fin_cases a <;> rfl) rfl _ _ _ HEq.rfl
    isplitl [H11]; · iexact H11
    iexact H12
  iintro %_ H
  iapply (bind_run (loop4 c i arg3 harg3 arg4 harg4 arg5 harg5 arg6 harg6 arg7 harg7 arg8 harg8 arg9 harg9 arg10 harg10 arg11 harg11 arg12 harg12 q0 q1 E arg2 _ _) _ _)
  isplitl [H]; · iexact H
  iintro %_ H
  unfold heldO owns
  icases H with ⟨⟨%g5, %hg5, H5⟩, ⟨%g6, %hg6, H6⟩, ⟨%g10, %hg10, H10⟩, ⟨%g11, %hg11, H11⟩, ⟨%g12, %hg12, H12⟩⟩
  obtain rfl := harg5.eq_unread hg5; obtain rfl := harg6.eq_unread hg6
  have hi : (i 2).val < 8 := (i 2).isLt
  have hk : View.readAt (Elt F) arg5.view (Rect.unit (s := S8192x128) (k0_off6 i) S1024x128.size (k0_off6_inb i)).toLoadRect
      (harg5.unread x1) = krows 1024 x1 (1024 * (i 2).val) := load_krows harg5 x1 1024 _ (by omega) (k0_off6_eq i) _
  have hv : View.readAt (Elt F) arg6.view (Rect.unit (s := S8192x128) (k0_off6 i) S1024x128.size (k0_off6_inb i)).toLoadRect
      (harg6.unread x2) = krows 1024 x2 (1024 * (i 2).val) := load_krows harg6 x2 1024 _ (by omega) (k0_off6_eq i) _
  sl_exec
  sl_step
  isplitl [H5 H6 H10 H11 H12]
  · isplitl [H5]
    · iexists _; isplitr; swap; · iexact H5
      ipureintro; exact hg5
    isplitl [H6]
    · iexists _; isplitr; swap; · iexact H6
      ipureintro; exact hg6
    isplitl [H10]
    · iexists _; isplitr; swap; · iexact H10
      ipureintro; exact hg10
    isplitl [H11]
    · iexists _; isplitr; swap; · iexact H11
      ipureintro; exact hg11
    iexists _; isplitr; swap; · iexact H12
    ipureintro; exact hg12
  ipureintro
  rfl

/-- The lane sums and accumulator when every block is in, in the branch the bound takes. -/
def endLA (b : F .f32) (q : Fin 2 → FVec F S1024x128 .bf16) (x1 x2 : Vec F S8192x128 .bf16) (n : ℕ) : LA F × LA F :=
  if isLe b = 1#1 then fixEnd b q x1 x2 n else onEnd q x1 x2 n

variable (xl : Vec F S4x64 .f32)

theorem off00 : (![0, 0] : Fin 2 → ℕ) = fun _ => 0 := by funext a; fin_cases a <;> rfl

theorem part22_fix (E : Set ℕ) (arg2 : BitVec 32) (hb : isLe b = 1#1) :
    iprop(heldF c arg5 arg6 arg11 arg12 x1 x2 (fixEnd b (qs q0 q1) x1 x2 (i 2).val).1 (fixEnd b (qs q0 q1) x1 x2 (i 2).val).2
        ∗ owns (c : Thread nD τ) arg7 fullShare xl ∗ (∃ d, owns (c : Thread nD τ) arg10 fullShare d))
      ⊢ wp frame (wpE (defs₀ (F := F)) Variants.nat c none) E
          (k0_part22 i arg3 harg3 arg4 harg4 arg5 harg5 arg6 harg6 arg7 harg7 arg8 harg8 arg9 harg9 arg10 harg10 arg11 harg11 arg12 harg12 arg2 q0 q1 (isLe b))
          (fun r => iprop((owns (c : Thread nD τ) arg5 fullShare x1 ∗ owns (c : Thread nD τ) arg6 fullShare x2
            ∗ owns (c : Thread nD τ) arg7 fullShare xl ∗ (∃ d, owns (c : Thread nD τ) arg10 fullShare d)
            ∗ (∃ d, owns (c : Thread nD τ) arg11 fullShare d) ∗ (∃ d, owns (c : Thread nD τ) arg12 fullShare d))
            ∗ ⌜r = ⟨k0_pay144 ((endLA b (qs q0 q1) x1 x2 (i 2).val).1 0) ((endLA b (qs q0 q1) x1 x2 (i 2).val).2 0),
                k0_pay145 xl ((endLA b (qs q0 q1) x1 x2 (i 2).val).1 1) ((endLA b (qs q0 q1) x1 x2 (i 2).val).2 1)⟩⌝)) := by
  have he : endLA b (qs q0 q1) x1 x2 (i 2).val = fixEnd b (qs q0 q1) x1 x2 (i 2).val := if_pos hb
  rw [he, k0_part22_eq_skeleton]; unfold k0_part22_skel
  have h82 : ¬ (Scalar.cmpi .ne (Scalar.extui (Scalar.xori (isLe b) 1#1) : BitVec 32) 0#32 = 1#1) := by rw [hb]; decide
  dsimp only
  simp only [if_neg h82]
  generalize fixEnd b (qs q0 q1) x1 x2 (i 2).val = LE
  unfold heldF owns
  iintro ⟨⟨H5, H6, ⟨%g11, %hg11, H11⟩, ⟨%g12, %hg12, H12⟩⟩, ⟨%f7, %hf7, H7⟩, H10⟩
  have hl (k : Fin 2) inb : View.readAt (Elt F) arg11.view (Rect.unit (s := S2x1024x128) ![k.val, 0, 0] S1x1024x128.size inb).toLoadRect g11
      = LE.1 k := load_slice arg11.view hg11 k rfl inb
  have ha (k : Fin 2) inb : View.readAt (Elt F) arg12.view (Rect.unit (s := S2x1024x128) ![k.val, 0, 0] S1x1024x128.size inb).toLoadRect g12
      = LE.2 k := load_slice arg12.view hg12 k rfl inb
  have hl0 := hl 0 inb_S2x1024x128_S1x1024x128_0_0_0
  have hl1 := hl 1 inb_S2x1024x128_S1x1024x128_1_0_0
  have ha0 := ha 0 inb_S2x1024x128_S1x1024x128_0_0_0
  have ha1 := ha 1 inb_S2x1024x128_S1x1024x128_1_0_0
  have h7 : View.readAt (Elt F) arg7.view (Rect.unit (s := S4x64) ![0, 0] S4x64.size inb_S4x64_S4x64_0_0).toLoadRect f7 = xl :=
    (readAt_all (s := S4x64) arg7.view f7 off00 _).trans hf7
  sl_exec
  sl_step
  isplitl [H5 H6 H7 H10 H11 H12]
  · isplitl [H5]; · iexact H5
    isplitl [H6]; · iexact H6
    isplitl [H7]
    · iexists _; isplitr; swap; · iexact H7
      ipureintro; exact hf7
    isplitl [H10]; · iexact H10
    isplitl [H11]
    · iexists _; iexists _; isplitr; swap; · iexact H11
      ipureintro; exact hg11
    iexists _; iexists _; isplitr; swap; · iexact H12
    ipureintro; exact hg12
  ipureintro
  rfl

theorem part21_on (E : Set ℕ) (arg2 : BitVec 32) (v1 : IVec S1x128 32) (v7 : FVec F S1024x128 .bf16) (c64 : BitVec 32) (v39 v40 : IVec S1x128 32)
    (hq : k0_pay137 v1 v7 c64 v39 v40 = q1) (hb : ¬ isLe b = 1#1) :
    (iprop((∃ d, owns (c : Thread nD τ) arg11 fullShare d) ∗ (∃ d, owns (c : Thread nD τ) arg12 fullShare d)) : sProp 𝕄)
      ⊢ wp frame (wpE (defs₀ (F := F)) Variants.nat c none) E
          (k0_part21 i arg3 harg3 arg4 harg4 arg5 harg5 arg6 harg6 arg7 harg7 arg8 harg8 arg9 harg9 arg10 harg10 arg11 harg11 arg12 harg12 arg2 b v1 v7 q0 c64 v39 v40)
          (fun r => iprop((owns (c : Thread nD τ) arg11 fullShare (join zeroLA) ∗ owns (c : Thread nD τ) arg12 fullShare (join zeroLA))
            ∗ ⌜r = ⟨q1, isLe b⟩⌝)) := by
  rw [k0_part21_eq_skeleton]; unfold k0_part21_skel
  have h78 : ¬ (Scalar.cmpi .ne (Scalar.extui (isLe b) : BitVec 32) 0#32 = 1#1) :=
    (show ∀ z : BitVec 1, ¬ z = 1#1 → ¬ (Scalar.cmpi .ne (Scalar.extui z : BitVec 32) 0#32 = 1#1) by decide) _ hb
  dsimp only
  simp only [if_neg h78, hq]
  unfold owns
  iintro ⟨⟨%d11, %f11, -, H11⟩, ⟨%d12, %f12, -, H12⟩⟩
  sl_exec
  sl_step
  isplitl [H11 H12]
  · isplitl [H11]
    · iexists _; isplitr; swap; · iexact H11
      ipureintro; exact read_whole3 arg11.view (L := []) (by funext a; fin_cases a <;> rfl) rfl _ _ _ HEq.rfl
    iexists _; isplitr; swap; · iexact H12
    ipureintro; exact read_whole3 arg12.view (L := []) (by funext a; fin_cases a <;> rfl) rfl _ _ _ HEq.rfl
  ipureintro
  rfl

theorem part22_on (E : Set ℕ) (arg2 : BitVec 32) (hb : ¬ isLe b = 1#1) :
    (iprop(owns (c : Thread nD τ) arg5 fullShare x1 ∗ owns (c : Thread nD τ) arg6 fullShare x2 ∗ owns (c : Thread nD τ) arg7 fullShare xl
        ∗ (∃ d, owns (c : Thread nD τ) arg10 fullShare d)
        ∗ owns (c : Thread nD τ) arg11 fullShare (join zeroLA) ∗ owns (c : Thread nD τ) arg12 fullShare (join zeroLA)) : sProp 𝕄)
      ⊢ wp frame (wpE (defs₀ (F := F)) Variants.nat c none) E
          (k0_part22 i arg3 harg3 arg4 harg4 arg5 harg5 arg6 harg6 arg7 harg7 arg8 harg8 arg9 harg9 arg10 harg10 arg11 harg11 arg12 harg12 arg2 q0 q1 (isLe b))
          (fun r => iprop((owns (c : Thread nD τ) arg5 fullShare x1 ∗ owns (c : Thread nD τ) arg6 fullShare x2
            ∗ owns (c : Thread nD τ) arg7 fullShare xl ∗ (∃ d, owns (c : Thread nD τ) arg10 fullShare d)
            ∗ (∃ d, owns (c : Thread nD τ) arg11 fullShare d) ∗ (∃ d, owns (c : Thread nD τ) arg12 fullShare d))
            ∗ ⌜r = ⟨k0_pay144 ((endLA b (qs q0 q1) x1 x2 (i 2).val).1 0) ((endLA b (qs q0 q1) x1 x2 (i 2).val).2 0),
                k0_pay145 xl ((endLA b (qs q0 q1) x1 x2 (i 2).val).1 1) ((endLA b (qs q0 q1) x1 x2 (i 2).val).2 1)⟩⌝)) := by
  have he : endLA b (qs q0 q1) x1 x2 (i 2).val = onEnd (qs q0 q1) x1 x2 (i 2).val := if_neg hb
  rw [he, k0_part22_eq_skeleton]; unfold k0_part22_skel
  have h82 : Scalar.cmpi .ne (Scalar.extui (Scalar.xori (isLe b) 1#1) : BitVec 32) 0#32 = 1#1 :=
    (show ∀ z : BitVec 1, ¬ z = 1#1 → Scalar.cmpi .ne (Scalar.extui (Scalar.xori z 1#1) : BitVec 32) 0#32 = 1#1 by decide) _ hb
  dsimp only
  simp only [if_pos h82]
  iintro ⟨H5, H6, H7, H10, H11, H12⟩
  set_option sl_exec.stopBefore "k0_part15" in sl_exec
  iapply (bind_run (part15 c i arg3 harg3 arg4 harg4 arg5 harg5 arg6 harg6 arg7 harg7 arg8 harg8 arg9 harg9 arg10 harg10 arg11 harg11 arg12 harg12 q0 q1 x1 x2 E arg2 zeroLA zeroLA) _ _)
  isplitl [H5 H6 H10 H11 H12]
  · isplitl [H5]; · iexact H5
    isplitl [H6]; · iexact H6
    isplitl [H10]; · iexact H10
    isplitl [H11]; · iexact H11
    iexact H12
  iintro %r ⟨H, %hr⟩
  subst hr
  unfold heldO owns
  icases H with ⟨H5, H6, ⟨%g10, %hg10, H10⟩, ⟨%g11, %hg11, H11⟩, ⟨%g12, %hg12, H12⟩⟩
  icases H7 with ⟨%f7, %hf7, H7⟩
  unfold onEnd
  generalize onN (qs q0 q1) x1 x2 negM zeroLA zeroLA (i 2).val = S at hg10 hg11 hg12
  have h7 : View.readAt (Elt F) arg7.view (Rect.unit (s := S4x64) ![0, 0] S4x64.size inb_S4x64_S4x64_0_0).toLoadRect f7 = xl :=
    (readAt_all (s := S4x64) arg7.view f7 off00 _).trans hf7
  have hm (k : Fin 2) inb : View.readAt (Elt F) arg10.view (Rect.unit (s := S2x1024x1) ![k.val, 0, 0] S1x1024x1.size inb).toLoadRect g10
      = S.1 k := load_slice arg10.view hg10 k rfl inb
  have hl (k : Fin 2) inb : View.readAt (Elt F) arg11.view (Rect.unit (s := S2x1024x128) ![k.val, 0, 0] S1x1024x128.size inb).toLoadRect g11
      = S.2.1 k := load_slice arg11.view hg11 k rfl inb
  have ha (k : Fin 2) inb : View.readAt (Elt F) arg12.view (Rect.unit (s := S2x1024x128) ![k.val, 0, 0] S1x1024x128.size inb).toLoadRect g12
      = S.2.2 k := load_slice arg12.view hg12 k rfl inb
  have hm0 := hm 0 inb_S2x1024x1_S1x1024x1_0_0_0
  have hl0 := hl 0 inb_S2x1024x128_S1x1024x128_0_0_0
  have ha0 := ha 0 inb_S2x1024x128_S1x1024x128_0_0_0
  have hm1 := hm 1 inb_S2x1024x1_S1x1024x1_1_0_0
  have hl1 := hl 1 inb_S2x1024x128_S1x1024x128_1_0_0
  have ha1 := ha 1 inb_S2x1024x128_S1x1024x128_1_0_0
  sl_exec
  sl_step
  have hL (g : arg11.view.ty.Contents (Elt F)) (w : LA F) (hg : arg11.view.read (Elt F) g = join w) :
      arg11.view.read (Elt F) (arg11.view.writes (Elt F) g (part22_on.sl.H11_2 i q0 q1 x1 x2 S))
        = join (Function.update (Function.update w 0 (odL (qs q0 q1 0) (krows 1024 x1 (1024 * (i 2).val)) (S.1 0) (S.2.1 0))) 1
            (odL (qs q0 q1 1) (krows 1024 x1 (1024 * (i 2).val)) (S.1 1) (S.2.1 1))) :=
    read_put arg11.view (read_put arg11.view (L := []) hg 0 rfl rfl _ _ _ (heq_of_eq rfl)) 1 rfl rfl _ _ _ (heq_of_eq rfl)
  have hA (g : arg12.view.ty.Contents (Elt F)) (w : LA F) (hg : arg12.view.read (Elt F) g = join w) :
      arg12.view.read (Elt F) (arg12.view.writes (Elt F) g (part22_on.sl.H12_2 i q0 q1 x1 x2 S))
        = join (Function.update (Function.update w 0 (odA (qs q0 q1 0) (krows 1024 x1 (1024 * (i 2).val)) (krows 1024 x2 (1024 * (i 2).val)) (S.1 0) (S.2.2 0))) 1
            (odA (qs q0 q1 1) (krows 1024 x1 (1024 * (i 2).val)) (krows 1024 x2 (1024 * (i 2).val)) (S.1 1) (S.2.2 1))) :=
    read_put arg12.view (read_put arg12.view (L := []) hg 0 rfl rfl _ _ _ (heq_of_eq rfl)) 1 rfl rfl _ _ _ (heq_of_eq rfl)
  have e0 : part22_on.sl.v100 c i arg11 q0 q1 x1 x2 S = odL (qs q0 q1 0) (krows 1024 x1 (1024 * (i 2).val)) (S.1 0) (S.2.1 0) :=
    cov_slice arg11.view 0 (fun g w hg => ⟨_, hL g w hg, rfl⟩) rfl inb_S2x1024x128_S1x1024x128_0_0_0
  have e1 : part22_on.sl.v104 c i arg11 q0 q1 x1 x2 S = odL (qs q0 q1 1) (krows 1024 x1 (1024 * (i 2).val)) (S.1 1) (S.2.1 1) :=
    cov_slice arg11.view 1 (fun g w hg => ⟨_, hL g w hg, rfl⟩) rfl inb_S2x1024x128_S1x1024x128_1_0_0
  have e2 : part22_on.sl.v108 c i arg12 q0 q1 x1 x2 S = odA (qs q0 q1 0) (krows 1024 x1 (1024 * (i 2).val)) (krows 1024 x2 (1024 * (i 2).val)) (S.1 0) (S.2.2 0) :=
    cov_slice arg12.view 0 (fun g w hg => ⟨_, hA g w hg, rfl⟩) rfl inb_S2x1024x128_S1x1024x128_0_0_0
  have e3 : part22_on.sl.v112 c i arg12 q0 q1 x1 x2 S = odA (qs q0 q1 1) (krows 1024 x1 (1024 * (i 2).val)) (krows 1024 x2 (1024 * (i 2).val)) (S.1 1) (S.2.2 1) :=
    cov_slice arg12.view 1 (fun g w hg => ⟨_, hA g w hg, rfl⟩) rfl inb_S2x1024x128_S1x1024x128_1_0_0
  rw [e0, e1, e2, e3]
  isplitl [H5 H6 H7 H10 H11 H12]
  · isplitl [H5]; · iexact H5
    isplitl [H6]; · iexact H6
    isplitl [H7]
    · iexists _; isplitr; swap; · iexact H7
      ipureintro; exact hf7
    isplitl [H10]
    · iexists _; iexists _; isplitr; swap; · iexact H10
      ipureintro; rfl
    isplitl [H11]
    · iexists _; iexists _; isplitr; swap; · iexact H11
      ipureintro; rfl
    iexists _; iexists _; isplitr; swap; · iexact H12
    ipureintro; rfl
  ipureintro
  rfl

/-- What the two branches leave between them: the fixed stabiliser's end state, or the cleared scratch. -/
def mid : sProp 𝕄 :=
  if isLe b = 1#1 then heldF c arg5 arg6 arg11 arg12 x1 x2 (fixEnd b (qs q0 q1) x1 x2 (i 2).val).1 (fixEnd b (qs q0 q1) x1 x2 (i 2).val).2
  else heldF c arg5 arg6 arg11 arg12 x1 x2 zeroLA zeroLA

theorem part21 (E : Set ℕ) (arg2 : BitVec 32) (v1 : IVec S1x128 32) (v7 : FVec F S1024x128 .bf16) (c64 : BitVec 32) (v39 v40 : IVec S1x128 32)
    (hq : k0_pay137 v1 v7 c64 v39 v40 = q1) :
    iprop(owns (c : Thread nD τ) arg5 fullShare x1 ∗ owns (c : Thread nD τ) arg6 fullShare x2
        ∗ (∃ d, owns (c : Thread nD τ) arg11 fullShare d) ∗ (∃ d, owns (c : Thread nD τ) arg12 fullShare d))
      ⊢ wp frame (wpE (defs₀ (F := F)) Variants.nat c none) E
          (k0_part21 i arg3 harg3 arg4 harg4 arg5 harg5 arg6 harg6 arg7 harg7 arg8 harg8 arg9 harg9 arg10 harg10 arg11 harg11 arg12 harg12 arg2 b v1 v7 q0 c64 v39 v40)
          (fun r => iprop(mid c i arg5 arg6 arg11 arg12 b q0 q1 x1 x2 ∗ ⌜r = ⟨q1, isLe b⟩⌝)) := by
  unfold mid
  by_cases hb : isLe b = 1#1
  · rw [if_pos hb]
    exact part21_fix c i arg3 harg3 arg4 harg4 arg5 harg5 arg6 harg6 arg7 harg7 arg8 harg8 arg9 harg9 arg10 harg10 arg11 harg11 arg12 harg12 b q0 q1 x1 x2 E arg2 v1 v7 c64 v39 v40 hq hb
  · rw [if_neg hb]
    iintro ⟨H5, H6, H11, H12⟩
    iapply (wp_wand_r _ _ _)
    isplitl [H11 H12]
    · iapply (part21_on c i arg3 harg3 arg4 harg4 arg5 harg5 arg6 harg6 arg7 harg7 arg8 harg8 arg9 harg9 arg10 harg10 arg11 harg11 arg12 harg12 b q0 q1 E arg2 v1 v7 c64 v39 v40 hq hb)
      isplitl [H11]; · iexact H11
      iexact H12
    · iintro %r ⟨⟨H11, H12⟩, %hr⟩
      unfold heldF
      isplitl [H5 H6 H11 H12]
      · isplitl [H5]; · iexact H5
        isplitl [H6]; · iexact H6
        isplitl [H11]; · iexact H11
        iexact H12
      ipureintro; exact hr

theorem part22 (E : Set ℕ) (arg2 : BitVec 32) :
    iprop(mid c i arg5 arg6 arg11 arg12 b q0 q1 x1 x2 ∗ owns (c : Thread nD τ) arg7 fullShare xl ∗ (∃ d, owns (c : Thread nD τ) arg10 fullShare d))
      ⊢ wp frame (wpE (defs₀ (F := F)) Variants.nat c none) E
          (k0_part22 i arg3 harg3 arg4 harg4 arg5 harg5 arg6 harg6 arg7 harg7 arg8 harg8 arg9 harg9 arg10 harg10 arg11 harg11 arg12 harg12 arg2 q0 q1 (isLe b))
          (fun r => iprop((owns (c : Thread nD τ) arg5 fullShare x1 ∗ owns (c : Thread nD τ) arg6 fullShare x2
            ∗ owns (c : Thread nD τ) arg7 fullShare xl ∗ (∃ d, owns (c : Thread nD τ) arg10 fullShare d)
            ∗ (∃ d, owns (c : Thread nD τ) arg11 fullShare d) ∗ (∃ d, owns (c : Thread nD τ) arg12 fullShare d))
            ∗ ⌜r = ⟨k0_pay144 ((endLA b (qs q0 q1) x1 x2 (i 2).val).1 0) ((endLA b (qs q0 q1) x1 x2 (i 2).val).2 0),
                k0_pay145 xl ((endLA b (qs q0 q1) x1 x2 (i 2).val).1 1) ((endLA b (qs q0 q1) x1 x2 (i 2).val).2 1)⟩⌝)) := by
  unfold mid
  by_cases hb : isLe b = 1#1
  · rw [if_pos hb]
    exact part22_fix c i arg3 harg3 arg4 harg4 arg5 harg5 arg6 harg6 arg7 harg7 arg8 harg8 arg9 harg9 arg10 harg10 arg11 harg11 arg12 harg12 b q0 q1 x1 x2 xl E arg2 hb
  · rw [if_neg hb]
    unfold heldF
    iintro ⟨⟨H5, H6, H11, H12⟩, H7, H10⟩
    iapply (part22_on c i arg3 harg3 arg4 harg4 arg5 harg5 arg6 harg6 arg7 harg7 arg8 harg8 arg9 harg9 arg10 harg10 arg11 harg11 arg12 harg12 b q0 q1 x1 x2 xl E arg2 hb)
    isplitl [H5]; · iexact H5
    isplitl [H6]; · iexact H6
    isplitl [H7]; · iexact H7
    isplitl [H10]; · iexact H10
    isplitl [H11]; · iexact H11
    iexact H12

theorem part20 (E : Set ℕ) (xb : Vec F S1x1 .f32) (x0 : Vec F S1024x128 .bf16) :
    (iprop(owns (c : Thread nD τ) arg3 fullShare xb ∗ owns (c : Thread nD τ) arg4 fullShare x0) : sProp 𝕄)
      ⊢ wp frame (wpE (defs₀ (F := F)) Variants.nat c none) E (k0_part20 i arg3 harg3 arg4 harg4 arg5 harg5 arg6 harg6 arg7 harg7 arg8 harg8 arg9 harg9 arg10 harg10 arg11 harg11 arg12 harg12)
          (fun r => iprop((owns (c : Thread nD τ) arg3 fullShare xb ∗ owns (c : Thread nD τ) arg4 fullShare x0)
            ∗ ⌜r = ⟨BitVec.ofNat 32 (i 2).val, xb (ix2 0 0), iota .tc S1x128 32 [1] iota_S1x128_d1_w32, k0_pay133 x0, k0_pay134 x0, 64#32,
                k0_pay135, k0_pay136⟩⌝)) := by
  rw [k0_part20_eq_skeleton]; unfold k0_part20_skel
  unfold owns
  iintro ⟨⟨%f3, %hf3, H3⟩, ⟨%f4, %hf4, H4⟩⟩
  have h3 : View.readAt (Elt F) arg3.view (Rect.unit (s := S1x1) ![0, 0] S1x1.size inb_S1x1_S1x1_0_0).toLoadRect f3 = xb :=
    (readAt_all (s := S1x1) arg3.view f3 off00 _).trans hf3
  have h4 : View.readAt (Elt F) arg4.view (Rect.unit (s := S1024x128) ![0, 0] S1024x128.size inb_S1024x128_S1024x128_0_0).toLoadRect f4 = x0 :=
    (readAt_all (s := S1024x128) arg4.view f4 off00 _).trans hf4
  sl_exec
  sl_step
  isplitl [H3 H4]
  · isplitl [H3]
    · iexists _; isplitr; swap; · iexact H3
      ipureintro; exact hf3
    iexists _; isplitr; swap; · iexact H4
    ipureintro; exact hf4
  ipureintro
  have hr : part20.sl.r xb = xb (ix2 0 0) := by
    unfold part20.sl.r
    exact congrArg xb (funext fun a => Fin.ext (by fin_cases a <;> rfl))
  rw [hr]
  rfl

/-- What the body computes on a grid point of row block `n`. -/
def bodyOut (xb : Vec F S1x1 .f32) (x0 : Vec F S1024x128 .bf16) (x1 x2 : Vec F S8192x128 .bf16) (xl : Vec F S4x64 .f32) (xs : Vec F S1x128 .f32) (n : ℕ) :
    Vec F S1024x128 .bf16 :=
  k0_pay1 (k0_pay144 ((endLA (xb (ix2 0 0)) (qs (qOf x0 0) (qOf x0 1)) x1 x2 n).1 0) ((endLA (xb (ix2 0 0)) (qs (qOf x0 0) (qOf x0 1)) x1 x2 n).2 0))
    (k0_pay145 xl ((endLA (xb (ix2 0 0)) (qs (qOf x0 0) (qOf x0 1)) x1 x2 n).1 1) ((endLA (xb (ix2 0 0)) (qs (qOf x0 0) (qOf x0 1)) x1 x2 n).2 1)) xs

theorem bodyRun (xb : Vec F S1x1 .f32) (x0 : Vec F S1024x128 .bf16) (xs : Vec F S1x128 .f32) (E : Set ℕ) (Kt : PUnit → sProp 𝕄) :
    iprop(owns (c : Thread nD τ) arg3 fullShare xb ∗ owns (c : Thread nD τ) arg4 fullShare x0 ∗ owns (c : Thread nD τ) arg5 fullShare x1
        ∗ owns (c : Thread nD τ) arg6 fullShare x2 ∗ owns (c : Thread nD τ) arg7 fullShare xl ∗ owns (c : Thread nD τ) arg8 fullShare xs
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare xb ∗ owns (c : Thread nD τ) arg4 fullShare x0 ∗ owns (c : Thread nD τ) arg5 fullShare x1
            ∗ owns (c : Thread nD τ) arg6 fullShare x2 ∗ owns (c : Thread nD τ) arg7 fullShare xl ∗ owns (c : Thread nD τ) arg8 fullShare xs
            ∗ owns (c : Thread nD τ) arg9 fullShare (bodyOut xb x0 x1 x2 xl xs (i 2).val) ∗ (∃ d, owns (c : Thread nD τ) arg10 fullShare d)
            ∗ (∃ d, owns (c : Thread nD τ) arg11 fullShare d) ∗ (∃ d, owns (c : Thread nD τ) arg12 fullShare d)) -∗ Kt ⟨⟩))
      ⊢ wp frame (wpE (defs₀ (F := F)) Variants.nat c none) E
          (cc0_diff_attention i arg3 harg3 arg4 harg4 arg5 harg5 arg6 harg6 arg7 harg7 arg8 harg8 arg9 harg9 arg10 harg10 arg11 harg11 arg12 harg12) Kt := by
  simp only [cc0_diff_attention_eq_skeleton]; unfold cc0_diff_attention_skel
  iintro ⟨H3, H4, H5, H6, H7, H8, H9, H10, H11, H12, Hk⟩
  iapply (bind_run (part20 c i arg3 harg3 arg4 harg4 arg5 harg5 arg6 harg6 arg7 harg7 arg8 harg8 arg9 harg9 arg10 harg10 arg11 harg11 arg12 harg12 E xb x0) _ _)
  isplitl [H3 H4]
  · isplitl [H3]; · iexact H3
    iexact H4
  iintro %r ⟨⟨H3, H4⟩, %hr⟩
  subst hr
  iapply (bind_run (part21 c i arg3 harg3 arg4 harg4 arg5 harg5 arg6 harg6 arg7 harg7 arg8 harg8 arg9 harg9 arg10 harg10 arg11 harg11 arg12 harg12 (xb (ix2 0 0)) (qOf x0 0) (qOf x0 1) x1 x2 E _ _ _ _ _ _ rfl) _ _)
  isplitl [H5 H6 H11 H12]
  · isplitl [H5]; · iexact H5
    isplitl [H6]; · iexact H6
    isplitl [H11]; · iexact H11
    iexact H12
  iintro %r ⟨Hmid, %hr⟩
  subst hr
  iapply (bind_run (part22 c i arg3 harg3 arg4 harg4 arg5 harg5 arg6 harg6 arg7 harg7 arg8 harg8 arg9 harg9 arg10 harg10 arg11 harg11 arg12 harg12 (xb (ix2 0 0)) (qOf x0 0) (qOf x0 1) x1 x2 xl E _) _ _)
  isplitl [Hmid H7 H10]
  · isplitl [Hmid]; · iexact Hmid
    isplitl [H7]; · iexact H7
    iexact H10
  iintro %r ⟨⟨H5, H6, H7, H10, H11, H12⟩, %hr⟩
  subst hr
  dsimp only
  unfold owns
  icases H8 with ⟨%f8, %hf8, H8⟩
  icases H9 with ⟨%d9, %f9, -, H9⟩
  have h8 : View.readAt (Elt F) arg8.view (Rect.unit (s := S1x128) ![0, 0] S1x128.size inb_S1x128_S1x128_0_0).toLoadRect f8 = xs :=
    (readAt_all (s := S1x128) arg8.view f8 off00 _).trans hf8
  sl_exec
  sl_step
  iapply Hk
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact hf8
  isplitl [H9]
  · iexists _; isplitr; swap; · iexact H9
    ipureintro
    exact (read_all (s := S1024x128) arg9.view f9 off00 _ _ _).trans rfl
  isplitl [H10]; · iexact H10
  isplitl [H11]; · iexact H11
  iexact H12

end Parts

end Cert.Proof.DI

end
-- ==== Proof.DI.Run.lean ====
/-
  The launch: the pipeline's proof data (every input window at its block, the output's at what the body computes), the
  body's obligation from the body's run, the run of @main, and the frame.
-/
module

public import proofs.«01_k».proof.Proof.DI.Body
public import proofs.«01_k».proof.Proof.Gen.Kernel7Ideal.Launch
public import proofs.«01_k».proof.Proof.Gen.Kernel7Ideal.Points
public import Idealize.ShloMosaic.Lib.Pipeline.FrameBody
public import Idealize.ShloMosaic.Lib.Claim

@[expose] public section

set_option maxRecDepth 16384

noncomputable section

namespace Cert.Proof.DI

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- The TensorCore's buffers as the region finds them. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem main_prefix (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- The region finds an argument as launched. -/
theorem V_arg (c : Dev nD) (b : Ref sig .tc) (hb : b ∈ [main_arg0, main_arg1, main_arg2, main_arg3, main_arg4, main_arg5, main_arg6, main_arg7, main_arg8]) :
    V m c b = m ((c : Thread nD τ).loc b) := by
  refine StableHlo.after_of_forall_not_mem (b := Proc.devRef .tc b) _ _ (List.forall_iff_forall_mem.mp ?_)
  simp only [hostOps0, List.Forall, StableHlo.unary_writes, StableHlo.nary_writes, StableHlo.reshape_writes, Finset.mem_singleton]
  simp only [List.mem_cons, List.not_mem_nil, or_false] at hb
  rcases hb with rfl | rfl | rfl | rfl | rfl | rfl | rfl | rfl | rfl <;>
  · repeat' apply And.intro
    all_goals exact StableHlo.devRef_ne_of_ne (by decide)

/-- Window `w`'s block at point `t`. -/
def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output's staging buffer holds after point `t`. -/
def outAt (c : Dev nD) (t : Fin cfg0.N) : Vec F S1024x128 .bf16 :=
  bodyOut (blkAt m c 0 t) (blkAt m c 1 t) (blkAt m c 2 t) (blkAt m c 3 t) (blkAt m c 4 t) (blkAt m c 5 t) (grid0.coords t 2).val

/-! ## The proof data -/

def dats (_ : Fin 1) (c : Dev nD) : Dat τ (Elt F) Unit ℕ (UR sig nD τ) ℕ cfg0 c where
  A w := V m c (Pipeline.arrRef spec0 w)
  after w t := match w with
    | ⟨0, _⟩ => blkAt m c 0 t
    | ⟨1, _⟩ => blkAt m c 1 t
    | ⟨2, _⟩ => blkAt m c 2 t
    | ⟨3, _⟩ => blkAt m c 3 t
    | ⟨4, _⟩ => blkAt m c 4 t
    | ⟨5, _⟩ => blkAt m c 5 t
    | ⟨6, _⟩ => outAt m c t
  Φ _ := Pipeline.ΦA spec0 c
  q _ := fullShare
  owed _ := 0

theorem dats_A (c : Dev nD) (w : Fin cfg0.W) : (dats m 0 c).A w = V m c (Pipeline.arrRef spec0 w) := by unfold dats; rfl
theorem after_0 (c : Dev nD) (t : Fin cfg0.N) : (dats m 0 c).after 0 t = blkAt m c 0 t := by unfold dats; rfl
theorem after_1 (c : Dev nD) (t : Fin cfg0.N) : (dats m 0 c).after 1 t = blkAt m c 1 t := by unfold dats; rfl
theorem after_2 (c : Dev nD) (t : Fin cfg0.N) : (dats m 0 c).after 2 t = blkAt m c 2 t := by unfold dats; rfl
theorem after_3 (c : Dev nD) (t : Fin cfg0.N) : (dats m 0 c).after 3 t = blkAt m c 3 t := by unfold dats; rfl
theorem after_4 (c : Dev nD) (t : Fin cfg0.N) : (dats m 0 c).after 4 t = blkAt m c 4 t := by unfold dats; rfl
theorem after_5 (c : Dev nD) (t : Fin cfg0.N) : (dats m 0 c).after 5 t = blkAt m c 5 t := by unfold dats; rfl
theorem after_6 (c : Dev nD) (t : Fin cfg0.N) : (dats m 0 c).after 6 t = outAt m c t := by unfold dats; rfl

theorem before_0 (c : Dev nD) (t : Fin cfg0.N) (d) : (dats m 0 c).before 0 t d = blkAt m c 0 t :=
  ((dats m 0 c).before_in_eq_fetched 0 rfl (fun _ => rfl) (fun _ _ _ => rfl)
    (fun t => by rw [after_0]; unfold Dat.blockOf blkAt; rw [dats_A]; try rfl) t d).trans
    (by unfold Dat.fetched Dat.blockOf blkAt; rw [dats_A]; try rfl)
theorem before_1 (c : Dev nD) (t : Fin cfg0.N) (d) : (dats m 0 c).before 1 t d = blkAt m c 1 t :=
  ((dats m 0 c).before_in_eq_fetched 1 rfl (fun _ => rfl) (fun _ _ _ => rfl)
    (fun t => by rw [after_1]; unfold Dat.blockOf blkAt; rw [dats_A]; try rfl) t d).trans
    (by unfold Dat.fetched Dat.blockOf blkAt; rw [dats_A]; try rfl)
theorem before_2 (c : Dev nD) (t : Fin cfg0.N) (d) : (dats m 0 c).before 2 t d = blkAt m c 2 t :=
  ((dats m 0 c).before_in_eq_fetched 2 rfl (fun _ => rfl) (fun _ _ _ => rfl)
    (fun t => by rw [after_2]; unfold Dat.blockOf blkAt; rw [dats_A]; try rfl) t d).trans
    (by unfold Dat.fetched Dat.blockOf blkAt; rw [dats_A]; try rfl)
theorem before_3 (c : Dev nD) (t : Fin cfg0.N) (d) : (dats m 0 c).before 3 t d = blkAt m c 3 t :=
  ((dats m 0 c).before_in_eq_fetched 3 rfl (fun _ => rfl) (fun _ _ _ => rfl)
    (fun t => by rw [after_3]; unfold Dat.blockOf blkAt; rw [dats_A]; try rfl) t d).trans
    (by unfold Dat.fetched Dat.blockOf blkAt; rw [dats_A]; try rfl)
theorem before_4 (c : Dev nD) (t : Fin cfg0.N) (d) : (dats m 0 c).before 4 t d = blkAt m c 4 t :=
  ((dats m 0 c).before_in_eq_fetched 4 rfl (fun _ => rfl) (fun _ _ _ => rfl)
    (fun t => by rw [after_4]; unfold Dat.blockOf blkAt; rw [dats_A]; try rfl) t d).trans
    (by unfold Dat.fetched Dat.blockOf blkAt; rw [dats_A]; try rfl)
theorem before_5 (c : Dev nD) (t : Fin cfg0.N) (d) : (dats m 0 c).before 5 t d = blkAt m c 5 t :=
  ((dats m 0 c).before_in_eq_fetched 5 rfl (fun _ => rfl) (fun _ _ _ => rfl)
    (fun t => by rw [after_5]; unfold Dat.blockOf blkAt; rw [dats_A]; try rfl) t d).trans
    (by unfold Dat.fetched Dat.blockOf blkAt; rw [dats_A]; try rfl)

/-! ## The body's obligation -/

/-- The staging memrefs at point `t`. -/
abbrev st0 (t : Fin cfg0.N) : Memref sig .tc .smem S1x1 .f32 := win0_0.stage (cfg0.slots t 0)
abbrev st1 (t : Fin cfg0.N) : Memref sig .tc .vmem S1024x128 .bf16 := win0_1.stage (cfg0.slots t 1)
abbrev st2 (t : Fin cfg0.N) : Memref sig .tc .vmem S8192x128 .bf16 := win0_2.stage (cfg0.slots t 2)
abbrev st3 (t : Fin cfg0.N) : Memref sig .tc .vmem S8192x128 .bf16 := win0_3.stage (cfg0.slots t 3)
abbrev st4 (t : Fin cfg0.N) : Memref sig .tc .vmem S4x64 .f32 := win0_4.stage (cfg0.slots t 4)
abbrev st5 (t : Fin cfg0.N) : Memref sig .tc .vmem S1x128 .f32 := win0_5.stage (cfg0.slots t 5)
abbrev st6 (t : Fin cfg0.N) : Memref sig .tc .vmem S1024x128 .bf16 := win0_6.stage (cfg0.slots t 6)
/-- The scratch buffers. -/
abbrev sc0 : Memref sig .tc .vmem S2x1024x1 .f32 := Memref.whole cc0_scratch0
abbrev sc1 : Memref sig .tc .vmem S2x1024x128 .f32 := Memref.whole cc0_scratch1
abbrev sc2 : Memref sig .tc .vmem S2x1024x128 .f32 := Memref.whole cc0_scratch2

/-- The invariant, with the scratch buffers as memrefs owned at some contents. -/
theorem phi_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t))

theorem body_ok (c : Dev nD) (t : Fin cfg0.N) :
    pre m c t ⊢ wp frame (wpE (defs₀ (F := F)) Variants.nat c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, phi_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ _ _ (blkAt m c 2 t) (blkAt m c 3 t) (blkAt m c 4 t)
    (blkAt m c 0 t) (blkAt m c 1 t) (blkAt m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.nat () Set.univ := fun t => by
  rw [bigSep_W0, bigSep_W0, row_eq]
  exact triple_restated (body_ok m c t) rfl .rfl fun _ => .rfl

/-! ## The run and the frame -/

set_option backward.isDefEq.respectTransparency.types false in
/-- Every run of @main ends, the arrays at what the proof data compute and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (obligation m c).loose) (hshare := fun c w => (dats m 0 c).share_full (fun _ => rfl) w)
    (howed := fun _ _ => rfl) (V := V m) (hmain := main_prefix m Variants.nat) (hA := dats_A m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have hrest (b : Ref sig .tc) (hb : b ∈ [main_arg0, main_arg1, main_arg2, main_arg3, main_arg4, main_arg5, main_arg6, main_arg7, main_arg8])
      (h1 : b.isScoped = false) (h2 : ∀ w : Fin 7, (spec0 w).arr.view.ref ≠ b) (r) (h : Pipeline.FramePost cfgs (dats m) 0 (V m) r) (c : Dev nD) :
      r.2.mem ((c.tc : Thread nD τ).loc b) = m ((c.tc : Thread nD τ).loc b) :=
    ((h c).2 b (Pipeline.mem_restRefs_of b h1 h2)).trans (V_arg m c b hb)
  refine (θ_run defs _ _).mono (fun r h => ⟨fun c => ⟨?_, ?_, ?_, ?_, ?_, ?_, ?_, ?_, ?_⟩, h.2⟩) (run_quiet m ρ)
  all_goals exact hrest _ (by decide) (by decide) (by decide) r h.1 c

end Cert.Proof.DI

end
-- ==== Proof.DI.Same.lean ====
/-
  The attention program and its idealization differ by the name of one constant. With the name read back as the
  constant's bits they are one text, so the frame of the one is the frame of the other.
-/
module

public import proofs.«01_k».proof.Defs
public import proofs.«01_k».proof.Proof.Gen.Kernel7
public import proofs.«01_k».proof.Proof.DI.Run

@[expose] public section

noncomputable section

namespace Cert.Proof.DI

open Idealize.ShloMosaic Idealize.SL.Sem

/-- Every named constant is its bits. -/
@[reducible] def byBits : Named Bits where
  named _ _ {φ} bits := Scalar.ofBits φ bits

attribute [local instance] byBits

set_option maxHeartbeats 4000000 in
theorem bodies_same : Cert.Kernel7.defs₀ (F := Bits) = Cert.Kernel7Ideal.defs₀ (F := Bits) := by
  unfold Cert.Kernel7.defs₀ Cert.Kernel7Ideal.defs₀
  congr 1
  funext l a
  match l, a with
  | 0, (t, s) => rfl

set_option maxHeartbeats 2000000 in
theorem defs_same : Cert.Kernel7.defs (F := Bits) = Cert.Kernel7Ideal.defs (F := Bits) :=
  congrArg (Pipeline.defs (Cert.Kernel7.pcfgs (F := Bits))) bodies_same

set_option maxHeartbeats 4000000 in
theorem main_same : Cert.Kernel7.main (F := Bits) = Cert.Kernel7Ideal.main (F := Bits) := by
  funext c
  unfold Cert.Kernel7.main Cert.Kernel7Ideal.main
  rfl

/-- Equal programs have the same runs. -/
theorem run_same {nD : Nat} {τ : Topo} {sig : RefSig} {V : EltTy → Type} {Λ : Labels} {D D' : Defs nD τ sig V Λ}
    {M M' : Dev nD → Prog (TpuEff nD τ sig V Λ .tc) PUnit} (hD : D = D') (hM : M = M')
    {s : _} {Q : _ → Prop} (h : θ_run D' (onTc (τ := τ) M') s Q) : θ_run D (onTc (τ := τ) M) s Q := by
  subst hD hM
  exact h

set_option maxHeartbeats 2000000 in
theorem frame_kernel7 : Cert.quiescent_Kernel7 := fun m g _ => run_same defs_same main_same (frame (F := Bits) m g)

end Cert.Proof.DI

end
-- ==== Proof.DV.RefDef.lean ====
/-
  The reference's differential attention over the reals: its term read off operation by operation.
-/
module

public import proofs.«01_k».proof.Proof.Gen.Reference7Ideal.Run
public import Idealize.ShloMosaic.Lib.Pointwise
public import Idealize.ShloMosaic.Lib.WordCmp
public import Idealize.ShloMosaic.Lib.IdealHost

@[expose] public section

set_option maxRecDepth 16384

noncomputable section

namespace Cert.Proof.DV

open Cert.Reference7Ideal Cert.Reference7Ideal.Gen
open Idealize.ShloMosaic
open scoped BigOperators

/-- The chunk of each position. -/
def ckRef : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- The keys visible from each row. -/
def visRef : IVec S8192x8192 1 :=
  cmpi .sle (broadcastInDim S8192x8192 ![0, 1] bcast_S1x8192_S8192x8192_0_1 (broadcastInDim S1x8192 ![1] bcast_S8192_S1x8192_1 ckRef)) (broadcastInDim S8192x8192 ![0, 1] bcast_S8192x1_S8192x8192_0_1 (broadcastInDim S8192x1 ![0] bcast_S8192_S8192x1_0 ckRef))

variable (xq xk : FVec Ideal S2x8192x512 .f32) (xp : FVec Ideal S2x8192x3072 .f32) (a1 b1 a2 b2 : FVec Ideal S64 .f32) (xs : FVec Ideal S128 .f32)

/-- The scaled scores. -/
def dotRef : FVec Ideal S2x4x2x8192x8192 .f32 :=
  mulf (Host.dotGeneral dot_S2x4x2x8192x64_S2x4x2x8192x64_S2x4x2x8192x8192_4_4_3_3_012_012 none (shapeCast _ (transpose S2x8x8192x64 [0, 2, 1, 3] (shapeCast _ xq shapeCasts_S2x8192x512_S2x8192x8x64) transposes_S2x8192x8x64_S2x8x8192x64_0_2_1_3) shapeCasts_S2x8x8192x64_S2x4x2x8192x64) (shapeCast _ (transpose S2x8x8192x64 [0, 2, 1, 3] (shapeCast _ xk shapeCasts_S2x8192x512_S2x8192x8x64) transposes_S2x8192x8x64_S2x8x8192x64_0_2_1_3) shapeCasts_S2x8x8192x64_S2x4x2x8192x64)) (broadcastInDim S2x4x2x8192x8192 ![] bcast_S_S2x4x2x8192x8192 (constant S_ .f32 0x3E000000#32))

/-- The scores, the keys not visible at the bottom. -/
def scOf (V : IVec S8192x8192 1) (X : FVec Ideal S2x4x2x8192x8192 .f32) : FVec Ideal S2x4x2x8192x8192 .f32 :=
  select (broadcastInDim S2x4x2x8192x8192 ![3, 4] bcast_S8192x8192_S2x4x2x8192x8192_3_4 V) X (broadcastInDim S2x4x2x8192x8192 ![] bcast_S_S2x4x2x8192x8192 (id (constant S_ .f32 0xFF800000#32)))

/-- Each row's greatest score. -/
def mxOf (X : FVec Ideal S2x4x2x8192x8192 .f32) : FVec Ideal S2x4x2x8192 .f32 :=
  maximumf (broadcastInDim S2x4x2x8192 ![] bcast_S_S2x4x2x8192 (constant S_ .f32 0xFF800000#32)) (Host.reduce FloatOps.maximumf X (constant S_ .f32 0xFF800000#32) reducesTo_S2x4x2x8192x8192_S2x4x2x8192_d4 h_S_)

/-- The scores less their row's greatest, exponentiated. -/
def exOf (X : FVec Ideal S2x4x2x8192x8192 .f32) (M : FVec Ideal S2x4x2x8192 .f32) : FVec Ideal S2x4x2x8192x8192 .f32 :=
  Host.exp (subf X (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 M)))

/-- The two maps' weights. -/
def pOf (E : FVec Ideal S2x4x2x8192x8192 .f32) : FVec Ideal S2x4x2x8192x8192 .f32 :=
  Host.divf E (broadcastInDim S2x4x2x8192x8192 ![0, 1, 2, 3, 4] bcast_S2x4x2x8192x1_S2x4x2x8192x8192_0_1_2_3_4 (broadcastInDim S2x4x2x8192x1 ![0, 1, 2, 3] bcast_S2x4x2x8192_S2x4x2x8192x1_0_1_2_3 (Host.reduceAdd E (constant S_ .f32 0x00000000#32) reducesTo_S2x4x2x8192x8192_S2x4x2x8192_d4 h_S_)))

/-- The second map's learned weight. -/
def lamRef : FVec Ideal S_ .f32 :=
  addf (subf (Host.exp (Host.reduceAdd (mulf a1 b1) (constant S_ .f32 0x00000000#32) reducesTo_S64_S_d0 h_S_)) (Host.exp (Host.reduceAdd (mulf a2 b2) (constant S_ .f32 0x00000000#32) reducesTo_S64_S_d0 h_S_))) (constant S_ .f32 0x3E4CCCCD#32)

/-- The first map's weights less the second's. -/
def wOf (P : FVec Ideal S2x4x2x8192x8192 .f32) (L : FVec Ideal S_ .f32) : FVec Ideal S2x4x8192x8192 .f32 :=
  subf (shapeCast _ (extractStridedSlice S2x4x1x8192x8192 ![0, 0, 0, 0, 0] P slices_S2x4x2x8192x8192_S2x4x1x8192x8192_0_0_0_0_0) shapeCasts_S2x4x1x8192x8192_S2x4x8192x8192) (mulf (broadcastInDim S2x4x8192x8192 ![] bcast_S_S2x4x8192x8192 L) (shapeCast _ (extractStridedSlice S2x4x1x8192x8192 ![0, 0, 1, 0, 0] P slices_S2x4x2x8192x8192_S2x4x1x8192x8192_0_0_1_0_0) shapeCasts_S2x4x1x8192x8192_S2x4x8192x8192))

/-- The weighted values. -/
def yOf (W : FVec Ideal S2x4x8192x8192 .f32) : FVec Ideal S2x4x8192x128 .f32 :=
  Host.dotGeneral dot_S2x4x8192x8192_S2x4x8192x128_S2x4x8192x128_3_2_2_3_01_01 none W (transpose S2x4x8192x128 [0, 2, 1, 3] (shapeCast _ (extractStridedSlice S2x8192x512 ![0, 0, 2560] xp slices_S2x8192x3072_S2x8192x512_0_0_2560) shapeCasts_S2x8192x512_S2x8192x4x128) transposes_S2x8192x4x128_S2x4x8192x128_0_2_1_3)

/-- The weighted values, normalised. -/
def normOf (Y : FVec Ideal S2x4x8192x128 .f32) : FVec Ideal S16384x512 .bf16 :=
  truncf .bf16 (shapeCast _ (shapeCast _ (transpose S2x8192x4x128 [0, 2, 1, 3] (mulf (mulf (mulf Y (broadcastInDim S2x4x8192x128 ![0, 1, 2, 3] bcast_S2x4x8192x1_S2x4x8192x128_0_1_2_3 (Host.rsqrt (addf (Host.divf (broadcastInDim S2x4x8192x1 ![0, 1, 2] bcast_S2x4x8192_S2x4x8192x1_0_1_2 (Host.reduceAdd (mulf Y Y) (constant S_ .f32 0x00000000#32) reducesTo_S2x4x8192x128_S2x4x8192_d3 h_S_)) (broadcastInDim S2x4x8192x1 ![] bcast_S_S2x4x8192x1 (constant S_ .f32 0x43000000#32))) (broadcastInDim S2x4x8192x1 ![] bcast_S_S2x4x8192x1 (constant S_ .f32 0x358637BD#32)))))) (broadcastInDim S2x4x8192x128 ![0, 1, 2, 3] bcast_S1x1x1x128_S2x4x8192x128_0_1_2_3 (broadcastInDim S1x1x1x128 ![3] bcast_S128_S1x1x1x128_3 xs))) (broadcastInDim S2x4x8192x128 ![] bcast_S_S2x4x8192x128 (constant S_ .f32 0x3F4CCCCD#32))) transposes_S2x4x8192x128_S2x8192x4x128_0_2_1_3) shapeCasts_S2x8192x4x128_S2x8192x512) shapeCasts_S2x8192x512_S16384x512) bitsLt_bf16_f32

/-- The reference's scores. -/
abbrev scRef : FVec Ideal S2x4x2x8192x8192 .f32 := scOf visRef (dotRef xq xk)

/-- The reference's weights. -/
abbrev pRef : FVec Ideal S2x4x2x8192x8192 .f32 := pOf (exOf (scRef xq xk) (mxOf (scRef xq xk)))

/-- The reference's weighted values. -/
abbrev yRef : FVec Ideal S2x4x8192x128 .f32 := yOf xp (wOf (pRef xq xk) (lamRef a1 b1 a2 b2))

/-- The reference's result as a function of its arguments. -/
def refOut : FVec Ideal S16384x512 .bf16 := normOf xs (yRef xq xk xp a1 b1 a2 b2)

theorem refOut_eq (m : (ℓ : Loc nD τ sig) → Buf (Elt Ideal) ℓ) (c : Dev nD) :
    Cert.Reference7Ideal.Value.res_out0 m c = refOut (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.Proof.DV

end
-- ==== Proof.DV.Row.lean ====
/-
  One row of the differential attention taken key block by key block, over the reals: the lane sums and the accumulator hold
  the sums of the weights and of the weighted values over the keys seen, whatever the stabiliser.
-/
module

public import proofs.«01_k».proof.Proof.Val.Scalar
public import Mathlib.Algebra.BigOperators.Intervals

@[expose] public section

noncomputable section

namespace Cert.Proof.DV

open Finset Idealize.ShloMosaic Cert.Proof.Val
open scoped BigOperators

/-- A sum over the lanes of the sums over the lane groups is the sum over all positions. -/
theorem lane_sum (f : ℕ → ℝ) (G : ℕ) : ∑ x : Fin 128, ∑ g : Fin G, f (128 * g.val + x.val) = ∑ u ∈ range (128 * G), f u := by
  rw [Finset.sum_comm, Fin.sum_univ_eq_sum_range (fun g => ∑ x : Fin 128, f (128 * g + x.val)) G]
  induction G with
  | zero => simp
  | succ G ih =>
    rw [Finset.sum_range_succ, ih, Nat.mul_succ, Finset.sum_range_add, Fin.sum_univ_eq_sum_range (fun x => f (128 * G + x)) 128]

/-- A block's sum with the positions from `w` on cleared. -/
theorem cut_sum (f : ℕ → ℝ) (N w : ℕ) (h : w ≤ N) : ∑ u ∈ range N, (if u < w then f u else 0) = ∑ u ∈ range w, f u := by
  rw [← Finset.sum_filter]
  congr 1
  ext u; simp only [mem_filter, mem_range]; omega

variable (s : ℕ → ℝ) (v : ℕ → Fin 128 → ℝ)

/-- The lane sums and the accumulator after the keys before `T`, under the stabiliser `M`. -/
def St (M : ℝ) (T : ℕ) (l a : Fin 128 → EReal) : Prop :=
  ∃ lr ar : Fin 128 → ℝ, (∀ x, l x = ((lr x : ℝ) : EReal)) ∧ (∀ x, a x = ((ar x : ℝ) : EReal))
    ∧ ∑ x, lr x = ∑ t ∈ range T, (2 : ℝ) ^ (s t - M) ∧ ∀ x, ar x = ∑ t ∈ range T, (2 : ℝ) ^ (s t - M) * v t x

variable {s v}

theorem St.zero (M : ℝ) {l a : Fin 128 → EReal} (hl : ∀ x, l x = 0) (ha : ∀ x, a x = 0) : St s v M 0 l a :=
  ⟨fun _ => 0, fun _ => 0, fun x => by rw [hl]; rfl, fun x => by rw [ha]; rfl, by simp, fun x => by simp⟩

/-- A block of keys, of which the first `w` are visible, under a changed stabiliser. -/
theorem St.step {M0 M1 : ℝ} {B w N : ℕ} (G : ℕ) (hN : N = 128 * G) (hw : w ≤ N) {l a l' a' : Fin 128 → EReal} (h : St s v M0 B l a)
    (p : Fin N → EReal) (hp : ∀ u : Fin N, p u = (((if u.val < w then (2 : ℝ) ^ (s (B + u.val) - M1) else 0 : ℝ)) : EReal))
    (vv : Fin N → Fin 128 → EReal) (hv : ∀ u x, vv u x = ((v (B + u.val) x : ℝ) : EReal))
    (c : EReal) (hc : c = (((2 : ℝ) ^ (M0 - M1) : ℝ) : EReal))
    (hl : ∀ x : Fin 128, l' x = c * l x + ∑ g : Fin G, p ⟨128 * g.val + x.val, by have := g.isLt; have := x.isLt; omega⟩)
    (ha : ∀ x : Fin 128, a' x = c * a x + ∑ u : Fin N, p u * vv u x) : St s v M1 (B + w) l' a' := by
  obtain ⟨lr, ar, h1, h2, h3, h4⟩ := h
  have hs : ∀ t, (2 : ℝ) ^ (M0 - M1) * (2 : ℝ) ^ (s t - M0) = (2 : ℝ) ^ (s t - M1) := fun t => by
    rw [← Real.rpow_add (by norm_num)]; congr 1; ring
  refine ⟨fun x => (2 : ℝ) ^ (M0 - M1) * lr x + ∑ g : Fin G, (if 128 * g.val + x.val < w then (2 : ℝ) ^ (s (B + (128 * g.val + x.val)) - M1) else 0),
    fun x => (2 : ℝ) ^ (M0 - M1) * ar x + ∑ u : Fin N, (if u.val < w then (2 : ℝ) ^ (s (B + u.val) - M1) else 0) * v (B + u.val) x,
    fun x => ?_, fun x => ?_, ?_, fun x => ?_⟩
  · rw [hl, hc, h1]
    simp only [hp, coe_sum', ← EReal.coe_mul, ← EReal.coe_add]
  · rw [ha, hc, h2]
    simp only [hp, hv, ← EReal.coe_mul, coe_sum', ← EReal.coe_add]
  · rw [Finset.sum_add_distrib, ← Finset.mul_sum, h3, lane_sum (fun u => if u < w then (2 : ℝ) ^ (s (B + u) - M1) else 0) G,
      cut_sum (fun u => (2 : ℝ) ^ (s (B + u) - M1)) _ w (hN ▸ hw), Finset.sum_range_add, Finset.mul_sum]
    simp only [hs]
  · dsimp only
    rw [h4, Fin.sum_univ_eq_sum_range (fun u => (if u < w then (2 : ℝ) ^ (s (B + u) - M1) else 0) * v (B + u) x) N]
    simp only [ite_mul, zero_mul]
    rw [cut_sum (fun u => (2 : ℝ) ^ (s (B + u) - M1) * v (B + u) x) _ w hw, Finset.sum_range_add, Finset.mul_sum]
    simp only [← mul_assoc, hs]

/-- The keys of a block's scores: the visible ones real, the others at the bottom. -/
theorem exp2_mask (P : Prop) [Decidable P] (x M : ℝ) :
    Ideal.exp2 ((if P then ((x : ℝ) : EReal) else ⊥) - (M : EReal)) = (((if P then (2 : ℝ) ^ (x - M) else 0 : ℝ)) : EReal) := by
  by_cases h : P
  · rw [if_pos h, if_pos h, ← EReal.coe_sub, coe_exp2]
  · rw [if_neg h, if_neg h, EReal.bot_sub]; rfl

/-- The greatest of a block's scores is a real number. -/
theorem max_real {ι : Type} [Fintype ι] (f : ι → EReal) (x : EReal) (hx : x = ⊥ ∨ ∃ r : ℝ, x = r) (hf : ∀ i, f i = ⊥ ∨ ∃ r : ℝ, f i = r)
    (i : ι) (hi : ∃ r : ℝ, f i = r) : ∃ M : ℝ, max x (Finset.univ.fold max ⊥ f) = M := by
  have hlt : max x (Finset.univ.fold max ⊥ f) < ⊤ := by
    refine max_lt ?_ ((Finset.fold_max_lt _).2 ⟨bot_lt_top, fun i _ => ?_⟩)
    · rcases hx with h | ⟨r, h⟩ <;> rw [h]
      · exact bot_lt_top
      · exact EReal.coe_lt_top r
    · rcases hf i with h | ⟨r, h⟩ <;> rw [h]
      · exact bot_lt_top
      · exact EReal.coe_lt_top r
  have hgt : ⊥ < max x (Finset.univ.fold max ⊥ f) := by
    obtain ⟨r, hr⟩ := hi
    refine lt_max_of_lt_right ((Finset.lt_fold_max _).2 (Or.inr ⟨i, Finset.mem_univ _, ?_⟩))
    rw [hr]; exact EReal.bot_lt_coe r
  exact ⟨_, (EReal.coe_toReal hlt.ne hgt.ne').symm⟩

variable (s v) in
/-- The state under the running stabiliser: none yet, or a real one. -/
def StO (m : EReal) (T : ℕ) (l a : Fin 128 → EReal) : Prop :=
  (∃ M : ℝ, m = (M : EReal) ∧ St s v M T l a) ∨ (m = ⊥ ∧ T = 0 ∧ (∀ x, l x = 0) ∧ ∀ x, a x = 0)

/-- A block of keys under the running stabiliser. -/
theorem StO.step {m m' : EReal} {B w N : ℕ} (G : ℕ) (hN : N = 128 * G) (hw0 : 0 < w) (hw : w ≤ N) {l a l' a' : Fin 128 → EReal} (h : StO s v m B l a)
    (sc : Fin N → EReal) (hsc : ∀ u : Fin N, sc u = if u.val < w then ((s (B + u.val) : ℝ) : EReal) else ⊥)
    (hm : m' = max m (Finset.univ.fold max ⊥ sc))
    (vv : Fin N → Fin 128 → EReal) (hv : ∀ u x, vv u x = ((v (B + u.val) x : ℝ) : EReal))
    (hl : ∀ x : Fin 128, l' x = Ideal.exp2 (m - m') * l x
      + ∑ g : Fin G, Ideal.exp2 (sc ⟨128 * g.val + x.val, by have := g.isLt; have := x.isLt; omega⟩ - m'))
    (ha : ∀ x : Fin 128, a' x = Ideal.exp2 (m - m') * a x + ∑ u : Fin N, Ideal.exp2 (sc u - m') * vv u x) :
    ∃ M : ℝ, m' = (M : EReal) ∧ St s v M (B + w) l' a' := by
  obtain ⟨M1, hM1⟩ : ∃ M1 : ℝ, m' = M1 := by
    rw [hm]
    refine max_real sc m ?_ (fun i => ?_) ⟨0, by omega⟩ ⟨s (B + 0), ?_⟩
    · rcases h with ⟨M, h, -⟩ | ⟨h, -⟩
      · exact Or.inr ⟨M, h⟩
      · exact Or.inl h
    · rw [hsc]; split
      · exact Or.inr ⟨_, rfl⟩
      · exact Or.inl rfl
    · rw [hsc, if_pos hw0]
  refine ⟨M1, hM1, ?_⟩
  have hp : ∀ u : Fin N, Ideal.exp2 (sc u - m') = (((if u.val < w then (2 : ℝ) ^ (s (B + u.val) - M1) else 0 : ℝ)) : EReal) := fun u => by
    rw [hsc, hM1, exp2_mask]
  rcases h with ⟨M0, h0, h⟩ | ⟨h0, rfl, hl0, ha0⟩
  · exact h.step G hN hw (fun u => Ideal.exp2 (sc u - m')) hp vv hv _ (by rw [h0, hM1, ← EReal.coe_sub, coe_exp2]) hl ha
  · refine (St.zero M1 hl0 ha0).step G hN hw (fun u => Ideal.exp2 (sc u - m')) hp vv hv 1 (by simp) (fun x => ?_) fun x => ?_
    · rw [hl, hl0, mul_zero, mul_zero]
    · rw [ha, ha0, mul_zero, mul_zero]

/-- The softmax weight of key `t` among the first `T`. -/
def sm (z : ℕ → ℝ) (T t : ℕ) : ℝ := Real.exp (z t) / ∑ u ∈ range T, Real.exp (z u)

theorem sum_exp_pos (z : ℕ → ℝ) {T : ℕ} (hT : 0 < T) : 0 < ∑ u ∈ range T, Real.exp (z u) :=
  Finset.sum_pos (fun _ _ => Real.exp_pos _) ⟨0, Finset.mem_range.2 hT⟩

theorem div_coe (a b : ℝ) (hb : b ≠ 0) : Ideal.div (a : EReal) (b : EReal) = ((a / b : ℝ) : EReal) := by
  have h : (b : EReal) ≠ 0 := by exact_mod_cast hb
  unfold Ideal.div
  rw [if_neg h, div_eq_mul_inv, EReal.coe_mul, EReal.coe_inv]

/-- The accumulator over the lanes' sum is the softmax-weighted sum of the values, whatever the stabiliser. -/
theorem St.ratio {M : ℝ} {T : ℕ} (hT : 0 < T) {l a : Fin 128 → EReal} {z : ℕ → ℝ} (h : St (fun t => z t * (Real.log 2)⁻¹) v M T l a) (x : Fin 128) :
    Ideal.div (a x) (∑ y, l y) = ((∑ t ∈ range T, sm z T t * v t x : ℝ) : EReal) := by
  obtain ⟨lr, ar, h1, h2, h3, h4⟩ := h
  have he : ∀ t, (2 : ℝ) ^ (z t * (Real.log 2)⁻¹ - M) = Real.exp (z t) * (2 : ℝ) ^ (-M) := fun t => by
    rw [sub_eq_add_neg, Real.rpow_add (by norm_num), pow_eq]
  have hp : (2 : ℝ) ^ (-M) ≠ 0 := (Real.rpow_pos_of_pos (by norm_num) _).ne'
  have hz := (sum_exp_pos z hT).ne'
  simp only [h1, h2, coe_sum']
  rw [h3, h4]
  simp only [he]
  rw [← Finset.sum_mul, div_coe _ _ (mul_ne_zero hz hp)]
  congr 1
  unfold sm
  rw [div_eq_iff (mul_ne_zero hz hp), Finset.sum_mul]
  refine Finset.sum_congr rfl fun t _ => ?_
  field_simp

/-- The reference's softmax over all keys, those from `T` on masked. -/
theorem ref_softmax {N T : ℕ} (hT : 0 < T) (hTN : T ≤ N) (z : ℕ → ℝ) (sc : Fin N → EReal)
    (hsc : ∀ u : Fin N, sc u = if u.val < T then ((z u.val : ℝ) : EReal) else ⊥) (mx : EReal) (hmx : mx = max ⊥ (Finset.univ.fold max ⊥ sc)) (t : Fin N) :
    Ideal.div (Ideal.exp (sc t - mx)) (∑ u, Ideal.exp (sc u - mx)) = (((if t.val < T then sm z T t.val else 0 : ℝ)) : EReal) := by
  obtain ⟨M, hM⟩ : ∃ M : ℝ, mx = M := by
    rw [hmx]
    refine max_real sc ⊥ (Or.inl rfl) (fun i => ?_) ⟨0, by omega⟩ ⟨z 0, ?_⟩
    · rw [hsc]; split
      · exact Or.inr ⟨_, rfl⟩
      · exact Or.inl rfl
    · rw [hsc, if_pos hT]
  have he : ∀ u : Fin N, Ideal.exp (sc u - mx) = (((if u.val < T then Real.exp (z u.val) * Real.exp (-M) else 0 : ℝ)) : EReal) := fun u => by
    rw [hsc, hM]
    split
    · rw [← EReal.coe_sub, Ideal.exp_coe, sub_eq_add_neg, Real.exp_add]
    · rw [EReal.bot_sub]; rfl
  have hz := (sum_exp_pos z hT).ne'
  have hs : ∑ u : Fin N, (if u.val < T then Real.exp (z u.val) * Real.exp (-M) else 0) = (∑ u ∈ range T, Real.exp (z u)) * Real.exp (-M) := by
    rw [Fin.sum_univ_eq_sum_range (fun u => if u < T then Real.exp (z u) * Real.exp (-M) else 0) N,
      cut_sum (fun u => Real.exp (z u) * Real.exp (-M)) N T hTN, Finset.sum_mul]
  simp only [he, coe_sum']
  rw [hs, div_coe _ _ (mul_ne_zero hz (Real.exp_ne_zero _))]
  congr 1
  split
  · unfold sm
    rw [mul_div_mul_right _ _ (Real.exp_ne_zero _)]
  · exact zero_div _

/-- The two maps' difference, weighted over all keys, is the difference of the two maps' weighted sums. -/
theorem diff_sum {N T : ℕ} (hTN : T ≤ N) (f0 f1 g : ℕ → ℝ) (lam : ℝ) :
    ∑ t : Fin N, ((if t.val < T then f0 t.val else 0) - lam * (if t.val < T then f1 t.val else 0)) * g t.val
      = ∑ t ∈ range T, f0 t * g t - lam * ∑ t ∈ range T, f1 t * g t := by
  rw [Fin.sum_univ_eq_sum_range (fun t => ((if t < T then f0 t else 0) - lam * (if t < T then f1 t else 0)) * g t) N,
    Finset.mul_sum, ← Finset.sum_sub_distrib, ← cut_sum (fun t => f0 t * g t - lam * (f1 t * g t)) N T hTN]
  refine Finset.sum_congr rfl fun t _ => ?_
  split <;> ring

end Cert.Proof.DV

end
-- ==== Proof.DV.Pay.lean ====
/-
  The body's payloads over the reals: each block's scores, weights, lane sums and accumulators read at an index.
-/
module

public import proofs.«01_k».proof.Proof.DI.Body
public import proofs.«01_k».proof.Proof.DV.Row
public import proofs.«01_k».proof.Proof.Val.Body
public import Idealize.ShloMosaic.Lib.Pointwise
public import Idealize.ShloMosaic.Lib.WordCmp

@[expose] public section

set_option maxRecDepth 16384

noncomputable section

namespace Cert.Proof.DV

open Cert.Kernel7Ideal Cert.Kernel7Ideal.Gen
open Idealize.ShloMosaic
open Cert.Proof.Val (IsR coe_sum' coe_exp2)
open scoped BigOperators

theorem eight (f : Fin 1024 → EReal) (x : Fin 128) :
    ∑ g : Fin 8, f ⟨128 * g.val + x.val, by have := g.isLt; have := x.isLt; omega⟩
      = f ⟨x.val, by omega⟩ + f ⟨128 + x.val, by omega⟩ + f ⟨256 + x.val, by omega⟩ + f ⟨384 + x.val, by omega⟩ + f ⟨512 + x.val, by omega⟩
        + f ⟨640 + x.val, by omega⟩ + f ⟨768 + x.val, by omega⟩ + f ⟨896 + x.val, by omega⟩ := by
  have h : (⟨128 * (0 : Fin 8).val + x.val, by have := x.isLt; simp; omega⟩ : Fin 1024) = ⟨x.val, by omega⟩ := Fin.ext (by simp)
  rw [Fin.sum_univ_eight, h]
  rfl

theorem four (f : Fin 512 → EReal) (x : Fin 128) :
    ∑ g : Fin 4, f ⟨128 * g.val + x.val, by have := g.isLt; have := x.isLt; omega⟩
      = f ⟨x.val, by omega⟩ + f ⟨128 + x.val, by omega⟩ + f ⟨256 + x.val, by omega⟩ + f ⟨384 + x.val, by omega⟩ := by
  have h : (⟨128 * (0 : Fin 4).val + x.val, by have := x.isLt; simp; omega⟩ : Fin 512) = ⟨x.val, by omega⟩ := Fin.ext (by simp)
  rw [Fin.sum_univ_four, h]
  rfl

/-- A position's chunk as the body computes it, a floor division by 64. -/
theorem chunk (n : Fin 1024) :
    Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) = BitVec.ofNat 32 (n.val / 64) := by
  revert n
  decide +kernel

theorem addi_zero (w : BitVec 32) : IntOp.addi 0#32 w = w := BitVec.zero_add w

theorem addi_512 (n : ℕ) : IntOp.addi 512#32 (BitVec.ofNat 32 n) = BitVec.ofNat 32 (512 + n) := (BitVec.ofNat_add 512 n).symm

/-- A key is visible when its chunk is not after the row's. -/
theorem vis {α : Type} (a b : ℕ) (ha : a < 1024) (hb : b < 1024) (x y : α) :
    Scalar.select (IntOp.cmpi CmpIPredicate.sle (BitVec.ofNat 32 (a / 64)) (BitVec.ofNat 32 (b / 64))) x y = if a / 64 ≤ b / 64 then x else y := by
  rw [WordCmp.cmpi_sle_ofNat (by omega) (by omega)]
  unfold Scalar.select
  by_cases h : a / 64 ≤ b / 64 <;> simp [h]

theorem bits_bot : (Ideal.ofBits .f32 0xFF800000#32 : EReal) = ⊥ := by simp [Ideal.ofBits, Ideal.ieee]

section Fix

variable {q : FVec Ideal S1024x128 .bf16} {kk vv : Vec Ideal S1024x128 .bf16} {b : Ideal .f32} {l a : Vec Ideal S1x1024x128 .f32}
  {k5 v5 : Vec Ideal S512x128 .bf16} {l5 a5 : Vec Ideal S1x512x128 .f32} {m : Vec Ideal S1x1024x1 .f32}

theorem fixP_apply (r j : Fin 1024) : k0_pay4 b q kk (ix2 r j) = Ideal.exp2 ((∑ d : Fin 128, q (ix2 r d) * kk (ix2 j d)) - b) := by
  pointwise [k0_pay4, k0_pay2]
  rfl

theorem fixL_apply (r : Fin 1024) (x : Fin 128) :
    DI.fixL b q kk l (ix3 0 r x) = l (ix3 0 r x)
      + ∑ g : Fin 8, k0_pay4 b q kk (ix2 r ⟨128 * g.val + x.val, by have := g.isLt; have := x.isLt; omega⟩) := by
  rw [eight fun u => k0_pay4 b q kk (ix2 r u)]
  unfold DI.fixL
  pointwise [k0_pay5]

theorem fixA_apply (r : Fin 1024) (x : Fin 128) :
    DI.fixA b q kk vv a (ix3 0 r x) = a (ix3 0 r x) + ∑ u : Fin 1024, k0_pay4 b q kk (ix2 r u) * vv (ix2 u x) := by
  unfold DI.fixA
  pointwise [k0_pay12, k0_pay6, k0_pay3]

abbrev dgP (b : Ideal .f32) (q : FVec Ideal S1024x128 .bf16) (k5 : Vec Ideal S512x128 .bf16) : FVec Ideal S1024x512 .f32 :=
  k0_pay29 b (k0_pay22 q k5) k0_pay23 k0_pay25 k0_pay26 k0_pay27 k0_pay28

theorem dgP_apply (r : Fin 1024) (j : Fin 512) : dgP b q k5 (ix2 r j)
    = Ideal.exp2 ((if j.val / 64 ≤ r.val / 64 then ∑ d : Fin 128, q (ix2 r d) * k5 (ix2 j d) else ⊥) - b) := by
  unfold dgP
  have hr := chunk r
  have hj := chunk ⟨j.val, by omega⟩
  dsimp only at hj
  have hv (x y : EReal) := vis j.val r.val (by omega) r.isLt x y
  pointwise [k0_pay29, k0_pay22, k0_pay20, k0_pay23, k0_pay24, k0_pay25, k0_pay26, k0_pay27, k0_pay28]
  rw [addi_zero, addi_zero, hr, hj, hv, bits_bot]
  rfl

theorem dhP_apply (r : Fin 512) (j : Fin 512) : k0_pay49 b (k0_pay44 q k5) k0_pay45 k0_pay46 64#32 k0_pay47 k0_pay48 (ix2 r j)
    = Ideal.exp2 ((if j.val / 64 ≤ r.val / 64 then ∑ d : Fin 128, q (ix2 ⟨512 + r.val, by omega⟩ d) * k5 (ix2 j d) else ⊥) - b) := by
  have hr := chunk ⟨512 + r.val, by omega⟩
  have hj := chunk ⟨512 + j.val, by omega⟩
  dsimp only at hr hj
  have hv (x y : EReal) := vis (512 + j.val) (512 + r.val) (by omega) (by omega) x y
  have hd : (512 + j.val) / 64 ≤ (512 + r.val) / 64 ↔ j.val / 64 ≤ r.val / 64 := by omega
  pointwise [k0_pay49, k0_pay44, k0_pay42, k0_pay45, k0_pay46, k0_pay47, k0_pay48]
  rw [addi_512, addi_512, hr, hj, hv, bits_bot]
  simp only [hd]
  rfl

theorem odSc_apply (r j : Fin 1024) : k0_pay113 (k0_pay108 q kk) k0_pay109 k0_pay110 64#32 k0_pay111 k0_pay112 (Scalar.extui (Scalar.cmpi .sgt 64#32 0#32)) (Scalar.extui (Scalar.cmpi .slt 64#32 0#32)) (ix2 r j)
    = (if j.val / 64 ≤ r.val / 64 then ∑ d : Fin 128, q (ix2 r d) * kk (ix2 j d) else ⊥ : EReal) := by
  have hr := chunk r
  have hj := chunk j
  have hv (x y : EReal) := vis j.val r.val j.isLt r.isLt x y
  pointwise [k0_pay113, k0_pay108, k0_pay106, k0_pay109, k0_pay110, k0_pay111, k0_pay112]
  rw [addi_zero, addi_zero, hr, hj, hv, bits_bot]

theorem onM_apply (r : Fin 1024) (o : Fin 1) : DI.onM q kk m (ix3 0 r o)
    = max (m (ix3 0 r 0)) (Finset.univ.fold max ⊥ fun j : Fin 1024 => ∑ d : Fin 128, q (ix2 r d) * kk (ix2 j d)) := by
  unfold DI.onM
  pointwise [k0_pay72, k0_pay67, k0_pay65, k0_pay66, k0_pay63]
  rw [bits_bot]

theorem dgL_apply (r : Fin 1024) (x : Fin 128) :
    DI.dgL b q k5 l (ix3 0 r x) = l (ix3 0 r x)
      + ∑ g : Fin 4, dgP b q k5 (ix2 r ⟨128 * g.val + x.val, by have := g.isLt; have := x.isLt; omega⟩) := by
  rw [four fun u => dgP b q k5 (ix2 r u)]
  unfold DI.dgL
  pointwise [k0_pay31, k0_pay30]

theorem dgA_apply (r : Fin 1024) (x : Fin 128) :
    DI.dgA b q k5 v5 a (ix3 0 r x) = a (ix3 0 r x) + ∑ u : Fin 512, dgP b q k5 (ix2 r u) * v5 (ix2 u x) := by
  unfold DI.dgA
  pointwise [k0_pay32, k0_pay21]

abbrev dhP (b : Ideal .f32) (q : FVec Ideal S1024x128 .bf16) (k5 : Vec Ideal S512x128 .bf16) : FVec Ideal S512x512 .f32 :=
  k0_pay49 b (k0_pay44 q k5) k0_pay45 k0_pay46 64#32 k0_pay47 k0_pay48

theorem dhL_apply (r : Fin 512) (x : Fin 128) :
    DI.dhL b q k5 l5 (ix3 0 r x) = l5 (ix3 0 r x)
      + ∑ g : Fin 4, dhP b q k5 (ix2 r ⟨128 * g.val + x.val, by have := g.isLt; have := x.isLt; omega⟩) := by
  rw [four fun u => dhP b q k5 (ix2 r u)]
  unfold DI.dhL
  pointwise [k0_pay52, k0_pay51, k0_pay50]

theorem dhA_apply (r : Fin 512) (x : Fin 128) :
    DI.dhA b q k5 v5 a5 (ix3 0 r x) = a5 (ix3 0 r x) + ∑ u : Fin 512, dhP b q k5 (ix2 r u) * v5 (ix2 u x) := by
  unfold DI.dhA
  pointwise [k0_pay53, k0_pay43]

theorem onP_apply (r j : Fin 1024) : k0_pay68 q kk m (ix2 r j)
    = Ideal.exp2 ((∑ d : Fin 128, q (ix2 r d) * kk (ix2 j d)) - DI.onM q kk m (ix3 0 r 0)) := by
  have h : k0_pay67 q kk m (ix2 r 0) = DI.onM q kk m (ix3 0 r 0) := by unfold DI.onM; pointwise [k0_pay72]
  rw [← h]
  pointwise [k0_pay68, k0_pay65, k0_pay63]
  rfl

theorem onC_apply (r : Fin 1024) (o : Fin 1) : k0_pay69 q kk m (ix2 r o)
    = Ideal.exp2 (m (ix3 0 r 0) - DI.onM q kk m (ix3 0 r 0)) := by
  have h : k0_pay67 q kk m (ix2 r 0) = DI.onM q kk m (ix3 0 r 0) := by unfold DI.onM; pointwise [k0_pay72]
  rw [← h]
  have ho : o = 0 := Subsingleton.elim _ _
  subst ho
  pointwise [k0_pay69, k0_pay66]
  rfl

theorem onL_apply (r : Fin 1024) (x : Fin 128) :
    DI.onL q kk m l (ix3 0 r x) = k0_pay69 q kk m (ix2 r 0) * l (ix3 0 r x)
      + ∑ g : Fin 8, k0_pay68 q kk m (ix2 r ⟨128 * g.val + x.val, by have := g.isLt; have := x.isLt; omega⟩) := by
  rw [eight fun u => k0_pay68 q kk m (ix2 r u)]
  unfold DI.onL
  pointwise [k0_pay70]

theorem onA_apply (r : Fin 1024) (x : Fin 128) :
    DI.onA q kk vv m a (ix3 0 r x) = k0_pay69 q kk m (ix2 r 0) * a (ix3 0 r x)
      + ∑ u : Fin 1024, k0_pay68 q kk m (ix2 r u) * vv (ix2 u x) := by
  unfold DI.onA
  pointwise [k0_pay71, k0_pay64]

/-- The diagonal block's scores, the keys not visible at the bottom. -/
abbrev odSc (q : FVec Ideal S1024x128 .bf16) (kk : Vec Ideal S1024x128 .bf16) : FVec Ideal S1024x1024 .f32 :=
  k0_pay113 (k0_pay108 q kk) k0_pay109 k0_pay110 64#32 k0_pay111 k0_pay112 (Scalar.extui (Scalar.cmpi .sgt 64#32 0#32)) (Scalar.extui (Scalar.cmpi .slt 64#32 0#32))

theorem odV_apply (r : Fin 1024) (o : Fin 1) : DI.odV q kk m (ix2 r o)
    = max (m (ix3 0 r 0)) (Finset.univ.fold max ⊥ fun j : Fin 1024 => odSc q kk (ix2 r j)) := by
  unfold DI.odV
  pointwise [k0_pay115, k0_pay114]
  rw [bits_bot]

theorem odS_apply (r j : Fin 1024) : DI.odS q kk m (ix2 r j) = Ideal.exp2 (odSc q kk (ix2 r j) - DI.odV q kk m (ix2 r 0)) := by
  unfold DI.odS DI.odV
  pointwise [k0_pay116]
  rfl

theorem odC_apply (r : Fin 1024) (o : Fin 1) (w : FVec Ideal S1024x1 .f32) :
    k0_pay117 (k0_pay114 m) w (ix2 r o) = Ideal.exp2 (m (ix3 0 r 0) - w (ix2 r 0)) := by
  have ho : o = 0 := Subsingleton.elim _ _
  subst ho
  pointwise [k0_pay117, k0_pay114]
  rfl

theorem odL_apply (r : Fin 1024) (x : Fin 128) :
    DI.odL q kk m l (ix3 0 r x) = Ideal.exp2 (m (ix3 0 r 0) - DI.odV q kk m (ix2 r 0)) * l (ix3 0 r x)
      + ∑ g : Fin 8, DI.odS q kk m (ix2 r ⟨128 * g.val + x.val, by have := g.isLt; have := x.isLt; omega⟩) := by
  rw [eight fun u => DI.odS q kk m (ix2 r u), ← odC_apply r 0]
  unfold DI.odL
  pointwise [k0_pay118]

theorem odA_apply (r : Fin 1024) (x : Fin 128) :
    DI.odA q kk vv m a (ix3 0 r x) = Ideal.exp2 (m (ix3 0 r 0) - DI.odV q kk m (ix2 r 0)) * a (ix3 0 r x)
      + ∑ u : Fin 1024, DI.odS q kk m (ix2 r u) * vv (ix2 u x) := by
  rw [← odC_apply r 0]
  unfold DI.odA
  pointwise [k0_pay119, k0_pay107]

theorem zeroLA_apply (k : Fin 2) (r : Fin 1024) (x : Fin 128) : DI.zeroLA (F := Ideal) k (ix3 0 r x) = 0 := by
  have h : k0_pay138 (F := Ideal) (ix3 k r x) = 0 := by
    pointwise [k0_pay138]
  exact h

theorem negM_apply (k : Fin 2) (r : Fin 1024) : DI.negM (F := Ideal) k (ix3 0 r 0) = (⊥ : EReal) := by
  have h : k0_pay99 (F := Ideal) (ix3 k r 0) = (⊥ : EReal) := by
    pointwise [k0_pay99]
    exact bits_bot
  exact h

end Fix

section Query

variable {x0 : Vec Ideal S1024x128 .bf16} {f0 : Fin 1024 → Fin 128 → ℝ}

/-- A map's queries: its lanes scaled, the other map's cleared. -/
def qR (f0 : Fin 1024 → Fin 128 → ℝ) (k : Fin 2) (r : Fin 1024) (d : Fin 128) : ℝ :=
  if d.val / 64 = k.val then f0 r d * (1 / 8 * (Real.log 2)⁻¹) else 0

theorem scaled_isR (h : IsR x0 f0) : IsR (k0_pay133 x0) (fun r d => f0 r d * (1 / 8 * (Real.log 2)⁻¹)) := by
  intro r d
  have e : k0_pay133 x0 (ix2 r d) = x0 (ix2 r d) * (((1 / 8) * (Real.log 2)⁻¹ : ℝ) : EReal) := by
    pointwise [k0_pay133]
    rfl
  rw [e, h, ← EReal.coe_mul]

theorem qOf_isR (h : IsR x0 f0) (k : Fin 2) : IsR (DI.qOf x0 k) (qR f0 k) := by
  intro r d
  have hd : d.val / 64 < 2 := by have := d.isLt; omega
  have e : DI.qOf x0 k (ix2 r d) = Scalar.select (IntOp.cmpi .eq (BitVec.ofNat 32 (d.val / 64)) (BitVec.ofNat 32 k.val))
      (k0_pay133 x0 (ix2 r d)) 0 := by
    unfold DI.qOf
    fin_cases k
    · show k0_pay134 x0 (ix2 r d) = _
      pointwise [k0_pay134]
      rw [Val.laneHead]
    · show k0_pay137 (iota .tc S1x128 32 [1] iota_S1x128_d1_w32) (k0_pay133 x0) 64#32 k0_pay135 k0_pay136 (ix2 r d) = _
      pointwise [k0_pay137, k0_pay135, k0_pay136]
      rw [Val.laneHead]
  rw [e, Val.eqWord _ _ hd k.isLt, scaled_isR h]
  unfold qR
  split <;> simp [Scalar.select]

end Query

section Out

variable {l a : Vec Ideal S1x1024x128 .f32} {xl : Vec Ideal S4x64 .f32} {xs : Vec Ideal S1x128 .f32} {y0 y1 : FVec Ideal S1024x128 .f32}

/-- The learned weight of the second map. -/
def lamE (xl : Vec Ideal S4x64 .f32) : EReal :=
  Ideal.exp (∑ d : Fin 64, xl (ix2 0 d) * xl (ix2 1 d)) - Ideal.exp (∑ d : Fin 64, xl (ix2 2 d) * xl (ix2 3 d)) + Ideal.ofBits .f32 0x3E4CCCCD#32

theorem out0_apply (r : Fin 1024) (x : Fin 128) : k0_pay144 l a (ix2 r x) = Ideal.div (a (ix3 0 r x)) (∑ y : Fin 128, l (ix3 0 r y)) := by
  pointwise [k0_pay144]

theorem out1_apply (r : Fin 1024) (x : Fin 128) : k0_pay145 xl l a (ix2 r x)
    = lamE xl * Ideal.div (a (ix3 0 r x)) (∑ y : Fin 128, l (ix3 0 r y)) := by
  unfold lamE
  pointwise [k0_pay145]

/-- A row's values over their root mean square, weighted. -/
def normE (y : Fin 128 → EReal) (w : EReal) (x : Fin 128) : EReal :=
  y x * Ideal.rsqrt (Ideal.div (∑ d : Fin 128, y d * y d) (Ideal.ofBits .f32 0x43000000#32) + Ideal.ofBits .f32 0x358637BD#32) * w
    * Ideal.ofBits .f32 0x3F4CCCCD#32

theorem norm_apply (r : Fin 1024) (x : Fin 128) : k0_pay1 y0 y1 xs (ix2 r x)
    = normE (fun d => y0 (ix2 r d) - y1 (ix2 r d)) (xs (ix2 0 x)) x := by
  unfold normE
  pointwise [k0_pay1]

end Out

end Cert.Proof.DV

end
-- ==== Proof.DV.Body.lean ====
/-
  What the attention kernel's body leaves at a grid point, over the reals: under either stabiliser the lane sums and the
  accumulator hold the visible keys, and their quotient is the softmax-weighted sum of the values.
-/
module

public import proofs.«01_k».proof.Proof.DV.Pay
public import proofs.«01_k».proof.Proof.Val.Out

@[expose] public section

set_option maxRecDepth 16384

noncomputable section

namespace Cert.Proof.DV

open Cert.Kernel7Ideal Cert.Kernel7Ideal.Gen
open Idealize.ShloMosaic
open Cert.Proof.Val (IsR coe_sum' coe_exp2 keyR)
open Cert.Proof.Diff (low putLow)
open scoped BigOperators

variable {x1 x2 : Vec Ideal S8192x128 .bf16} {f1 f2 : Fin 8192 → Fin 128 → ℝ} {q : FVec Ideal S1024x128 .bf16} {qr : Fin 1024 → Fin 128 → ℝ}

theorem krows_isR (h : IsR x1 f1) (n o : ℕ) : IsR (DI.krows n x1 o) (fun j d => keyR f1 (o + j.val) d) := fun j d => h _ _

/-- The score of row `r` against key `s`. -/
def scR (qr : Fin 1024 → Fin 128 → ℝ) (f1 : Fin 8192 → Fin 128 → ℝ) (r : Fin 1024) (s : ℕ) : ℝ := ∑ d : Fin 128, qr r d * keyR f1 s d

theorem dot_isR (hq : IsR q qr) (h1 : IsR x1 f1) (n o : ℕ) (r : Fin 1024) (j : Fin n) :
    ∑ d : Fin 128, q (ix2 r d) * DI.krows n x1 o (ix2 j d) = ((scR qr f1 r (o + j.val) : ℝ) : EReal) := by
  unfold scR
  rw [← coe_sum']
  exact Finset.sum_congr rfl fun d _ => by rw [hq, krows_isR h1 n o, EReal.coe_mul]

theorem one_eq (b : ℝ) : (1 : EReal) = (((2 : ℝ) ^ (b - b) : ℝ) : EReal) := by rw [sub_self, Real.rpow_zero]; rfl

theorem St.of_eq {s : ℕ → ℝ} {v : ℕ → Fin 128 → ℝ} {M : ℝ} {T : ℕ} {l a l' a' : Fin 128 → EReal} (h : St s v M T l a)
    (hl : ∀ x, l' x = l x) (ha : ∀ x, a' x = a x) : St s v M T l' a' := by
  obtain rfl := funext hl
  obtain rfl := funext ha
  exact h

section Fixed

variable (hq : IsR q qr) (h1 : IsR x1 f1) (h2 : IsR x2 f2) (b : ℝ) {B : ℕ}
include hq h1 h2

theorem fix_step (r : Fin 1024) {l a : Vec Ideal S1x1024x128 .f32}
    (h : St (scR qr f1 r) (keyR f2) b B (fun x => l (ix3 0 r x)) (fun x => a (ix3 0 r x))) :
    St (scR qr f1 r) (keyR f2) b (B + 1024) (fun x => DI.fixL (b : EReal) q (DI.krows 1024 x1 B) l (ix3 0 r x))
      (fun x => DI.fixA (b : EReal) q (DI.krows 1024 x1 B) (DI.krows 1024 x2 B) a (ix3 0 r x)) :=
  h.step 8 rfl (le_refl 1024) (fun u => k0_pay4 (F := Ideal) (b : EReal) q (DI.krows 1024 x1 B) (ix2 r u))
    (fun u => by rw [fixP_apply, dot_isR hq h1, ← EReal.coe_sub, coe_exp2, if_pos u.isLt])
    (fun u x => DI.krows 1024 x2 B (ix2 u x)) (fun u x => krows_isR h2 1024 B u x) 1 (one_eq b)
    (fun x => by rw [fixL_apply, one_mul]) (fun x => by rw [fixA_apply, one_mul])

theorem dg_step (r : Fin 1024) {l a : Vec Ideal S1x1024x128 .f32}
    (h : St (scR qr f1 r) (keyR f2) b B (fun x => l (ix3 0 r x)) (fun x => a (ix3 0 r x))) :
    St (scR qr f1 r) (keyR f2) b (B + min 512 (64 * (r.val / 64 + 1))) (fun x => DI.dgL (b : EReal) q (DI.krows 512 x1 B) l (ix3 0 r x))
      (fun x => DI.dgA (b : EReal) q (DI.krows 512 x1 B) (DI.krows 512 x2 B) a (ix3 0 r x)) :=
  h.step 4 rfl (by omega : min 512 (64 * (r.val / 64 + 1)) ≤ 512) (fun u => dgP (b : EReal) q (DI.krows 512 x1 B) (ix2 r u))
    (fun u => by
      rw [dgP_apply, dot_isR hq h1, exp2_mask]
      exact congrArg _ (if_congr (by have := u.isLt; omega) rfl rfl))
    (fun u x => DI.krows 512 x2 B (ix2 u x)) (fun u x => krows_isR h2 512 B u x) 1 (one_eq b)
    (fun x => by rw [dgL_apply, one_mul]) (fun x => by rw [dgA_apply, one_mul])

theorem dh_step (r : Fin 512) {l a : Vec Ideal S1x512x128 .f32}
    (h : St (scR qr f1 ⟨512 + r.val, by omega⟩) (keyR f2) b B (fun x => l (ix3 0 r x)) (fun x => a (ix3 0 r x))) :
    St (scR qr f1 ⟨512 + r.val, by omega⟩) (keyR f2) b (B + 64 * (r.val / 64 + 1)) (fun x => DI.dhL (b : EReal) q (DI.krows 512 x1 B) l (ix3 0 r x))
      (fun x => DI.dhA (b : EReal) q (DI.krows 512 x1 B) (DI.krows 512 x2 B) a (ix3 0 r x)) :=
  h.step 4 rfl (by omega : 64 * (r.val / 64 + 1) ≤ 512) (fun u => dhP (b : EReal) q (DI.krows 512 x1 B) (ix2 r u))
    (fun u => by
      refine (dhP_apply r u).trans ?_
      rw [dot_isR hq h1, exp2_mask]
      exact congrArg _ (if_congr (by omega) rfl rfl))
    (fun u x => DI.krows 512 x2 B (ix2 u x)) (fun u x => krows_isR h2 512 B u x) 1 (one_eq b)
    (fun x => by rw [dhL_apply, one_mul]) (fun x => by rw [dhA_apply, one_mul])

omit hq h1 h2 in
theorem putLow_hi (u : Vec Ideal S1x512x128 .f32) (w : Vec Ideal S1x1024x128 .f32) (r : Fin 512) (x : Fin 128) :
    putLow (n := 1024) (d := 128) 512 (n' := 512) rfl u w (ix3 0 ⟨512 + r.val, by omega⟩ x) = u (ix3 0 r x) := by
  exact (dif_pos (show 512 ≤ 512 + r.val by omega)).trans (congrArg (fun y => u (ix3 0 y x)) (Fin.ext (Nat.add_sub_cancel_left 512 r.val)))

omit hq h1 h2 in
theorem putLow_lo (u : Vec Ideal S1x512x128 .f32) (w : Vec Ideal S1x1024x128 .f32) (r : Fin 1024) (hr : r.val < 512) (x : Fin 128) :
    putLow (n := 1024) (d := 128) 512 (n' := 512) rfl u w (ix3 0 r x) = w (ix3 0 r x) := by
  exact dif_neg (show ¬ 512 ≤ r.val by omega)

theorem diag_step (n : ℕ) (r : Fin 1024) {l a : Vec Ideal S1x1024x128 .f32}
    (h : St (scR qr f1 r) (keyR f2) b (1024 * n) (fun x => l (ix3 0 r x)) (fun x => a (ix3 0 r x))) :
    St (scR qr f1 r) (keyR f2) b (1024 * n + 64 * (r.val / 64 + 1)) (fun x => DI.diagL (b : EReal) q x1 n l (ix3 0 r x))
      (fun x => DI.diagA (b : EReal) q x1 x2 n a (ix3 0 r x)) := by
  have hg := dg_step hq h1 h2 b r h
  unfold DI.diagL DI.diagA
  by_cases hr : r.val < 512
  · simp only [putLow_lo _ _ r hr]
    rw [show min 512 (64 * (r.val / 64 + 1)) = 64 * (r.val / 64 + 1) by omega] at hg
    exact hg
  · obtain ⟨r', rfl⟩ : ∃ r' : Fin 512, r = ⟨512 + r'.val, Nat.add_lt_add_left r'.isLt 512⟩ :=
      ⟨⟨r.val - 512, by omega⟩, Fin.ext (by show r.val = 512 + (r.val - 512); omega)⟩
    rw [show min 512 (64 * ((512 + r'.val) / 64 + 1)) = 512 by omega] at hg
    have hh := dh_step hq h1 h2 b (B := 1024 * n + 512) r'
      (l := low 512 (le_refl _) (DI.dgL (b : EReal) q (DI.krows 512 x1 (1024 * n)) l))
      (a := low 512 (le_refl _) (DI.dgA (b : EReal) q (DI.krows 512 x1 (1024 * n)) (DI.krows 512 x2 (1024 * n)) a)) hg
    rw [show 1024 * n + 512 + 64 * (r'.val / 64 + 1) = 1024 * n + 64 * ((512 + r'.val) / 64 + 1) by omega] at hh
    exact St.of_eq hh (fun x => putLow_hi _ _ r' x) (fun x => putLow_hi _ _ r' x)

end Fixed

section Running

variable (hq : IsR q qr) (h1 : IsR x1 f1) (h2 : IsR x2 f2) {B : ℕ}
include hq h1 h2

theorem on_step (r : Fin 1024) {m : Vec Ideal S1x1024x1 .f32} {l a : Vec Ideal S1x1024x128 .f32}
    (h : StO (scR qr f1 r) (keyR f2) (m (ix3 0 r 0)) B (fun x => l (ix3 0 r x)) (fun x => a (ix3 0 r x))) :
    StO (scR qr f1 r) (keyR f2) (DI.onM q (DI.krows 1024 x1 B) m (ix3 0 r 0)) (B + 1024) (fun x => DI.onL q (DI.krows 1024 x1 B) m l (ix3 0 r x))
      (fun x => DI.onA q (DI.krows 1024 x1 B) (DI.krows 1024 x2 B) m a (ix3 0 r x)) :=
  Or.inl (h.step 8 rfl (by omega : 0 < 1024) (le_refl 1024) (fun u => ∑ d : Fin 128, q (ix2 r d) * DI.krows 1024 x1 B (ix2 u d))
    (fun u => by rw [dot_isR hq h1, if_pos u.isLt]) (onM_apply r 0)
    (fun u x => DI.krows 1024 x2 B (ix2 u x)) (fun u x => krows_isR h2 1024 B u x)
    (fun x => by rw [onL_apply, onC_apply]; simp only [onP_apply]) (fun x => by rw [onA_apply, onC_apply]; simp only [onP_apply]))

theorem od_step (r : Fin 1024) {m : Vec Ideal S1x1024x1 .f32} {l a : Vec Ideal S1x1024x128 .f32}
    (h : StO (scR qr f1 r) (keyR f2) (m (ix3 0 r 0)) B (fun x => l (ix3 0 r x)) (fun x => a (ix3 0 r x))) :
    ∃ M : ℝ, St (scR qr f1 r) (keyR f2) M (B + 64 * (r.val / 64 + 1)) (fun x => DI.odL q (DI.krows 1024 x1 B) m l (ix3 0 r x))
      (fun x => DI.odA q (DI.krows 1024 x1 B) (DI.krows 1024 x2 B) m a (ix3 0 r x)) := by
  obtain ⟨M, -, hM⟩ := h.step (N := 1024) 8 rfl (by omega : 0 < 64 * (r.val / 64 + 1)) (by omega : 64 * (r.val / 64 + 1) ≤ 1024)
    (fun u => odSc q (DI.krows 1024 x1 B) (ix2 r u))
    (fun u => by
      refine (odSc_apply r u).trans ?_
      rw [dot_isR hq h1]
      exact if_congr (by have := u.isLt; omega) rfl rfl) (odV_apply r 0)
    (fun u x => DI.krows 1024 x2 B (ix2 u x)) (fun u x => krows_isR h2 1024 B u x)
    (l' := fun x => DI.odL q (DI.krows 1024 x1 B) m l (ix3 0 r x)) (a' := fun x => DI.odA q (DI.krows 1024 x1 B) (DI.krows 1024 x2 B) m a (ix3 0 r x))
    (fun x => by rw [odL_apply]; simp only [odS_apply]) (fun x => by rw [odA_apply]; simp only [odS_apply])
  exact ⟨M, hM⟩

end Running

variable {qq : Fin 2 → FVec Ideal S1024x128 .bf16} {qqr : Fin 2 → Fin 1024 → Fin 128 → ℝ}
  (hqq : ∀ k, IsR (qq k) (qqr k)) (h1 : IsR x1 f1) (h2 : IsR x2 f2)
include hqq h1 h2

theorem fixN_st (b : ℝ) (k : Fin 2) (r : Fin 1024) : ∀ n : ℕ,
    St (scR (qqr k) f1 r) (keyR f2) b (1024 * n) (fun x => (DI.fixN (b : EReal) qq x1 x2 DI.zeroLA DI.zeroLA n).1 k (ix3 0 r x))
      (fun x => (DI.fixN (b : EReal) qq x1 x2 DI.zeroLA DI.zeroLA n).2 k (ix3 0 r x))
  | 0 => St.zero b (fun x => zeroLA_apply k r x) (fun x => zeroLA_apply k r x)
  | n + 1 => fix_step (hqq k) h1 h2 b r (fixN_st b k r n)

theorem onN_st (k : Fin 2) (r : Fin 1024) : ∀ n : ℕ,
    StO (scR (qqr k) f1 r) (keyR f2) ((DI.onN qq x1 x2 DI.negM DI.zeroLA DI.zeroLA n).1 k (ix3 0 r 0)) (1024 * n)
      (fun x => (DI.onN qq x1 x2 DI.negM DI.zeroLA DI.zeroLA n).2.1 k (ix3 0 r x))
      (fun x => (DI.onN qq x1 x2 DI.negM DI.zeroLA DI.zeroLA n).2.2 k (ix3 0 r x))
  | 0 => Or.inr ⟨negM_apply k r, rfl, fun x => zeroLA_apply k r x, fun x => zeroLA_apply k r x⟩
  | n + 1 => on_step (hqq k) h1 h2 r (onN_st k r n)

/-- When every block is in, the state holds the visible keys, whichever branch the bound takes. -/
theorem end_st (b : ℝ) (n : ℕ) (k : Fin 2) (r : Fin 1024) : ∃ M : ℝ,
    St (scR (qqr k) f1 r) (keyR f2) M (1024 * n + 64 * (r.val / 64 + 1)) (fun x => (DI.endLA (b : EReal) qq x1 x2 n).1 k (ix3 0 r x))
      (fun x => (DI.endLA (b : EReal) qq x1 x2 n).2 k (ix3 0 r x)) := by
  unfold DI.endLA
  split
  · exact ⟨b, diag_step (hqq k) h1 h2 b n r (fixN_st hqq h1 h2 b k r n)⟩
  · exact od_step (hqq k) h1 h2 r (onN_st hqq h1 h2 k r n)

omit hqq h1 h2

/-- A map's score of a query row against key `s`. -/
def zR (f0 : Fin 1024 → Fin 128 → ℝ) (f1 : Fin 8192 → Fin 128 → ℝ) (k : Fin 2) (r : Fin 1024) (s : ℕ) : ℝ :=
  (∑ d : Fin 64, f0 r ⟨64 * k.val + d.val, by omega⟩ * keyR f1 s ⟨64 * k.val + d.val, by omega⟩) * (1 / 8)

theorem scR_eq (f0 : Fin 1024 → Fin 128 → ℝ) (k : Fin 2) (r : Fin 1024) :
    scR (qR f0 k) f1 r = fun s => zR f0 f1 k r s * (Real.log 2)⁻¹ := by
  funext s
  unfold scR qR zR
  simp only [ite_mul, zero_mul]
  rw [Val.head_sum (fun d => f0 r d * (1 / 8 * (Real.log 2)⁻¹) * keyR f1 s d) k.val k.isLt, mul_assoc, Finset.sum_mul]
  refine Finset.sum_congr rfl fun d _ => ?_
  ring

/-- A map's softmax-weighted values. -/
def mapR (z : ℕ → ℝ) (f2 : Fin 8192 → Fin 128 → ℝ) (T : ℕ) (d : Fin 128) : ℝ := ∑ t ∈ Finset.range T, sm z T t * keyR f2 t d

theorem bodyOut_apply {xb : Vec Ideal S1x1 .f32} {x0 : Vec Ideal S1024x128 .bf16} {f0 : Fin 1024 → Fin 128 → ℝ} (b : ℝ) (hb : xb (ix2 0 0) = (b : EReal))
    (h0 : IsR x0 f0) (h1 : IsR x1 f1) (h2 : IsR x2 f2) (xl : Vec Ideal S4x64 .f32) (xs : Vec Ideal S1x128 .f32) (n : ℕ) (r : Fin 1024) (x : Fin 128) :
    DI.bodyOut xb x0 x1 x2 xl xs n (ix2 r x)
      = normE (fun d => (mapR (zR f0 f1 0 r) f2 (1024 * n + 64 * (r.val / 64 + 1)) d : EReal)
          - lamE xl * (mapR (zR f0 f1 1 r) f2 (1024 * n + 64 * (r.val / 64 + 1)) d : EReal)) (xs (ix2 0 x)) x := by
  have hqq : ∀ k, IsR (DI.qs (DI.qOf x0 0) (DI.qOf x0 1) k) (qR f0 k) := fun k => by
    fin_cases k
    · exact qOf_isR h0 0
    · exact qOf_isR h0 1
  have hT : 0 < 1024 * n + 64 * (r.val / 64 + 1) := by omega
  have hm (k : Fin 2) (d : Fin 128) :
      Ideal.div ((DI.endLA (b : EReal) (DI.qs (DI.qOf x0 0) (DI.qOf x0 1)) x1 x2 n).2 k (ix3 0 r d))
        (∑ y : Fin 128, (DI.endLA (b : EReal) (DI.qs (DI.qOf x0 0) (DI.qOf x0 1)) x1 x2 n).1 k (ix3 0 r y))
      = (mapR (zR f0 f1 k r) f2 (1024 * n + 64 * (r.val / 64 + 1)) d : EReal) := by
    obtain ⟨M, hM⟩ := end_st hqq h1 h2 b n k r
    rw [scR_eq] at hM
    exact hM.ratio hT d
  have hb' : xb (ValueIdx.ix2 0 0) = (b : EReal) := hb
  unfold DI.bodyOut
  rw [hb', norm_apply]
  simp only [out0_apply, out1_apply, hm]

end Cert.Proof.DV

end
-- ==== Proof.DV.Ref.lean ====
/-
  The reference's operations read at an index.
-/
module

public import proofs.«01_k».proof.Proof.DV.RefDef
public import proofs.«01_k».proof.Proof.DV.Body
public import Idealize.ShloMosaic.Lib.Pointwise
public import Idealize.ShloMosaic.Lib.WordCmp
public import Idealize.ShloMosaic.Lib.IdealHost

@[expose] public section

set_option maxRecDepth 16384

noncomputable section

namespace Cert.Proof.DV

open Cert.Reference7Ideal Cert.Reference7Ideal.Gen
open Idealize.ShloMosaic
open scoped BigOperators

variable {xq xk : FVec Ideal S2x8192x512 .f32} {xp : FVec Ideal S2x8192x3072 .f32} {a1 b1 a2 b2 : FVec Ideal S64 .f32} {xs : FVec Ideal S128 .f32}

theorem dotRef_apply (b : Fin 2) (h : Fin 4) (k : Fin 2) (t s : Fin 8192) :
    dotRef xq xk (ix5 b h k t s) = (∑ d : Fin 64, xq (ix3 b t ⟨(h.val * 2 + k.val) * 64 + d.val, by omega⟩)
      * xk (ix3 b s ⟨(h.val * 2 + k.val) * 64 + d.val, by omega⟩)) * Ideal.ofBits .f32 0x3E000000#32 := by
  pointwise [dotRef]

theorem scOf_apply (V : IVec S8192x8192 1) (X : FVec Ideal S2x4x2x8192x8192 .f32) (b : Fin 2) (h : Fin 4) (k : Fin 2) (t s : Fin 8192) :
    scOf V X (ix5 b h k t s) = Scalar.select (V (ix2 t s)) (X (ix5 b h k t s)) ⊥ := by
  pointwise [scOf]
  exact congrArg _ bits_bot

theorem exOf_apply (X : FVec Ideal S2x4x2x8192x8192 .f32) (M : FVec Ideal S2x4x2x8192 .f32) (b : Fin 2) (h : Fin 4) (k : Fin 2) (t s : Fin 8192) :
    exOf X M (ix5 b h k t s) = Ideal.exp (X (ix5 b h k t s) - M (ix4 b h k t)) := by
  pointwise [exOf]

theorem pOf_apply (E : FVec Ideal S2x4x2x8192x8192 .f32) (b : Fin 2) (h : Fin 4) (k : Fin 2) (t s : Fin 8192) :
    pOf E (ix5 b h k t s) = Ideal.div (E (ix5 b h k t s)) (∑ u : Fin 8192, E (ix5 b h k t u)) := by
  pointwise [pOf]

theorem lamRef_apply : lamRef a1 b1 a2 b2 ix0 = Ideal.exp (∑ d : Fin 64, a1 (ix1 d) * b1 (ix1 d)) - Ideal.exp (∑ d : Fin 64, a2 (ix1 d) * b2 (ix1 d))
    + Ideal.ofBits .f32 0x3E4CCCCD#32 := by
  pointwise [lamRef]

theorem yOf_apply (W : FVec Ideal S2x4x8192x8192 .f32) (b : Fin 2) (h : Fin 4) (t : Fin 8192) (d : Fin 128) : yOf xp W (ix4 b h t d)
    = ∑ s : Fin 8192, W (ix4 b h t s) * xp (ix3 b s ⟨2560 + (h.val * 128 + d.val), by omega⟩) := by
  pointwise [yOf]

/-- A row's greatest does not depend on how the maximum is written. -/
theorem max_fold {n : ℕ} (m1 m2 o1 o2 : EReal → EReal → EReal) [Std.Commutative o1] [Std.Associative o1] [Std.Commutative o2] [Std.Associative o2]
    (hm : m1 = m2) (ho : o1 = o2) (b : EReal) (hb : b = ⊥) (f : Fin n → EReal) :
    m1 b (Finset.univ.fold o1 b f) = m2 ⊥ (Finset.univ.fold o2 ⊥ f) := by
  subst hm ho hb
  rfl

/-- The greatest of an array's last axis, at any sizes. -/
theorem max_row {n0 n1 n2 n3 n4 : ℕ} {u : Shape} (hr : (⟨5, ![n0, n1, n2, n3, n4]⟩ : Shape).ReducesTo [4] ⟨4, ![n0, n1, n2, n3]⟩)
    (X : FVec Ideal ⟨5, ![n0, n1, n2, n3, n4]⟩ .f32) (c : FVec Ideal u .f32) (hu : 0 < u.numel) (hc : ∀ i, c i = (⊥ : EReal)) (a : EReal) (ha : a = ⊥)
    (b : Fin n0) (h : Fin n1) (k : Fin n2) (t : Fin n3) :
    FloatOps.maximumf (F := Ideal) (φ := .f32) a (Host.reduce FloatOps.maximumf X c hr hu (ix4 b h k t))
      = (max : EReal → EReal → EReal) ⊥ (Finset.univ.fold (max : EReal → EReal → EReal) (⊥ : EReal) fun s : Fin n4 => (X (ix5 b h k t s) : EReal)) := by
  rw [Host.reduce_eq_fold, Shape.ReducesTo.fold_fiber_r5_a4, hc, ha]
  exact max_fold (FloatOps.maximumf (F := Ideal) (φ := .f32)) max (FloatOps.maximumf (F := Ideal) (φ := .f32)) max rfl rfl ⊥ rfl _

theorem mxOf_apply (X : FVec Ideal S2x4x2x8192x8192 .f32) (b : Fin 2) (h : Fin 4) (k : Fin 2) (t : Fin 8192) :
    (mxOf X (ix4 b h k t) : EReal) = (max : EReal → EReal → EReal) ⊥
      (Finset.univ.fold (max : EReal → EReal → EReal) (⊥ : EReal) fun s : Fin 8192 => (X (ix5 b h k t s) : EReal)) := by
  have key := max_row (n0 := 2) (n1 := 4) (n2 := 2) (n3 := 8192) (n4 := 8192) reducesTo_S2x4x2x8192x8192_S2x4x2x8192_d4 X (constant S_ .f32 0xFF800000#32) h_S_ (fun _ => bits_bot)
    (Ideal.ofBits .f32 0xFF800000#32) bits_bot b h k t
  have e : mxOf X (ix4 b h k t) = FloatOps.maximumf (F := Ideal) (φ := .f32) (Ideal.ofBits .f32 0xFF800000#32)
      (Host.reduce FloatOps.maximumf X (constant S_ .f32 0xFF800000#32) reducesTo_S2x4x2x8192x8192_S2x4x2x8192_d4 h_S_ (ix4 b h k t)) := by
    unfold mxOf
    rw [maximumf_apply]
    refine congrFun (congrArg _ ?_) _
    rfl
  exact e.trans key

theorem wOf_apply (P : FVec Ideal S2x4x2x8192x8192 .f32) (L : FVec Ideal S_ .f32) (b : Fin 2) (h : Fin 4) (t s : Fin 8192) :
    wOf P L (ix4 b h t s) = P (ix5 b h 0 t s) - L ix0 * P (ix5 b h 1 t s) := by
  pointwise [wOf]

theorem normOf_apply (Y : FVec Ideal S2x4x8192x128 .f32) (r : Fin 16384) (c : Fin 512) : normOf xs Y (ix2 r c)
    = normE (fun d => Y (ix4 ⟨r.val / 8192, by omega⟩ ⟨c.val / 128, by omega⟩ ⟨r.val % 8192, Nat.mod_lt _ (by decide)⟩ d))
      (xs (ix1 ⟨c.val % 128, Nat.mod_lt _ (by decide)⟩)) ⟨c.val % 128, Nat.mod_lt _ (by decide)⟩ := by
  unfold normE
  pointwise [normOf]

/-- A position's chunk, from the position's word. -/
def ckS (x : BitVec 32) : BitVec 32 :=
  Scalar.select (IntOp.andi (IntOp.cmpi .ne (if x = 0 then (0 : BitVec 32) else if x.msb = true then -1 else 1)
      (if (64#32 : BitVec 32) = 0 then (0 : BitVec 32) else if (64#32 : BitVec 32).msb = true then -1 else 1))
      (IntOp.cmpi .ne (IntOp.remsi .host x 64#32) 0#32))
    (IntOp.subi (IntOp.divsi .host x 64#32) 1#32) (IntOp.divsi .host x 64#32)

theorem ckS_at : ∀ (a : Fin 128) (b : Fin 64), ckS (BitVec.ofNat 32 (64 * a.val + b.val)) = BitVec.ofNat 32 a.val := by decide +kernel

theorem ckRef_apply (t : Fin 8192) : ckRef (ix1 t) = BitVec.ofNat 32 (t.val / 64) := by
  have e : ckRef (ix1 t) = ckS (BitVec.ofNat 32 t.val) := by
    pointwise [ckRef]
    rfl
  have h := ckS_at ⟨t.val / 64, by omega⟩ ⟨t.val % 64, Nat.mod_lt _ (by decide)⟩
  dsimp only at h
  rw [Nat.div_add_mod] at h
  rw [e, h]

theorem visRef_apply (t s : Fin 8192) : visRef (ix2 t s) = if s.val / 64 ≤ t.val / 64 then 1#1 else 0#1 := by
  have e : visRef (ix2 t s) = IntOp.cmpi .sle (ckRef (ix1 s)) (ckRef (ix1 t)) := by pointwise [visRef]
  have := s.isLt
  have := t.isLt
  rw [e, ckRef_apply, ckRef_apply, WordCmp.cmpi_sle_ofNat (by omega) (by omega)]
  split <;> simp [*]

end Cert.Proof.DV

end
-- ==== Proof.DV.RefVal.lean ====
/-
  The reference's result over the reals.
-/
module

public import proofs.«01_k».proof.Proof.DV.Ref

@[expose] public section

set_option maxRecDepth 16384

noncomputable section

namespace Cert.Proof.DV

open Cert.Reference7Ideal Cert.Reference7Ideal.Gen
open Idealize.ShloMosaic
open Cert.Proof.Val (coe_sum' ofBits_eighth)
open scoped BigOperators

variable {xq xk : FVec Ideal S2x8192x512 .f32} {xp : FVec Ideal S2x8192x3072 .f32} {a1 b1 a2 b2 : FVec Ideal S64 .f32} {xs : FVec Ideal S128 .f32}
variable {qx kx : Fin 2 → Fin 8192 → Fin 512 → ℝ} {px : Fin 2 → Fin 8192 → Fin 3072 → ℝ}

/-- The scaled score of a row against the key numbered `s`, of map `k`. -/
def zD (qx kx : Fin 2 → Fin 8192 → Fin 512 → ℝ) (b : Fin 2) (h : Fin 4) (k : Fin 2) (t : Fin 8192) (s : ℕ) : ℝ :=
  (∑ d : Fin 64, qx b t ⟨(h.val * 2 + k.val) * 64 + d.val, by omega⟩
    * kx b ⟨s % 8192, Nat.mod_lt _ (by decide)⟩ ⟨(h.val * 2 + k.val) * 64 + d.val, by omega⟩) * (1 / 8)

theorem mod_self (s : Fin 8192) : (⟨s.val % 8192, Nat.mod_lt _ (by decide)⟩ : Fin 8192) = s := Fin.ext (Nat.mod_eq_of_lt s.isLt)

theorem scRef_real (hq : ∀ b s d, xq (ix3 b s d) = ((qx b s d : ℝ) : EReal)) (hk : ∀ b s d, xk (ix3 b s d) = ((kx b s d : ℝ) : EReal))
    (b : Fin 2) (h : Fin 4) (k : Fin 2) (t s : Fin 8192) :
    scRef xq xk (ix5 b h k t s) = if s.val < 64 * (t.val / 64 + 1) then ((zD qx kx b h k t s.val : ℝ) : EReal) else ⊥ := by
  have e2 : dotRef xq xk (ix5 b h k t s) = ((zD qx kx b h k t s.val : ℝ) : EReal) := by
    unfold zD
    rw [mod_self, dotRef_apply, ofBits_eighth]
    simp only [hq, hk, ← EReal.coe_mul, coe_sum']
  refine (scOf_apply _ _ b h k t s).trans ?_
  rw [visRef_apply, e2]
  by_cases hs : s.val / 64 ≤ t.val / 64
  · rw [if_pos hs, if_pos (by omega)]
    rfl
  · rw [if_neg hs, if_neg (by omega)]
    rfl

theorem pRef_real (hq : ∀ b s d, xq (ix3 b s d) = ((qx b s d : ℝ) : EReal)) (hk : ∀ b s d, xk (ix3 b s d) = ((kx b s d : ℝ) : EReal))
    (b : Fin 2) (h : Fin 4) (k : Fin 2) (t s : Fin 8192) : pRef xq xk (ix5 b h k t s)
      = (((if s.val < 64 * (t.val / 64 + 1) then sm (zD qx kx b h k t) (64 * (t.val / 64 + 1)) s.val else 0 : ℝ)) : EReal) := by
  have ht := t.isLt
  refine (pOf_apply _ b h k t s).trans ?_
  simp only [exOf_apply]
  exact ref_softmax (by omega) (by omega) (zD qx kx b h k t) (fun u => scRef xq xk (ix5 b h k t u)) (fun u => scRef_real hq hk b h k t u) _
    (mxOf_apply _ b h k t) s

/-- A map's weighted values at a row. -/
def mapD (qx kx : Fin 2 → Fin 8192 → Fin 512 → ℝ) (px : Fin 2 → Fin 8192 → Fin 3072 → ℝ) (b : Fin 2) (h : Fin 4) (k : Fin 2) (t : Fin 8192) (d : Fin 128) : ℝ :=
  ∑ s ∈ Finset.range (64 * (t.val / 64 + 1)), sm (zD qx kx b h k t) (64 * (t.val / 64 + 1)) s
    * px b ⟨s % 8192, Nat.mod_lt _ (by decide)⟩ ⟨2560 + (h.val * 128 + d.val), by omega⟩

theorem yRef_real (hq : ∀ b s d, xq (ix3 b s d) = ((qx b s d : ℝ) : EReal)) (hk : ∀ b s d, xk (ix3 b s d) = ((kx b s d : ℝ) : EReal))
    (hp : ∀ b s d, xp (ix3 b s d) = ((px b s d : ℝ) : EReal)) (lam : ℝ) (hl : lamRef a1 b1 a2 b2 ix0 = (lam : EReal))
    (b : Fin 2) (h : Fin 4) (t : Fin 8192) (d : Fin 128) :
    yRef xq xk xp a1 b1 a2 b2 (ix4 b h t d) = (mapD qx kx px b h 0 t d : EReal) - (lam : EReal) * (mapD qx kx px b h 1 t d : EReal) := by
  have ht := t.isLt
  refine (yOf_apply _ b h t d).trans ?_
  simp only [wOf_apply, hl, pRef_real hq hk, hp, ← EReal.coe_mul, ← EReal.coe_sub, coe_sum']
  unfold mapD
  rw [← diff_sum (N := 8192) (by omega) (sm (zD qx kx b h 0 t) (64 * (t.val / 64 + 1))) (sm (zD qx kx b h 1 t) (64 * (t.val / 64 + 1)))
    (fun s => px b ⟨s % 8192, Nat.mod_lt _ (by decide)⟩ ⟨2560 + (h.val * 128 + d.val), by omega⟩) lam]
  refine congrArg _ (Finset.sum_congr rfl fun s _ => ?_)
  rw [mod_self]

/-- The second map's learned weight is a real number. -/
theorem lamRef_real {ar br cr dr : Fin 64 → ℝ} (h1 : ∀ d, a1 (ix1 d) = (ar d : EReal)) (h2 : ∀ d, b1 (ix1 d) = (br d : EReal))
    (h3 : ∀ d, a2 (ix1 d) = (cr d : EReal)) (h4 : ∀ d, b2 (ix1 d) = (dr d : EReal)) : ∃ lam : ℝ, lamRef a1 b1 a2 b2 ix0 = (lam : EReal) := by
  obtain ⟨w, hw⟩ : ∃ w : ℝ, Ideal.ofBits .f32 0x3E4CCCCD#32 = (w : EReal) := by
    simp [Ideal.ofBits, Ideal.ieee]
    exact ⟨_, rfl⟩
  rw [lamRef_apply, hw]
  simp only [h1, h2, h3, h4, ← EReal.coe_mul, coe_sum', Ideal.exp_coe, ← EReal.coe_sub, ← EReal.coe_add]
  exact ⟨_, rfl⟩

end Cert.Proof.DV

end
-- ==== Proof.DV.Out.lean ====
/-
  Differential attention's result array over the reals: each block the launch writes back is that block of the reference's value.
-/
module

public import proofs.«01_k».proof.Proof.DI.Run
public import proofs.«01_k».proof.Proof.DV.RefVal
public import Idealize.ShloMosaic.Lib.Pipeline.ValueKit.Geometry

@[expose] public section

set_option maxRecDepth 16384

noncomputable section

namespace Cert.Proof.DV

open Cert.Kernel7Ideal Cert.Kernel7Ideal.Gen
open Idealize.ShloMosaic Idealize.ShloMosaic.TcCoe
open Idealize.SL.Sem
open Cert.Proof.Val (IsR keyR)
open scoped BigOperators

variable {qx kx : Fin 2 → Fin 8192 → Fin 512 → ℝ} {px : Fin 2 → Fin 8192 → Fin 3072 → ℝ}

/-- The kernel's weighted values of a map at a block's row are the reference's at the row's place. -/
theorem map_eq (b : Fin 2) (h : Fin 4) (n : ℕ) (hn : n < 8) (i : Fin 1024) (k : Fin 2) (d : Fin 128) :
    mapR (zR (fun r e => qx b ⟨1024 * n + r.val, by omega⟩ ⟨h.val * 128 + e.val, by omega⟩) (fun s e => kx b s ⟨h.val * 128 + e.val, by omega⟩) k i)
      (fun s e => px b s ⟨2560 + (h.val * 128 + e.val), by omega⟩) (1024 * n + 64 * (i.val / 64 + 1)) d
      = mapD qx kx px b h k ⟨1024 * n + i.val, by omega⟩ d := by
  have hz : zR (fun r e => qx b ⟨1024 * n + r.val, by omega⟩ ⟨h.val * 128 + e.val, by omega⟩) (fun s e => kx b s ⟨h.val * 128 + e.val, by omega⟩) k i
      = zD qx kx b h k ⟨1024 * n + i.val, by omega⟩ := by
    funext s
    unfold zR zD keyR
    refine congrArg (· * (1 / 8 : ℝ)) (Finset.sum_congr rfl fun e _ => ?_)
    have ie : (⟨h.val * 128 + (64 * k.val + e.val), by omega⟩ : Fin 512) = ⟨(h.val * 2 + k.val) * 64 + e.val, by omega⟩ :=
      Fin.ext (by show h.val * 128 + (64 * k.val + e.val) = (h.val * 2 + k.val) * 64 + e.val; omega)
    simp only [ie]
  have hT : 1024 * n + 64 * (i.val / 64 + 1) = 64 * ((1024 * n + i.val) / 64 + 1) := by omega
  rw [hz, hT]
  rfl

variable (m : (ℓ : Loc nD τ sig) → Buf (Elt Ideal) ℓ)

theorem flat_apply (X : FVec Ideal S2x8192x512 .f32) (r : Fin 16384) (d : Fin 512) :
    shapeCast S16384x512 (truncf (F := Ideal) .bf16 X bitsLt_bf16_f32) shapeCasts_S2x8192x512_S16384x512 (ix2 r d)
      = X (ix3 ⟨r.val / 8192, by omega⟩ ⟨r.val % 8192, Nat.mod_lt _ (by decide)⟩ d) := by
  pointwise []

theorem V_v6 (c : Dev nD) (r : Fin 16384) (d : Fin 512) :
    DI.V m c main_v6 (ix2 r d) = (m ((c : Thread nD τ).loc main_arg0) : FVec Ideal S2x8192x512 .f32)
      (ix3 ⟨r.val / 8192, by omega⟩ ⟨r.val % 8192, Nat.mod_lt _ (by decide)⟩ d) := by
  have e : DI.V m c main_v6 = shapeCast S16384x512 (truncf (F := Ideal) .bf16 (m ((c : Thread nD τ).loc main_arg0)) bitsLt_bf16_f32)
      shapeCasts_S2x8192x512_S16384x512 := by
    unfold DI.V hostOps0
    after_results_simp <;> rfl
  rw [e]
  exact flat_apply _ r d

theorem V_v8 (c : Dev nD) (r : Fin 16384) (d : Fin 512) :
    DI.V m c main_v8 (ix2 r d) = (m ((c : Thread nD τ).loc main_arg1) : FVec Ideal S2x8192x512 .f32)
      (ix3 ⟨r.val / 8192, by omega⟩ ⟨r.val % 8192, Nat.mod_lt _ (by decide)⟩ d) := by
  have e : DI.V m c main_v8 = shapeCast S16384x512 (truncf (F := Ideal) .bf16 (m ((c : Thread nD τ).loc main_arg1)) bitsLt_bf16_f32)
      shapeCasts_S2x8192x512_S16384x512 := by
    unfold DI.V hostOps0
    after_results_simp <;> rfl
  rw [e]
  exact flat_apply _ r d

theorem V_v10 (c : Dev nD) (r : Fin 16384) (d : Fin 3072) :
    DI.V m c main_v10 (ix2 r d) = (m ((c : Thread nD τ).loc main_arg2) : FVec Ideal S2x8192x3072 .f32)
      (ix3 ⟨r.val / 8192, by omega⟩ ⟨r.val % 8192, Nat.mod_lt _ (by decide)⟩ d) := by
  have e : DI.V m c main_v10 = shapeCast S16384x3072 (truncf (F := Ideal) .bf16 (m ((c : Thread nD τ).loc main_arg2)) bitsLt_bf16_f32)
      shapeCasts_S2x8192x3072_S16384x3072 := by
    unfold DI.V hostOps0
    after_results_simp <;> rfl
  rw [e]
  exact Val.flat_apply _ r d

theorem V_v11 (c : Dev nD) (i : S1x1.Idx) : DI.V m c main_v11 i = (m ((c : Thread nD τ).loc main_arg3) : FVec Ideal S_ .f32) ix0 := by
  have e : DI.V m c main_v11 = shapeCast S1x1 (m ((c : Thread nD τ).loc main_arg3) : FVec Ideal S_ .f32) shapeCasts_S_S1x1 := by
    unfold DI.V hostOps0
    after_results_simp <;> rfl
  rw [e]
  exact congrArg (m ((c : Thread nD τ).loc main_arg3) : FVec Ideal S_ .f32) (funext fun a => a.elim0)

theorem V_v12 (c : Dev nD) (l : Fin 128) : DI.V m c main_v12 (ix2 0 l) = (m ((c : Thread nD τ).loc main_arg8) : FVec Ideal S128 .f32) (ix1 l) := by
  have e : DI.V m c main_v12 = shapeCast S1x128 (m ((c : Thread nD τ).loc main_arg8) : FVec Ideal S128 .f32) shapeCasts_S128_S1x128 := by
    unfold DI.V hostOps0
    after_results_simp <;> rfl
  rw [e]
  pointwise []

/-- The four vectors one under the other. -/
def stack (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

theorem V_v4 (c : Dev nD) : DI.V m c main_v4 = stack (m ((c : Thread nD τ).loc main_arg4)) (m ((c : Thread nD τ).loc main_arg5))
    (m ((c : Thread nD τ).loc main_arg6)) (m ((c : Thread nD τ).loc main_arg7)) := by
  unfold DI.V hostOps0
  after_results_simp <;> rfl

theorem stack_0 (a b c d : FVec Ideal S64 .f32) (e : Fin 64) : stack a b c d (ix2 0 e) = a (ix1 e) := by pointwise [stack]
theorem stack_1 (a b c d : FVec Ideal S64 .f32) (e : Fin 64) : stack a b c d (ix2 1 e) = b (ix1 e) := by pointwise [stack]
theorem stack_2 (a b c d : FVec Ideal S64 .f32) (e : Fin 64) : stack a b c d (ix2 2 e) = c (ix1 e) := by pointwise [stack]
theorem stack_3 (a b c d : FVec Ideal S64 .f32) (e : Fin 64) : stack a b c d (ix2 3 e) = d (ix1 e) := by pointwise [stack]

theorem lamE_stack (a b c d : FVec Ideal S64 .f32) : lamE (stack a b c d) = lamRef a b c d ix0 := by
  rw [lamRef_apply]
  unfold lamE
  simp only [stack_0, stack_1, stack_2, stack_3]

theorem idx1 : ∀ t : Fin cfg0.N, win0_1.index t = ![(grid0.coords t 0).val * 8 + (grid0.coords t 2).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![(grid0.coords t 0).val, 20 + (grid0.coords t 1).val] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![(grid0.coords t 0).val * 8 + (grid0.coords t 2).val, (grid0.coords t 1).val] :=
  (by decide +kernel : ∀ t : Fin grid0.N, _)
theorem coord_lt : ∀ t : Fin cfg0.N, (grid0.coords t 0).val < 2 ∧ (grid0.coords t 1).val < 4 ∧ (grid0.coords t 2).val < 8 :=
  (by decide +kernel : ∀ t : Fin grid0.N, _)

variable {m} {c : Dev nD}

/-- The arguments' elements as real numbers. -/
structure IsR7 (m : (ℓ : Loc nD τ sig) → Buf (Elt Ideal) ℓ) (c : Dev nD) (qx kx : Fin 2 → Fin 8192 → Fin 512 → ℝ)
    (px : Fin 2 → Fin 8192 → Fin 3072 → ℝ) (bd lam : ℝ) : Prop where
  hq : ∀ b s d, (m ((c : Thread nD τ).loc main_arg0) : FVec Ideal S2x8192x512 .f32) (ix3 b s d) = ((qx b s d : ℝ) : EReal)
  hk : ∀ b s d, (m ((c : Thread nD τ).loc main_arg1) : FVec Ideal S2x8192x512 .f32) (ix3 b s d) = ((kx b s d : ℝ) : EReal)
  hp : ∀ b s d, (m ((c : Thread nD τ).loc main_arg2) : FVec Ideal S2x8192x3072 .f32) (ix3 b s d) = ((px b s d : ℝ) : EReal)
  hb : (m ((c : Thread nD τ).loc main_arg3) : FVec Ideal S_ .f32) ix0 = ((bd : ℝ) : EReal)
  hl : lamRef (m ((c : Thread nD τ).loc main_arg4)) (m ((c : Thread nD τ).loc main_arg5)) (m ((c : Thread nD τ).loc main_arg6))
    (m ((c : Thread nD τ).loc main_arg7)) ix0 = ((lam : ℝ) : EReal)

variable {bd lam : ℝ}

theorem at_row (r : Fin 16384) (b : Fin 2) (s : Fin 8192) (hr : r.val = b.val * 8192 + s.val) :
    (⟨r.val / 8192, by omega⟩ : Fin 2) = b ∧ (⟨r.val % 8192, Nat.mod_lt _ (by decide)⟩ : Fin 8192) = s :=
  ⟨Fin.ext (by have := s.isLt; show r.val / 8192 = b.val; omega), Fin.ext (by have := s.isLt; show r.val % 8192 = s.val; omega)⟩

theorem blk1_isR (H : IsR7 m c qx kx px bd lam) (t : Fin cfg0.N) (b : Fin 2) (h : Fin 4) (n : ℕ) (hn : n < 8)
    (hb : (grid0.coords t 0).val = b.val) (hh : (grid0.coords t 1).val = h.val) (hn' : (grid0.coords t 2).val = n) :
    IsR (DI.blkAt m c 1 t : Vec Ideal S1024x128 .bf16) (fun r e => qx b ⟨1024 * n + r.val, by omega⟩ ⟨h.val * 128 + e.val, by omega⟩) := by
  intro r d
  obtain ⟨e1, e2⟩ := at_row ⟨(b.val * 8 + n) * 1024 + r.val, by omega⟩ b ⟨1024 * n + r.val, by omega⟩ (by dsimp only; omega)
  have ev := V_v6 m c ⟨(b.val * 8 + n) * 1024 + r.val, by omega⟩ ⟨h.val * 128 + d.val, by omega⟩
  rw [e1, e2, H.hq] at ev
  refine Eq.trans ?_ ev
  show DI.V m c main_v6 (((cfg0.win 1).blk t).view.emb (ix2 r d)) = _
  congr 1
  have e := idx1 t
  blk_ext [e]

theorem blk2_isR (H : IsR7 m c qx kx px bd lam) (t : Fin cfg0.N) (b : Fin 2) (h : Fin 4)
    (hb : (grid0.coords t 0).val = b.val) (hh : (grid0.coords t 1).val = h.val) :
    IsR (DI.blkAt m c 2 t : Vec Ideal S8192x128 .bf16) (fun s e => kx b s ⟨h.val * 128 + e.val, by omega⟩) := by
  intro r d
  obtain ⟨e1, e2⟩ := at_row ⟨b.val * 8192 + r.val, by omega⟩ b r rfl
  have ev := V_v8 m c ⟨b.val * 8192 + r.val, by omega⟩ ⟨h.val * 128 + d.val, by omega⟩
  rw [e1, e2, H.hk] at ev
  refine Eq.trans ?_ ev
  show DI.V m c main_v8 (((cfg0.win 2).blk t).view.emb (ix2 r d)) = _
  congr 1
  have e := idx2 t
  blk_ext [e]

theorem blk3_isR (H : IsR7 m c qx kx px bd lam) (t : Fin cfg0.N) (b : Fin 2) (h : Fin 4)
    (hb : (grid0.coords t 0).val = b.val) (hh : (grid0.coords t 1).val = h.val) :
    IsR (DI.blkAt m c 3 t : Vec Ideal S8192x128 .bf16) (fun s e => px b s ⟨2560 + (h.val * 128 + e.val), by omega⟩) := by
  intro r d
  obtain ⟨e1, e2⟩ := at_row ⟨b.val * 8192 + r.val, by omega⟩ b r rfl
  have ev := V_v10 m c ⟨b.val * 8192 + r.val, by omega⟩ ⟨2560 + (h.val * 128 + d.val), by omega⟩
  rw [e1, e2, H.hp] at ev
  refine Eq.trans ?_ ev
  show DI.V m c main_v10 (((cfg0.win 3).blk t).view.emb (ix2 r d)) = _
  congr 1
  have e := idx3 t
  blk_ext [e]

theorem blk0_eq (t : Fin cfg0.N) (i : S1x1.Idx) :
    (DI.blkAt m c 0 t : Vec Ideal S1x1 .f32) i = (m ((c : Thread nD τ).loc main_arg3) : FVec Ideal S_ .f32) ix0 :=
  V_v11 m c _

theorem blk4_eq (t : Fin cfg0.N) : (DI.blkAt m c 4 t : Vec Ideal S4x64 .f32) = stack (m ((c : Thread nD τ).loc main_arg4))
    (m ((c : Thread nD τ).loc main_arg5)) (m ((c : Thread nD τ).loc main_arg6)) (m ((c : Thread nD τ).loc main_arg7)) := by
  rw [← V_v4 m c]
  funext y
  obtain ⟨i, l, rfl⟩ : ∃ (i : Fin 4) (l : Fin 64), y = ix2 i l :=
    ⟨y 0, y 1, by funext a; match a with | ⟨0, _⟩ => rfl | ⟨1, _⟩ => rfl⟩
  show DI.V m c main_v4 (((cfg0.win 4).blk t).view.emb (ix2 i l)) = _
  congr 1
  have e := idx4 t
  blk_ext [e]

theorem blk5_eq (t : Fin cfg0.N) (l : Fin 128) :
    (DI.blkAt m c 5 t : Vec Ideal S1x128 .f32) (ix2 0 l) = (m ((c : Thread nD τ).loc main_arg8) : FVec Ideal S128 .f32) (ix1 l) := by
  refine Eq.trans ?_ (V_v12 m c l)
  show DI.V m c main_v12 (((cfg0.win 5).blk t).view.emb (ix2 0 l)) = _
  congr 1
  have e := idx5 t
  blk_ext [e]

/-- What a grid point leaves in the output's staging buffer is the reference's value at the block's place. -/
theorem out_point (H : IsR7 m c qx kx px bd lam) (t : Fin cfg0.N) (b : Fin 2) (h : Fin 4) (n : ℕ) (hn : n < 8)
    (hb : (grid0.coords t 0).val = b.val) (hh : (grid0.coords t 1).val = h.val) (hn' : (grid0.coords t 2).val = n) (i : Fin 1024) (l : Fin 128) :
    DI.outAt m c t (ix2 i l) = refOut (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) (m ((c : Thread nD τ).loc main_arg8))
      (ix2 (⟨(b.val * 8 + n) * 1024 + i.val, by omega⟩ : Fin 16384) (⟨h.val * 128 + l.val, by omega⟩ : Fin 512)) := by
  have hi := i.isLt
  have hl := l.isLt
  have e1 : DI.outAt m c t (ix2 i l) = _ := bodyOut_apply bd ((blk0_eq t _).trans H.hb) (blk1_isR H t b h n hn hb hh hn') (blk2_isR H t b h hb hh)
    (blk3_isR H t b h hb hh) (DI.blkAt m c 4 t) (DI.blkAt m c 5 t) (grid0.coords t 2).val i l
  have e2 := normOf_apply (xs := m ((c : Thread nD τ).loc main_arg8)) (yRef (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)))
    (⟨(b.val * 8 + n) * 1024 + i.val, by omega⟩ : Fin 16384) (⟨h.val * 128 + l.val, by omega⟩ : Fin 512)
  obtain ⟨i1, i2⟩ := at_row ⟨(b.val * 8 + n) * 1024 + i.val, by omega⟩ b ⟨1024 * n + i.val, by omega⟩ (by dsimp only; omega)
  have i3 : (⟨(h.val * 128 + l.val) / 128, by omega⟩ : Fin 4) = h := Fin.ext (by show (h.val * 128 + l.val) / 128 = h.val; omega)
  have i4 : (⟨(h.val * 128 + l.val) % 128, Nat.mod_lt _ (by decide)⟩ : Fin 128) = l := Fin.ext (by show (h.val * 128 + l.val) % 128 = l.val; omega)
  refine e1.trans (Eq.trans ?_ e2.symm)
  dsimp only at i1 i2 ⊢
  rw [i1, i2, i3, i4, hn']
  simp only [map_eq b h n hn i, yRef_real H.hq H.hk H.hp lam H.hl, blk5_eq, blk4_eq, lamE_stack, H.hl]

theorem covers : (win0_6 : Pipeline.Window sig grid0).Covers := by decide +kernel

/-- The result array at the launch's end. -/
theorem final (H : IsR7 m c qx kx px bd lam) :
    (DI.dats m 0 c).arrAt 6 cfg0.N = refOut (m ((c : Thread nD τ).loc main_arg0)) (m ((c : Thread nD τ).loc main_arg1))
      (m ((c : Thread nD τ).loc main_arg2)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (DI.dats m 0 c).arrAt_eq_of_covers 6 _ covers fun t hf y => ?_
  blk_simp
  rw [DI.after_6]
  obtain ⟨hb, hp, hn⟩ := coord_lt t
  obtain ⟨i, l, rfl⟩ : ∃ (i : Fin 1024) (l : Fin 128), y = ix2 i l :=
    ⟨y 0, y 1, by funext a; match a with | ⟨0, _⟩ => rfl | ⟨1, _⟩ => rfl⟩
  refine (out_point H t ⟨(grid0.coords t 0).val, hb⟩ ⟨(grid0.coords t 1).val, hp⟩ _ hn rfl rfl rfl i l).trans ?_
  congr 1
  have e := idx6 t
  blk_ext [e]

end Cert.Proof.DV

end
-- ==== Proof.DV.Pre.lean ====
/-
  The precondition of differential attention read back: every element it names is a real number.
-/
module

public import proofs.«01_k».proof.Proof.Gen.Pre_finite7
public import proofs.«01_k».proof.Proof.DV.Out
public import proofs.«01_k».proof.Proof.Val.Pre
public import Idealize.ShloMosaic.Lib.ReduceAll

@[expose] public section

noncomputable section

namespace Cert.Proof.DV

open Cert.Pre_finite7 Cert.Pre_finite7.Gen
open Idealize.ShloMosaic
open Cert.Proof.Val (real_of_olt)

theorem both (a b : BitVec 1) : IntOp.andi a b = 1#1 → a = 1#1 ∧ b = 1#1 := by revert a b; decide

theorem S_sub : Subsingleton S_.Idx := ⟨fun a b => funext fun k => k.elim0⟩

/-- An array all of whose absolute values compare below +∞ is an array of real numbers. -/
theorem real_of_all {s : Shape} {axes : List (Fin s.rank)} (X Y : FVec Ideal s .f32) (hY : ∀ i, Y i = Ideal.ofBits .f32 0x7F800000#32) (init : IVec S_ 1)
    (hr : s.ReducesTo axes S_) (h : Host.reduce IntOp.andi (cmpf .olt (Host.absf X) Y) init hr h_S_ ix0 = 1#1) (i : s.Idx) : ∃ r : ℝ, X i = (r : EReal) := by
  haveI := S_sub
  have := Host.reduce_andi_all _ _ _ _ (fun k => k.elim0) h i
  refine real_of_olt (X i) ?_
  rw [← hY i]
  exact this

/-- Where `finite7` holds, the arguments it names are arrays of real numbers. -/
theorem real_of_finite7 (q k : FVec Ideal S2x8192x512 .f32) (p : FVec Ideal S2x8192x3072 .f32) (bd : FVec Ideal S_ .f32) (a b c d : FVec Ideal S64 .f32)
    (s : FVec Ideal S128 .f32) (h : Cert.Pre_finite7.fn (F := Ideal) q k p bd a b c d s = fun _ => 1#1) :
    (∃ r : ℝ, bd ix0 = (r : EReal)) ∧ (∀ i, ∃ r : ℝ, q i = (r : EReal)) ∧ (∀ i, ∃ r : ℝ, k i = (r : EReal)) ∧ (∀ i, ∃ r : ℝ, p i = (r : EReal))
      ∧ (∀ i, ∃ r : ℝ, a i = (r : EReal)) ∧ (∀ i, ∃ r : ℝ, b i = (r : EReal)) ∧ (∀ i, ∃ r : ℝ, c i = (r : EReal)) ∧ (∀ i, ∃ r : ℝ, d i = (r : EReal)) := by
  obtain ⟨h, h8⟩ := both _ _ (congrFun h ix0)
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h1, h2⟩ := both _ _ h
  exact ⟨real_of_olt (bd ix0) h1, real_of_all q _ (fun _ => rfl) _ _ h2, real_of_all k _ (fun _ => rfl) _ _ h3, real_of_all p _ (fun _ => rfl) _ _ h4,
    real_of_all a _ (fun _ => rfl) _ _ h5, real_of_all b _ (fun _ => rfl) _ _ h6, real_of_all c _ (fun _ => rfl) _ _ h7, real_of_all d _ (fun _ => rfl) _ _ h8⟩

end Cert.Proof.DV

namespace Cert.Proof.DV

open Cert.Kernel7Ideal
open Idealize.ShloMosaic Idealize.ShloMosaic.TcCoe
open Idealize.SL.Sem

/-- Where `finite7` holds, the launch's arguments are real numbers. -/
theorem isR7_of_finite7 {m : (ℓ : Loc nD τ sig) → Buf (Elt Ideal) ℓ} {c : Dev nD}
    (h : Cert.Pre_finite7.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) = fun _ => 1#1) :
    ∃ qx kx px bd lam, IsR7 m c qx kx px bd lam := by
  obtain ⟨⟨bd, hb⟩, hq, hk, hp, h1, h2, h3, h4⟩ := real_of_finite7 _ _ _ _ _ _ _ _ _ h
  choose q hq using hq
  choose k hk using hk
  choose p hp using hp
  choose a ha using h1
  choose b hb' using h2
  choose e he using h3
  choose d hd using h4
  obtain ⟨lam, hl⟩ := lamRef_real (fun i => ha (ix1 i)) (fun i => hb' (ix1 i)) (fun i => he (ix1 i)) (fun i => hd (ix1 i))
  exact ⟨fun b s d => q (ix3 b s d), fun b s d => k (ix3 b s d), fun b s d => p (ix3 b s d), bd, lam,
    ⟨fun b s d => hq _, fun b s d => hk _, fun b s d => hp _, hb, hl⟩⟩

end Cert.Proof.DV

end
-- ==== Proof.lean ====
/- The claims: the frames from the two runs, the named constants' statements, and the algebraic claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.RunA
public import proofs.«01_k».proof.Proof.Gen.Kernel2Ideal.Frame.RunB
public import proofs.«01_k».proof.Proof.Gen.Kernel2Ideal.Frame.RunC
public import proofs.«01_k».proof.Proof.Gen.Kernel2Ideal.Frame.RunD
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Pre_finite7
public import proofs.«01_k».proof.Proof.KI.Run
public import proofs.«01_k».proof.Proof.KB.Run
public import proofs.«01_k».proof.Proof.Val.Pre
public import proofs.«01_k».proof.Proof.MoE.Same
public import proofs.«01_k».proof.Proof.MoE.Ref
public import proofs.«01_k».proof.Proof.Dense.Ffn
public import proofs.«01_k».proof.Proof.Dense.Proj
public import proofs.«01_k».proof.Proof.Dense.Out
public import proofs.«01_k».proof.Proof.DI.Same
public import proofs.«01_k».proof.Proof.DV.Pre

@[expose] public section

noncomputable section

namespace Cert.Proof

open Idealize.ShloMosaic Idealize.SL.Sem
open Cert.Proof.Val

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (Cert.ReferenceIdeal.Value.run m g)

theorem preserves : Cert.preserves_Kernel_KernelIdeal :=
  ⟨IdealRules.named_const.statement Cert.KernelIdeal.κ "scale_log2e" .f32 0x3E38AA3B#32 _ rfl,
    IdealRules.named_const.statement Cert.KernelIdeal.κ "log2e" .f32 0x3FB8AA3B#32 _ rfl,
    IdealRules.named_const.statement Cert.KernelIdeal.κ "zero_cost" .f32 0x43200000#32 _ rfl⟩

theorem algebraic : Cert.algebraic_KernelIdeal_ReferenceIdeal_pre_finite := by
  intro m g m' g' hpre hin
  refine ⟨fun c => refOut (m ((c.tc : Thread Cert.KernelIdeal.nD Cert.KernelIdeal.τ).loc Cert.KernelIdeal.main_arg0)), ?_, ?_⟩
  · refine (θ_run _ _ _).mono (fun r h c => ⟨?_, ?_⟩) (KI.run m g)
    · obtain ⟨xr, hx⟩ := real_of_finite _ (hpre c)
      exact ((h c).1 3).trans (final hx)
    · exact ((h c).2 Cert.KernelIdeal.main_arg0 (Pipeline.mem_restRefs_of Cert.KernelIdeal.main_arg0 (by decide)
        (show ∀ w : Fin 4, (Cert.KernelIdeal.spec0 w).arr.view.ref ≠ Cert.KernelIdeal.main_arg0 by decide))).trans (KI.V_arg m c)
  · refine (θ_run _ _ _).mono (fun r h c => ⟨?_, (h c).2⟩) (Cert.ReferenceIdeal.Value.run m' g')
    exact (h c).1.trans ((refOut_eq m' c).trans (congrArg refOut (hin c)))

theorem frame_reference2 : Cert.quiescent_Reference2Ideal := fun m g _ =>
  (θ_run _ _ _).mono (fun r h => ⟨fun c => (h c).2, sem_eq_zero_of_no_sems (by decide) r.2⟩) (Cert.Reference2Ideal.Value.run m g)

theorem algebraic2 : Cert.algebraic_Kernel2Ideal_Reference2Ideal := by
  intro m g m' g' _ hin
  refine ⟨fun _ => MoE.moe (MoE.endsOf (MoE.cntK m 0)) (MoE.argX m) (MoE.argG m) (MoE.argU m) (MoE.argD m), ?_, ?_⟩
  · refine (θ_run _ _ _).mono (fun r h c => ⟨?_, h.2.1 c⟩) (θ_run_and (MoE.run m g) (MoE.frame m g))
    obtain rfl : c = 0 := Subsingleton.elim _ _
    exact ((h.1 0).1 4).trans (MoE.final m (MoE.ok m))
  · refine (θ_run _ _ _).mono (fun r h c => ⟨?_, (h c).2⟩) (Cert.Reference2Ideal.Value.run m' g')
    obtain rfl : c = 0 := Subsingleton.elim _ _
    obtain ⟨h0, h1, h2, h3, h4⟩ := hin 0
    refine (h 0).1.trans ((MoE.out_eq _).trans ?_)
    exact MoE.moe_congr (congrArg (fun a => MoE.endsOf (subi (addi a (MoE.word8 512#32)) (MoE.word8 1#32))) h1) h0 h2 h3 h4

theorem frame_reference3 : Cert.quiescent_Reference3Ideal := fun m g _ =>
  (θ_run _ _ _).mono (fun r h => ⟨fun c => (h c).2, sem_eq_zero_of_no_sems (by decide) r.2⟩) (Cert.Reference3Ideal.Value.run m g)

theorem algebraic3 : Cert.algebraic_Kernel3Ideal_Reference3Ideal := by
  intro m g m' g' _ hin
  refine ⟨fun c => Dense.Ffn.ffn (Dense.Ffn.argX m c) (Dense.Ffn.argS m c) (Dense.Ffn.argG m c) (Dense.Ffn.argU m c) (Dense.Ffn.argD m c), ?_, ?_⟩
  · exact (θ_run _ _ _).mono (fun r h c => ⟨(h c).1.trans (Dense.Ffn.final m c), (h c).2⟩) (Cert.Kernel3Ideal.Value.run_blocks m g)
  · refine (θ_run _ _ _).mono (fun r h c => ⟨?_, (h c).2⟩) (Cert.Reference3Ideal.Value.run m' g')
    obtain ⟨h0, h1, h2, h3, h4⟩ := hin c
    exact (h c).1.trans ((Dense.Ffn.ref_eq _ _ _ _ _).trans (Dense.Ffn.ffn_congr h0 h1 h2 h3 h4))

theorem frame_reference4 : Cert.quiescent_Reference4Ideal := fun m g _ =>
  (θ_run _ _ _).mono (fun r h => ⟨fun c => (h c).2, sem_eq_zero_of_no_sems (by decide) r.2⟩) (Cert.Reference4Ideal.Value.run m g)

theorem algebraic4 : Cert.algebraic_Kernel4Ideal_Reference4Ideal := by
  intro m g m' g' _ hin
  refine ⟨fun c => Dense.Proj.proj (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)), ?_, ?_⟩
  · exact (θ_run _ _ _).mono (fun r h c => ⟨(h c).1.trans (Dense.Proj.final m c), (h c).2⟩) (Cert.Kernel4Ideal.Value.run_blocks m g)
  · refine (θ_run _ _ _).mono (fun r h c => ⟨?_, (h c).2⟩) (Cert.Reference4Ideal.Value.run m' g')
    obtain ⟨h0, h1, h2⟩ := hin c
    exact (h c).1.trans ((Dense.Proj.ref_eq _ _ _).trans (Dense.Proj.proj_congr h0 h1 h2))

theorem frame_reference5 : Cert.quiescent_Reference5Ideal := fun m g _ =>
  (θ_run _ _ _).mono (fun r h => ⟨fun c => (h c).2, sem_eq_zero_of_no_sems (by decide) r.2⟩) (Cert.Reference5Ideal.Value.run m g)

theorem algebraic5 : Cert.algebraic_Kernel5Ideal_Reference5Ideal := by
  intro m g m' g' _ hin
  refine ⟨fun c => Dense.Even.outp (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · exact (θ_run _ _ _).mono (fun r h c => ⟨(h c).1.trans (Dense.Even.final m c), (h c).2⟩) (Cert.Kernel5Ideal.Value.run_blocks m g)
  · refine (θ_run _ _ _).mono (fun r h c => ⟨?_, (h c).2⟩) (Cert.Reference5Ideal.Value.run m' g')
    obtain ⟨h0, h1, h2, h3⟩ := hin c
    exact (h c).1.trans ((Dense.Even.ref_eq _ _ _ _).trans (Dense.Even.outp_congr h0 h1 h2 h3))

theorem frame_reference6 : Cert.quiescent_Reference6Ideal := fun m g _ =>
  (θ_run _ _ _).mono (fun r h => ⟨fun c => (h c).2, sem_eq_zero_of_no_sems (by decide) r.2⟩) (Cert.Reference6Ideal.Value.run m g)

theorem algebraic6 : Cert.algebraic_Kernel6Ideal_Reference6Ideal := by
  intro m g m' g' _ hin
  refine ⟨fun c => Dense.Odd.outp (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2)), ?_, ?_⟩
  · exact (θ_run _ _ _).mono (fun r h c => ⟨(h c).1.trans (Dense.Odd.final m c), (h c).2⟩) (Cert.Kernel6Ideal.Value.run_blocks m g)
  · refine (θ_run _ _ _).mono (fun r h c => ⟨?_, (h c).2⟩) (Cert.Reference6Ideal.Value.run m' g')
    obtain ⟨h0, h1, h2⟩ := hin c
    exact (h c).1.trans ((Dense.Odd.ref_eq _ _ _).trans (Dense.Odd.outp_congr h0 h1 h2))

theorem frame_reference7 : Cert.quiescent_Reference7Ideal := fun m g _ =>
  (θ_run _ _ _).mono (fun r h => ⟨fun c => (h c).2, sem_eq_zero_of_no_sems (by decide) r.2⟩) (Cert.Reference7Ideal.Value.run m g)

theorem preserves7 : Cert.preserves_Kernel7_Kernel7Ideal :=
  IdealRules.named_const.statement Cert.Kernel7Ideal.κ "scale_log2e" .f32 0x3E38AA3B#32 _ rfl

theorem algebraic7 : Cert.algebraic_Kernel7Ideal_Reference7Ideal_pre_finite7 := by
  intro m g m' g' hpre hin
  refine ⟨fun c => DV.refOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))
    (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)), ?_, ?_⟩
  · refine (θ_run _ _ _).mono (fun r h c => ⟨?_, ?_⟩) (DI.run m g)
    · obtain ⟨qx, kx, px, bd, lam, H⟩ := DV.isR7_of_finite7 (hpre c)
      exact ((h c).1 6).trans (DV.final H)
    · have rest (b : Ref Cert.Kernel7Ideal.sig .tc) (hb : b ∈ [Cert.Kernel7Ideal.main_arg0, Cert.Kernel7Ideal.main_arg1, Cert.Kernel7Ideal.main_arg2, Cert.Kernel7Ideal.main_arg3, Cert.Kernel7Ideal.main_arg4, Cert.Kernel7Ideal.main_arg5, Cert.Kernel7Ideal.main_arg6, Cert.Kernel7Ideal.main_arg7, Cert.Kernel7Ideal.main_arg8])
          (h1 : b.isScoped = false) (h2 : ∀ w : Fin 7, (Cert.Kernel7Ideal.spec0 w).arr.view.ref ≠ b) :
          r.2.mem ((c.tc : Thread Cert.Kernel7Ideal.nD Cert.Kernel7Ideal.τ).loc b) = m ((c.tc : Thread Cert.Kernel7Ideal.nD Cert.Kernel7Ideal.τ).loc b) :=
        ((h c).2 b (Pipeline.mem_restRefs_of b h1 h2)).trans (DI.V_arg m c b hb)
      refine ⟨?_, ?_, ?_, ?_, ?_, ?_, ?_, ?_, ?_⟩
      all_goals exact rest _ (by decide) (by decide) (by decide)
  · refine (θ_run _ _ _).mono (fun r h c => ⟨?_, (h c).2⟩) (Cert.Reference7Ideal.Value.run m' g')
    obtain ⟨h0, h1, h2, _, h4, h5, h6, h7, h8⟩ := hin c
    refine (h c).1.trans ((DV.refOut_eq m' c).trans ?_)
    rw [h0, h1, h2, h4, h5, h6, h7, h8]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite7.Gen.facts,
  fun m g _ => KB.frame m g, fun m g _ => KI.frame m g, fun m g _ => KI.frame m g,
  fun m g _ => frame_reference m g, fun m g _ => frame_reference m g,
  MoE.frame_kernel2, fun m g _ => MoE.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  DI.frame_kernel7, fun m g _ => DI.frame m g, fun m g _ => DI.frame m g, frame_reference7, fun m g _ => frame_reference7 m g trivial,
  preserves, algebraic, trivial, algebraic2, trivial, algebraic3, trivial, algebraic4,
  trivial, algebraic5, trivial, algebraic6, preserves7, algebraic7⟩

end Cert.Proof

end
